-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S256x1024 : Shape := ⟨2, ![256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S256x1024 : S_.BroadcastsInDim S256x1024 (![] : Fin 0 → Fin S256x1024.rank)
  bcast_S_S1024x1024 : S_.BroadcastsInDim S1024x1024 (![] : Fin 0 → Fin S1024x1024.rank)
  bcast_S_S1x4096x32x128 : S_.BroadcastsInDim S1x4096x32x128 (![] : Fin 0 → Fin S1x4096x32x128.rank)

variable [Facts]

def fn {F : FTy → Type} [FloatOps F] (main_arg0 : FVec F S256x1024 .f32) (main_arg1 : FVec F S1024x1024 .f32) (main_arg2 : FVec F S1x4096x32x128 .f32) (main_arg3 : FVec F S1x4096x32x128 .f32) (main_arg4 : FVec F S1024x1024 .f32) : IVec S256x1024 1 × IVec S1024x1024 1 × IVec S1x4096x32x128 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x32x128 .f32 := Host.absf main_arg2
  let main_cst_1 : FVec F S_ .f32 := constant S_ .f32 0x7F800000#32
  let main_v7 : FVec F S1x4096x32x128 .f32 := broadcastInDim S1x4096x32x128 ![] bcast_S_S1x4096x32x128 main_cst_1
  let main_v8 : IVec S1x4096x32x128 1 := cmpf .olt main_v6 main_v7
  (main_v2, main_v5, main_v8)
-- ==== Pre_finite_scores_ReferenceIdeal.lean ====
abbrev S1024x1024 : Shape := ⟨2, ![1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1024x1024 : S_.BroadcastsInDim S1024x1024 (![] : Fin 0 → Fin S1024x1024.rank)
  bcast_S_S1024x4096 : S_.BroadcastsInDim S1024x4096 (![] : Fin 0 → Fin S1024x4096.rank)
  bcast_S_S1x4096x32x128 : S_.BroadcastsInDim S1x4096x32x128 (![] : Fin 0 → Fin S1x4096x32x128.rank)

variable [Facts]

def fn {F : FTy → Type} [FloatOps F] (main_arg0 : FVec F S1024x1024 .f32) (main_arg1 : FVec F S1024x4096 .f32) (main_arg2 : FVec F S1x4096x32x128 .f32) (main_arg3 : FVec F S1x4096x32x128 .f32) (main_arg4 : FVec F S4096x1024 .f32) : IVec S1024x1024 1 × IVec S1024x4096 1 × IVec S1x4096x32x128 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S1x4096x32x128 .f32 := Host.absf main_arg2
  let main_cst_1 : FVec F S_ .f32 := constant S_ .f32 0x7F800000#32
  let main_v7 : FVec F S1x4096x32x128 .f32 := broadcastInDim S1x4096x32x128 ![] bcast_S_S1x4096x32x128 main_cst_1
  let main_v8 : IVec S1x4096x32x128 1 := cmpf .olt main_v6 main_v7
  (main_v2, main_v5, main_v8)
-- ==== Kernel.lean ====
abbrev S256x1024 : Shape := ⟨2, ![256, 1024]⟩
abbrev S1024x1024 : Shape := ⟨2, ![1024, 1024]⟩
abbrev S1x4096x32x128 : Shape := ⟨4, ![1, 4096, 32, 128]⟩
abbrev S2x256x1024 : Shape := ⟨3, ![2, 256, 1024]⟩
abbrev S2x4096x128 : Shape := ⟨3, ![2, 4096, 128]⟩
abbrev S8x4096x128 : Shape := ⟨3, ![8, 4096, 128]⟩
abbrev S2 : Shape := ⟨1, ![2]⟩
abbrev S_ : Shape := ⟨0, ![]⟩
abbrev S3 : Shape := ⟨1, ![3]⟩
abbrev S1 : Shape := ⟨1, ![1]⟩
abbrev S1x4096x128 : Shape := ⟨3, ![1, 4096, 128]⟩
abbrev S4096x128 : Shape := ⟨2, ![4096, 128]⟩
abbrev S1x4096x1x128 : Shape := ⟨4, ![1, 4096, 1, 128]⟩
abbrev S1x256x1024 : Shape := ⟨3, ![1, 256, 1024]⟩
abbrev S256x512 : Shape := ⟨2, ![256, 512]⟩
abbrev S256x128 : Shape := ⟨2, ![256, 128]⟩
abbrev S256x1 : Shape := ⟨2, ![256, 1]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩
abbrev S256 : Shape := ⟨1, ![256]⟩
abbrev S32x128 : Shape := ⟨2, ![32, 128]⟩
abbrev S32x4096 : Shape := ⟨2, ![32, 4096]⟩
abbrev S32 : Shape := ⟨1, ![32]⟩
abbrev S32x1 : Shape := ⟨2, ![32, 1]⟩
abbrev S128x1024 : Shape := ⟨2, ![128, 1024]⟩
abbrev S32x1024 : Shape := ⟨2, ![32, 1024]⟩

abbrev nBuf : Space → Nat
  | .hbm => 6
  | .vmem => 22
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1x4096x32x128, .f32⟩
  | .hbm, ⟨3, _⟩ => ⟨S1x4096x32x128, .f32⟩
  | .hbm, ⟨4, _⟩ => ⟨S1024x1024, .f32⟩
  | .hbm, ⟨5, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .bf16⟩
  | .local _ .vmem, ⟨5, _⟩ => ⟨S2x256x1024, .bf16⟩
  | .local _ .vmem, ⟨6, _⟩ => ⟨S256x1024, .bf16⟩
  | .local _ .vmem, ⟨7, _⟩ => ⟨S1024x1024, .bf16⟩
  | .local _ .vmem, ⟨8, _⟩ => ⟨S2x4096x128, .f32⟩
  | .local _ .vmem, ⟨9, _⟩ => ⟨S2x4096x128, .f32⟩
  | .local _ .vmem, ⟨10, _⟩ => ⟨S8x4096x128, .bf16⟩
  | .local _ .vmem, ⟨11, _⟩ => ⟨S8x4096x128, .bf16⟩
  | .local _ .vmem, ⟨12, _⟩ => ⟨S1024x1024, .bf16⟩
  | .local _ .vmem, ⟨13, _⟩ => ⟨S1024x1024, .bf16⟩
  | .local _ .vmem, ⟨14, _⟩ => ⟨S256x1024, .bf16⟩
  | .local _ .vmem, ⟨15, _⟩ => ⟨S1024x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_scratch13 : Ref sig .tc := ⟨.vmem, 17, rfl⟩
abbrev cc0_scratch14 : Ref sig .tc := ⟨.vmem, 18, rfl⟩
abbrev cc0_scratch15 : Ref sig .tc := ⟨.vmem, 19, rfl⟩
abbrev cc0_scratch16 : Ref sig .tc := ⟨.vmem, 20, rfl⟩
abbrev cc0_scratch17 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32_12 : BitVec 32) : Fin 4 → Nat :=
  let c0_i32_14 : BitVec 32 := 0#32
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v25 : BitVec 32 := Scalar.muli v2 c8_i32
  let v26 : BitVec 32 := Scalar.addi v25 c0_i32_12
  let c0_i32_20 : BitVec 32 := 0#32
  ![0, 0, v26.toNat, 0]
def k0_dev1 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_56 : BitVec 32 := 1#32
  let v73 : BitVec 32 := Scalar.muli v24 c1_i32_56
  let v74 : BitVec 32 := Scalar.addi c0_i32_57 v73
  v74.toNat
def k0_dev2 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v75 : BitVec 32 := Scalar.muli v13 c1_i32_59
  let v76 : BitVec 32 := Scalar.addi c0_i32_60 v75
  v76.toNat
def k0_dev3 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_71 : BitVec 32 := 1#32
  let v88 : BitVec 32 := Scalar.muli v13 c1_i32_71
  let v89 : BitVec 32 := Scalar.addi c0_i32_72 v88
  v89.toNat
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_75 : BitVec 32 := 1#32
  let v96 : BitVec 32 := Scalar.muli v24 c1_i32_75
  let v97 : BitVec 32 := Scalar.addi c0_i32_76 v96
  v97.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v104 : BitVec 32 := Scalar.muli v2 c256_i32
  let v105 : Index := Scalar.indexCast v104
  let c0_82 : Index := 0#32
  ![v105.toNat, 0]
def k0_dev5 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_388 : BitVec 32 := 1#32
  let v391 : BitVec 32 := Scalar.muli v13 c1_i32_388
  let v392 : BitVec 32 := Scalar.addi c0_i32_389 v391
  v392.toNat
def k0_off3 (d0 : Dev nD) (c3_i32_394 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_408 : BitVec 32 := 256#32
  let v419 : BitVec 32 := Scalar.muli v411 c256_i32_408
  let v420 : Index := Scalar.indexCast v419
  let c0_409 : Index := 0#32
  ![v420.toNat, 0]
def k0_mult1 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_394 : BitVec 32 := 3#32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_410 : BitVec 32 := 256#32
  let v424 : BitVec 32 := Scalar.muli v411 c256_i32_410
  let c128_i32 : BitVec 32 := 128#32
  let v425 : BitVec 32 := Scalar.subi v424 c128_i32
  let c0_i32_411 : BitVec 32 := 0#32
  let v426 : BitVec 32 := Scalar.maxsi v425 c0_i32_411
  v426
def k0_off4 (d0 : Dev nD) (c3_i32_394 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_412 : BitVec 32 := 256#32
  let v428 : BitVec 32 := Scalar.muli v411 c256_i32_412
  let v464 : Index := Scalar.indexCast v428
  let c0_422 : Index := 0#32
  ![v464.toNat, 0]
def k0_off5 (d0 : Dev nD) (c3_i32_394 : BitVec 32) : Fin 3 → Nat :=
  let c0_423 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_410 : BitVec 32 := 256#32
  let v424 : BitVec 32 := Scalar.muli v411 c256_i32_410
  let c128_i32 : BitVec 32 := 128#32
  let v425 : BitVec 32 := Scalar.subi v424 c128_i32
  let c0_i32_411 : BitVec 32 := 0#32
  let v426 : BitVec 32 := Scalar.maxsi v425 c0_i32_411
  let v427 : BitVec 32 := v426
  let v466 : Index := Scalar.indexCast v427
  let c0_424 : Index := 0#32
  ![0, v466.toNat, 0]
def k0_off6 (d0 : Dev nD) (c3_i32_394 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_412 : BitVec 32 := 256#32
  let v428 : BitVec 32 := Scalar.muli v411 c256_i32_412
  let v508 : Index := Scalar.indexCast v428
  let c128 : Index := 128#32
  ![v508.toNat, 128]
def k0_off7 (d0 : Dev nD) (c3_i32_394 : BitVec 32) : Fin 3 → Nat :=
  let c1_443 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_410 : BitVec 32 := 256#32
  let v424 : BitVec 32 := Scalar.muli v411 c256_i32_410
  let c128_i32 : BitVec 32 := 128#32
  let v425 : BitVec 32 := Scalar.subi v424 c128_i32
  let c0_i32_411 : BitVec 32 := 0#32
  let v426 : BitVec 32 := Scalar.maxsi v425 c0_i32_411
  let v427 : BitVec 32 := v426
  let v510 : Index := Scalar.indexCast v427
  let c0_444 : Index := 0#32
  ![1, v510.toNat, 0]
def k0_off8 (d0 : Dev nD) (c3_i32_394 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_412 : BitVec 32 := 256#32
  let v428 : BitVec 32 := Scalar.muli v411 c256_i32_412
  let v552 : Index := Scalar.indexCast v428
  let c256 : Index := 256#32
  ![v552.toNat, 256]
def k0_off9 (d0 : Dev nD) (c3_i32_394 : BitVec 32) : Fin 3 → Nat :=
  let c2_463 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_410 : BitVec 32 := 256#32
  let v424 : BitVec 32 := Scalar.muli v411 c256_i32_410
  let c128_i32 : BitVec 32 := 128#32
  let v425 : BitVec 32 := Scalar.subi v424 c128_i32
  let c0_i32_411 : BitVec 32 := 0#32
  let v426 : BitVec 32 := Scalar.maxsi v425 c0_i32_411
  let v427 : BitVec 32 := v426
  let v554 : Index := Scalar.indexCast v427
  let c0_464 : Index := 0#32
  ![2, v554.toNat, 0]
def k0_off10 (d0 : Dev nD) (c3_i32_394 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_412 : BitVec 32 := 256#32
  let v428 : BitVec 32 := Scalar.muli v411 c256_i32_412
  let v596 : Index := Scalar.indexCast v428
  let c384 : Index := 384#32
  ![v596.toNat, 384]
def k0_off11 (d0 : Dev nD) (c3_i32_394 : BitVec 32) : Fin 3 → Nat :=
  let c3_483 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_410 : BitVec 32 := 256#32
  let v424 : BitVec 32 := Scalar.muli v411 c256_i32_410
  let c128_i32 : BitVec 32 := 128#32
  let v425 : BitVec 32 := Scalar.subi v424 c128_i32
  let c0_i32_411 : BitVec 32 := 0#32
  let v426 : BitVec 32 := Scalar.maxsi v425 c0_i32_411
  let v427 : BitVec 32 := v426
  let v598 : Index := Scalar.indexCast v427
  let c0_484 : Index := 0#32
  ![3, v598.toNat, 0]
def k0_off12 (d0 : Dev nD) (c3_i32_394 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_412 : BitVec 32 := 256#32
  let v428 : BitVec 32 := Scalar.muli v411 c256_i32_412
  let v640 : Index := Scalar.indexCast v428
  let c512 : Index := 512#32
  ![v640.toNat, 512]
def k0_off13 (d0 : Dev nD) (c3_i32_394 : BitVec 32) : Fin 3 → Nat :=
  let c4_503 : Index := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_410 : BitVec 32 := 256#32
  let v424 : BitVec 32 := Scalar.muli v411 c256_i32_410
  let c128_i32 : BitVec 32 := 128#32
  let v425 : BitVec 32 := Scalar.subi v424 c128_i32
  let c0_i32_411 : BitVec 32 := 0#32
  let v426 : BitVec 32 := Scalar.maxsi v425 c0_i32_411
  let v427 : BitVec 32 := v426
  let v642 : Index := Scalar.indexCast v427
  let c0_504 : Index := 0#32
  ![4, v642.toNat, 0]
def k0_off14 (d0 : Dev nD) (c3_i32_394 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_412 : BitVec 32 := 256#32
  let v428 : BitVec 32 := Scalar.muli v411 c256_i32_412
  let v684 : Index := Scalar.indexCast v428
  let c640 : Index := 640#32
  ![v684.toNat, 640]
def k0_off15 (d0 : Dev nD) (c3_i32_394 : BitVec 32) : Fin 3 → Nat :=
  let c5_523 : Index := 5#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_410 : BitVec 32 := 256#32
  let v424 : BitVec 32 := Scalar.muli v411 c256_i32_410
  let c128_i32 : BitVec 32 := 128#32
  let v425 : BitVec 32 := Scalar.subi v424 c128_i32
  let c0_i32_411 : BitVec 32 := 0#32
  let v426 : BitVec 32 := Scalar.maxsi v425 c0_i32_411
  let v427 : BitVec 32 := v426
  let v686 : Index := Scalar.indexCast v427
  let c0_524 : Index := 0#32
  ![5, v686.toNat, 0]
def k0_off16 (d0 : Dev nD) (c3_i32_394 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_412 : BitVec 32 := 256#32
  let v428 : BitVec 32 := Scalar.muli v411 c256_i32_412
  let v728 : Index := Scalar.indexCast v428
  let c768 : Index := 768#32
  ![v728.toNat, 768]
def k0_off17 (d0 : Dev nD) (c3_i32_394 : BitVec 32) : Fin 3 → Nat :=
  let c6_543 : Index := 6#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_410 : BitVec 32 := 256#32
  let v424 : BitVec 32 := Scalar.muli v411 c256_i32_410
  let c128_i32 : BitVec 32 := 128#32
  let v425 : BitVec 32 := Scalar.subi v424 c128_i32
  let c0_i32_411 : BitVec 32 := 0#32
  let v426 : BitVec 32 := Scalar.maxsi v425 c0_i32_411
  let v427 : BitVec 32 := v426
  let v730 : Index := Scalar.indexCast v427
  let c0_544 : Index := 0#32
  ![6, v730.toNat, 0]
def k0_off18 (d0 : Dev nD) (c3_i32_394 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_412 : BitVec 32 := 256#32
  let v428 : BitVec 32 := Scalar.muli v411 c256_i32_412
  let v772 : Index := Scalar.indexCast v428
  let c896 : Index := 896#32
  ![v772.toNat, 896]
def k0_off19 (d0 : Dev nD) (c3_i32_394 : BitVec 32) : Fin 3 → Nat :=
  let c7_563 : Index := 7#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c3_i32_394
  let c4_i32_395 : BitVec 32 := 4#32
  let c0_i32_396 : BitVec 32 := 0#32
  let v402 : BitVec 1 := Scalar.cmpi .eq c4_i32_395 c0_i32_396
  let c1_i32_397 : BitVec 32 := 1#32
  let v403 : BitVec 32 := Scalar.select v402 c1_i32_397 c4_i32_395
  let v404 : BitVec 32 := Scalar.remsi v401 v403
  let c0_i32_399 : BitVec 32 := 0#32
  let v406 : BitVec 1 := Scalar.cmpi .slt v404 c0_i32_399
  let c0_i32_400 : BitVec 32 := 0#32
  let v407 : BitVec 1 := Scalar.cmpi .slt v403 c0_i32_400
  let v408 : BitVec 1 := Scalar.xori v406 v407
  let c0_i32_398 : BitVec 32 := 0#32
  let v405 : BitVec 1 := Scalar.cmpi .ne v404 c0_i32_398
  let v409 : BitVec 1 := Scalar.andi v408 v405
  let v410 : BitVec 32 := Scalar.addi v404 v403
  let v411 : BitVec 32 := Scalar.select v409 v410 v404
  let c256_i32_410 : BitVec 32 := 256#32
  let v424 : BitVec 32 := Scalar.muli v411 c256_i32_410
  let c128_i32 : BitVec 32 := 128#32
  let v425 : BitVec 32 := Scalar.subi v424 c128_i32
  let c0_i32_411 : BitVec 32 := 0#32
  let v426 : BitVec 32 := Scalar.maxsi v425 c0_i32_411
  let v427 : BitVec 32 := v426
  let v774 : Index := Scalar.indexCast v427
  let c0_564 : Index := 0#32
  ![7, v774.toNat, 0]
def k0_dev6 (d0 : Dev nD) : Nat :=
  let c0_i32_599 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_598 : BitVec 32 := 1#32
  let v834 : BitVec 32 := Scalar.muli v24 c1_i32_598
  let v835 : BitVec 32 := Scalar.addi c0_i32_599 v834
  v835.toNat
def k0_mult2 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_602 : BitVec 32 := 1#32
  let v842 : BitVec 32 := Scalar.addi v2 c1_i32_602
  let c4_i32_603 : BitVec 32 := 4#32
  let c0_i32_604 : BitVec 32 := 0#32
  let v843 : BitVec 1 := Scalar.cmpi .eq c4_i32_603 c0_i32_604
  let c1_i32_605 : BitVec 32 := 1#32
  let v844 : BitVec 32 := Scalar.select v843 c1_i32_605 c4_i32_603
  let v845 : BitVec 32 := Scalar.remsi v842 v844
  let c0_i32_607 : BitVec 32 := 0#32
  let v847 : BitVec 1 := Scalar.cmpi .slt v845 c0_i32_607
  let c0_i32_608 : BitVec 32 := 0#32
  let v848 : BitVec 1 := Scalar.cmpi .slt v844 c0_i32_608
  let v849 : BitVec 1 := Scalar.xori v847 v848
  let c0_i32_606 : BitVec 32 := 0#32
  let v846 : BitVec 1 := Scalar.cmpi .ne v845 c0_i32_606
  let v850 : BitVec 1 := Scalar.andi v849 v846
  let v851 : BitVec 32 := Scalar.addi v845 v844
  let v852 : BitVec 32 := Scalar.select v850 v851 v845
  let c256_i32_617 : BitVec 32 := 256#32
  let v864 : BitVec 32 := Scalar.muli v852 c256_i32_617
  let c128_i32_618 : BitVec 32 := 128#32
  let v865 : BitVec 32 := Scalar.subi v864 c128_i32_618
  let c0_i32_619 : BitVec 32 := 0#32
  let v866 : BitVec 32 := Scalar.maxsi v865 c0_i32_619
  v866
def k0_dev7 (d0 : Dev nD) : Nat :=
  let c0_i32_815 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_814 : BitVec 32 := 1#32
  let v1274 : BitVec 32 := Scalar.muli v13 c1_i32_814
  let v1275 : BitVec 32 := Scalar.addi c0_i32_815 v1274
  v1275.toNat
def k0_mult3 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_826 : BitVec 32 := 2#32
  let v1288 : BitVec 32 := Scalar.addi v2 c2_i32_826
  let c4_i32_827 : BitVec 32 := 4#32
  let c0_i32_828 : BitVec 32 := 0#32
  let v1289 : BitVec 1 := Scalar.cmpi .eq c4_i32_827 c0_i32_828
  let c1_i32_829 : BitVec 32 := 1#32
  let v1290 : BitVec 32 := Scalar.select v1289 c1_i32_829 c4_i32_827
  let v1291 : BitVec 32 := Scalar.remsi v1288 v1290
  let c0_i32_831 : BitVec 32 := 0#32
  let v1293 : BitVec 1 := Scalar.cmpi .slt v1291 c0_i32_831
  let c0_i32_832 : BitVec 32 := 0#32
  let v1294 : BitVec 1 := Scalar.cmpi .slt v1290 c0_i32_832
  let v1295 : BitVec 1 := Scalar.xori v1293 v1294
  let c0_i32_830 : BitVec 32 := 0#32
  let v1292 : BitVec 1 := Scalar.cmpi .ne v1291 c0_i32_830
  let v1296 : BitVec 1 := Scalar.andi v1295 v1292
  let v1297 : BitVec 32 := Scalar.addi v1291 v1290
  let v1298 : BitVec 32 := Scalar.select v1296 v1297 v1291
  let c256_i32_842 : BitVec 32 := 256#32
  let v1311 : BitVec 32 := Scalar.muli v1298 c256_i32_842
  let c128_i32_843 : BitVec 32 := 128#32
  let v1312 : BitVec 32 := Scalar.subi v1311 c128_i32_843
  let c0_i32_844 : BitVec 32 := 0#32
  let v1313 : BitVec 32 := Scalar.maxsi v1312 c0_i32_844
  v1313
def k0_dev8 (d0 : Dev nD) : Nat :=
  let c0_i32_1040 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_61 : BitVec 32 := 2#32
  let v77 : BitVec 32 := Scalar.addi v2 c2_i32_61
  let c4_i32_62 : BitVec 32 := 4#32
  let c0_i32_63 : BitVec 32 := 0#32
  let v78 : BitVec 1 := Scalar.cmpi .eq c4_i32_62 c0_i32_63
  let c1_i32_64 : BitVec 32 := 1#32
  let v79 : BitVec 32 := Scalar.select v78 c1_i32_64 c4_i32_62
  let v80 : BitVec 32 := Scalar.remsi v77 v79
  let c0_i32_66 : BitVec 32 := 0#32
  let v82 : BitVec 1 := Scalar.cmpi .slt v80 c0_i32_66
  let c0_i32_67 : BitVec 32 := 0#32
  let v83 : BitVec 1 := Scalar.cmpi .slt v79 c0_i32_67
  let v84 : BitVec 1 := Scalar.xori v82 v83
  let c0_i32_65 : BitVec 32 := 0#32
  let v81 : BitVec 1 := Scalar.cmpi .ne v80 c0_i32_65
  let v85 : BitVec 1 := Scalar.andi v84 v81
  let v86 : BitVec 32 := Scalar.addi v80 v79
  let v87 : BitVec 32 := Scalar.select v85 v86 v80
  let c1_i32_1039 : BitVec 32 := 1#32
  let v1721 : BitVec 32 := Scalar.muli v87 c1_i32_1039
  let v1722 : BitVec 32 := Scalar.addi c0_i32_1040 v1721
  v1722.toNat
def k0_mult4 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1041 : BitVec 32 := 256#32
  let v1727 : BitVec 32 := Scalar.muli v2 c256_i32_1041
  let c128_i32_1042 : BitVec 32 := 128#32
  let v1728 : BitVec 32 := Scalar.subi v1727 c128_i32_1042
  let c0_i32_1043 : BitVec 32 := 0#32
  let v1729 : BitVec 32 := Scalar.maxsi v1728 c0_i32_1043
  v1729
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1044 : BitVec 32 := 256#32
  let v1731 : BitVec 32 := Scalar.muli v2 c256_i32_1044
  let v1767 : Index := Scalar.indexCast v1731
  let c0_1055 : Index := 0#32
  ![v1767.toNat, 0]
def k0_off21 (d0 : Dev nD) : Fin 3 → Nat :=
  let c0_1056 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1041 : BitVec 32 := 256#32
  let v1727 : BitVec 32 := Scalar.muli v2 c256_i32_1041
  let c128_i32_1042 : BitVec 32 := 128#32
  let v1728 : BitVec 32 := Scalar.subi v1727 c128_i32_1042
  let c0_i32_1043 : BitVec 32 := 0#32
  let v1729 : BitVec 32 := Scalar.maxsi v1728 c0_i32_1043
  let v1730 : BitVec 32 := v1729
  let v1769 : Index := Scalar.indexCast v1730
  let c0_1057 : Index := 0#32
  ![0, v1769.toNat, 0]
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1044 : BitVec 32 := 256#32
  let v1731 : BitVec 32 := Scalar.muli v2 c256_i32_1044
  let v1811 : Index := Scalar.indexCast v1731
  let c128_1076 : Index := 128#32
  ![v1811.toNat, 128]
def k0_off23 (d0 : Dev nD) : Fin 3 → Nat :=
  let c1_1077 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1041 : BitVec 32 := 256#32
  let v1727 : BitVec 32 := Scalar.muli v2 c256_i32_1041
  let c128_i32_1042 : BitVec 32 := 128#32
  let v1728 : BitVec 32 := Scalar.subi v1727 c128_i32_1042
  let c0_i32_1043 : BitVec 32 := 0#32
  let v1729 : BitVec 32 := Scalar.maxsi v1728 c0_i32_1043
  let v1730 : BitVec 32 := v1729
  let v1813 : Index := Scalar.indexCast v1730
  let c0_1078 : Index := 0#32
  ![1, v1813.toNat, 0]
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1044 : BitVec 32 := 256#32
  let v1731 : BitVec 32 := Scalar.muli v2 c256_i32_1044
  let v1855 : Index := Scalar.indexCast v1731
  let c256_1097 : Index := 256#32
  ![v1855.toNat, 256]
def k0_off25 (d0 : Dev nD) : Fin 3 → Nat :=
  let c2_1098 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1041 : BitVec 32 := 256#32
  let v1727 : BitVec 32 := Scalar.muli v2 c256_i32_1041
  let c128_i32_1042 : BitVec 32 := 128#32
  let v1728 : BitVec 32 := Scalar.subi v1727 c128_i32_1042
  let c0_i32_1043 : BitVec 32 := 0#32
  let v1729 : BitVec 32 := Scalar.maxsi v1728 c0_i32_1043
  let v1730 : BitVec 32 := v1729
  let v1857 : Index := Scalar.indexCast v1730
  let c0_1099 : Index := 0#32
  ![2, v1857.toNat, 0]
def k0_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1044 : BitVec 32 := 256#32
  let v1731 : BitVec 32 := Scalar.muli v2 c256_i32_1044
  let v1899 : Index := Scalar.indexCast v1731
  let c384_1118 : Index := 384#32
  ![v1899.toNat, 384]
def k0_off27 (d0 : Dev nD) : Fin 3 → Nat :=
  let c3_1119 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1041 : BitVec 32 := 256#32
  let v1727 : BitVec 32 := Scalar.muli v2 c256_i32_1041
  let c128_i32_1042 : BitVec 32 := 128#32
  let v1728 : BitVec 32 := Scalar.subi v1727 c128_i32_1042
  let c0_i32_1043 : BitVec 32 := 0#32
  let v1729 : BitVec 32 := Scalar.maxsi v1728 c0_i32_1043
  let v1730 : BitVec 32 := v1729
  let v1901 : Index := Scalar.indexCast v1730
  let c0_1120 : Index := 0#32
  ![3, v1901.toNat, 0]
def k0_off28 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1044 : BitVec 32 := 256#32
  let v1731 : BitVec 32 := Scalar.muli v2 c256_i32_1044
  let v1943 : Index := Scalar.indexCast v1731
  let c512_1139 : Index := 512#32
  ![v1943.toNat, 512]
def k0_off29 (d0 : Dev nD) : Fin 3 → Nat :=
  let c4_1140 : Index := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1041 : BitVec 32 := 256#32
  let v1727 : BitVec 32 := Scalar.muli v2 c256_i32_1041
  let c128_i32_1042 : BitVec 32 := 128#32
  let v1728 : BitVec 32 := Scalar.subi v1727 c128_i32_1042
  let c0_i32_1043 : BitVec 32 := 0#32
  let v1729 : BitVec 32 := Scalar.maxsi v1728 c0_i32_1043
  let v1730 : BitVec 32 := v1729
  let v1945 : Index := Scalar.indexCast v1730
  let c0_1141 : Index := 0#32
  ![4, v1945.toNat, 0]
def k0_off30 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1044 : BitVec 32 := 256#32
  let v1731 : BitVec 32 := Scalar.muli v2 c256_i32_1044
  let v1987 : Index := Scalar.indexCast v1731
  let c640_1160 : Index := 640#32
  ![v1987.toNat, 640]
def k0_off31 (d0 : Dev nD) : Fin 3 → Nat :=
  let c5_1161 : Index := 5#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1041 : BitVec 32 := 256#32
  let v1727 : BitVec 32 := Scalar.muli v2 c256_i32_1041
  let c128_i32_1042 : BitVec 32 := 128#32
  let v1728 : BitVec 32 := Scalar.subi v1727 c128_i32_1042
  let c0_i32_1043 : BitVec 32 := 0#32
  let v1729 : BitVec 32 := Scalar.maxsi v1728 c0_i32_1043
  let v1730 : BitVec 32 := v1729
  let v1989 : Index := Scalar.indexCast v1730
  let c0_1162 : Index := 0#32
  ![5, v1989.toNat, 0]
def k0_off32 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1044 : BitVec 32 := 256#32
  let v1731 : BitVec 32 := Scalar.muli v2 c256_i32_1044
  let v2031 : Index := Scalar.indexCast v1731
  let c768_1181 : Index := 768#32
  ![v2031.toNat, 768]
def k0_off33 (d0 : Dev nD) : Fin 3 → Nat :=
  let c6_1182 : Index := 6#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1041 : BitVec 32 := 256#32
  let v1727 : BitVec 32 := Scalar.muli v2 c256_i32_1041
  let c128_i32_1042 : BitVec 32 := 128#32
  let v1728 : BitVec 32 := Scalar.subi v1727 c128_i32_1042
  let c0_i32_1043 : BitVec 32 := 0#32
  let v1729 : BitVec 32 := Scalar.maxsi v1728 c0_i32_1043
  let v1730 : BitVec 32 := v1729
  let v2033 : Index := Scalar.indexCast v1730
  let c0_1183 : Index := 0#32
  ![6, v2033.toNat, 0]
def k0_off34 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1044 : BitVec 32 := 256#32
  let v1731 : BitVec 32 := Scalar.muli v2 c256_i32_1044
  let v2075 : Index := Scalar.indexCast v1731
  let c896_1202 : Index := 896#32
  ![v2075.toNat, 896]
def k0_off35 (d0 : Dev nD) : Fin 3 → Nat :=
  let c7_1203 : Index := 7#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1041 : BitVec 32 := 256#32
  let v1727 : BitVec 32 := Scalar.muli v2 c256_i32_1041
  let c128_i32_1042 : BitVec 32 := 128#32
  let v1728 : BitVec 32 := Scalar.subi v1727 c128_i32_1042
  let c0_i32_1043 : BitVec 32 := 0#32
  let v1729 : BitVec 32 := Scalar.maxsi v1728 c0_i32_1043
  let v1730 : BitVec 32 := v1729
  let v2077 : Index := Scalar.indexCast v1730
  let c0_1204 : Index := 0#32
  ![7, v2077.toNat, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024x1024 : Shape := ⟨2, ![1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x32x128 : Shape := ⟨4, ![1, 1024, 32, 128]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S_ : Shape := ⟨0, ![]⟩
abbrev S1x32x1024x4096 : Shape := ⟨4, ![1, 32, 1024, 4096]⟩
abbrev S1x1x1024x4096 : Shape := ⟨4, ![1, 1, 1024, 4096]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 67
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S1x4096x32x128, .f32⟩
  | .hbm, ⟨3, _⟩ => ⟨S1x4096x32x128, .f32⟩
  | .hbm, ⟨4, _⟩ => ⟨S4096x1024, .f32⟩
  | .hbm, ⟨5, _⟩ => ⟨S1024x4096, .f32⟩
  | .hbm, ⟨6, _⟩ => ⟨S1x1024x32x128, .f32⟩
  | .hbm, ⟨7, _⟩ => ⟨S1024, .i32⟩
  | .hbm, ⟨8, _⟩ => ⟨S1024x1, .i32⟩
  | .hbm, ⟨9, _⟩ => ⟨S4096, .i32⟩
  | .hbm, ⟨10, _⟩ => ⟨S1x4096, .i32⟩
  | .hbm, ⟨11, _⟩ => ⟨S1024x4096, .i32⟩
  | .hbm, ⟨12, _⟩ => ⟨S1024x4096, .i32⟩
  | .hbm, ⟨13, _⟩ => ⟨S1024x4096, .i32⟩
  | .hbm, ⟨14, _⟩ => ⟨S1024x4096, .i32⟩
  | .hbm, ⟨15, _⟩ => ⟨S_, .i32⟩
  | .hbm, ⟨16, _⟩ => ⟨S1024x4096, .i32⟩
  | .hbm, ⟨17, _⟩ => ⟨S1024x4096, .i1⟩
  | .hbm, ⟨18, _⟩ => ⟨S_, .i32⟩
  | .hbm, ⟨19, _⟩ => ⟨S1x4096, .i32⟩
  | .hbm, ⟨20, _⟩ => ⟨S1x4096, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x4096, .i1⟩
  | .hbm, ⟨25, _⟩ => ⟨S1024x4096, .i1⟩
  | .hbm, ⟨26, _⟩ => ⟨S1024x4096, .i1⟩
  | .hbm, ⟨27, _⟩ => ⟨S1024x4096, .i1⟩
  | .hbm, ⟨28, _⟩ => ⟨S1x32x1024x4096, .f32⟩
  | .hbm, ⟨29, _⟩ => ⟨S_, .f32⟩
  | .hbm, ⟨30, _⟩ => ⟨S1x32x1024x4096, .f32⟩
  | .hbm, ⟨31, _⟩ => ⟨S1x32x1024x4096, .f32⟩
  | .hbm, ⟨32, _⟩ => ⟨S1x1x1024x4096, .i1⟩
  | .hbm, ⟨33, _⟩ => ⟨S_, .f32⟩
  | .hbm, ⟨34, _⟩ => ⟨S_, .f32⟩
  | .hbm, ⟨35, _⟩ => ⟨S1x32x1024x4096, .i1⟩
  | .hbm, ⟨36, _⟩ => ⟨S1x32x1024x4096, .f32⟩
  | .hbm, ⟨37, _⟩ => ⟨S1x32x1024x4096, .f32⟩
  | .hbm, ⟨38, _⟩ => ⟨S_, .f32⟩
  | .hbm, ⟨39, _⟩ => ⟨S1x32x1024, .f32⟩
  | .hbm, ⟨40, _⟩ => ⟨S1x32x1024x1, .f32⟩
  | .hbm, ⟨41, _⟩ => ⟨S1x32x1024x4096, .f32⟩
  | .hbm, ⟨42, _⟩ => ⟨S1x32x1024x4096, .f32⟩
  | .hbm, ⟨43, _⟩ => ⟨S1x32x1024x4096, .f32⟩
  | .hbm, ⟨44, _⟩ => ⟨S_, .i1⟩
  | .hbm, ⟨45, _⟩ => ⟨S1024, .i1⟩
  | .hbm, ⟨46, _⟩ => ⟨S1x1x1024x1, .i1⟩
  | .hbm, ⟨47, _⟩ => ⟨S_, .f32⟩
  | .hbm, ⟨48, _⟩ => ⟨S1x32x1024, .f32⟩
  | .hbm, ⟨49, _⟩ => ⟨S1x32x1024x1, .f32⟩
  | .hbm, ⟨50, _⟩ => ⟨S_, .f32⟩
  | .hbm, ⟨51, _⟩ => ⟨S_, .f32⟩
  | .hbm, ⟨52, _⟩ => ⟨S1x32x1024x1, .i1⟩
  | .hbm, ⟨53, _⟩ => ⟨S1x32x1024x1, .f32⟩
  | .hbm, ⟨54, _⟩ => ⟨S1x32x1024x1, .f32⟩
  | .hbm, ⟨55, _⟩ => ⟨S1x32x1024x4096, .f32⟩
  | .hbm, ⟨56, _⟩ => ⟨S1x32x1024x4096, .f32⟩
  | .hbm, ⟨57, _⟩ => ⟨S1x1x1024x1, .i1⟩
  | .hbm, ⟨58, _⟩ => ⟨S_, .f32⟩
  | .hbm, ⟨59, _⟩ => ⟨S_, .f32⟩
  | .hbm, ⟨60, _⟩ => ⟨S1x32x1024x4096, .i1⟩
  | .hbm, ⟨61, _⟩ => ⟨S1x32x1024x4096, .f32⟩
  | .hbm, ⟨62, _⟩ => ⟨S1x32x1024x4096, .f32⟩
  | .hbm, ⟨63, _⟩ => ⟨S1x32x128x1024, .f32⟩
  | .hbm, ⟨64, _⟩ => ⟨S1x1024x32x128, .f32⟩
  | .hbm, ⟨65, _⟩ => ⟨S1024x4096, .f32⟩
  | .hbm, ⟨66, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]

def κ : String → Option EReal := fun
  | "mask" => some ⊥
  | _ => none
-- ==== Proof.Program.lean ====
module

public import proofs.«01_k».proof.Proof.Gen.KernelIdeal
public import proofs.«01_k».proof.Proof.Gen.KernelIdeal.Skeleton

/-!
  The body of the kernel, spelled again as a sequence of named pieces: the copies of the keys and
  values of a head, the exchange of the row blocks of `x`, and the attention of one block of 256 query
  rows, which the kernel performs four times, at four blocks.
-/

@[expose] public section

set_option synthInstance.maxSize 4096

noncomputable section

namespace Cert.Proof.K

open Idealize.ShloMosaic Idealize.SL.Sem
open Cert.KernelIdeal Cert.KernelIdeal.Gen

variable {F : FTy → Type} [FloatOps F] [Named F]

/-- A program of the kernel's core. -/
abbrev P (α : Type) := Prog (TpuEff nD τ sig (Elt F) Λ₀ .tc) α

/-! ## The buffers -/

abbrev mXb : Memref sig .tc .vmem S256x1024 .bf16 := Memref.whole cc0_scratch0
abbrev mComm : Memref sig .tc .vmem S2x256x1024 .bf16 := Memref.whole cc0_scratch1
abbrev mLcomm : Memref sig .tc .vmem S256x1024 .bf16 := Memref.whole cc0_scratch2
abbrev mQ : Memref sig .tc .vmem S1024x1024 .bf16 := Memref.whole cc0_scratch3
abbrev mKs : Memref sig .tc .vmem S2x4096x128 .f32 := Memref.whole cc0_scratch4
abbrev mVs : Memref sig .tc .vmem S2x4096x128 .f32 := Memref.whole cc0_scratch5
abbrev mKb : Memref sig .tc .vmem S8x4096x128 .bf16 := Memref.whole cc0_scratch6
abbrev mVb : Memref sig .tc .vmem S8x4096x128 .bf16 := Memref.whole cc0_scratch7
abbrev mWq : Memref sig .tc .vmem S1024x1024 .bf16 := Memref.whole cc0_scratch8
abbrev mWo : Memref sig .tc .vmem S1024x1024 .bf16 := Memref.whole cc0_scratch9
abbrev mCtx : Memref sig .tc .vmem S256x1024 .bf16 := Memref.whole cc0_scratch10
abbrev mPart : Memref sig .tc .vmem S1024x1024 .f32 := Memref.whole cc0_scratch11
abbrev mLb : Memref sig .tc .vmem S256x1024 .bf16 := Memref.whole cc0_scratch12
abbrev mRb : Memref sig .tc .vmem S256x1024 .bf16 := Memref.whole cc0_scratch13
abbrev mDb : Memref sig .tc .vmem S256x1024 .bf16 := Memref.whole cc0_scratch14
abbrev mLr : Memref sig .tc .vmem S256x1024 .bf16 := Memref.whole cc0_scratch15
abbrev mRr : Memref sig .tc .vmem S256x1024 .bf16 := Memref.whole cc0_scratch16
abbrev mDr : Memref sig .tc .vmem S256x1024 .bf16 := Memref.whole cc0_scratch17
abbrev mKin : Memref sig .tc .hbm S1x4096x32x128 .f32 := Memref.whole main_arg2
abbrev mVin : Memref sig .tc .hbm S1x4096x32x128 .f32 := Memref.whole main_arg3

/-- The barrier's semaphore. -/
abbrev barS : Sems sig S_ := SemArray.scalar (sig.barrier 0 rfl)

theorem inbSlot (s : Fin 2) : ∀ a, (![(s : ℕ), 0, 0] : Fin 3 → Nat) a + S1x4096x128.size a ≤ S2x4096x128.size a := by
  revert s; decide

theorem inbSem2 (s : Fin 2) : ∀ a, (![(s : ℕ)] : Fin 1 → Nat) a + S1.size a ≤ S2.size a := by
  revert s; decide

theorem inbSem3 (s : Fin 3) : ∀ a, (![(s : ℕ)] : Fin 1 → Nat) a + S1.size a ≤ S3.size a := by
  revert s; decide

theorem inbComm (s : Fin 2) : ∀ a, (![(s : ℕ), 0, 0] : Fin 3 → Nat) a + S1x256x1024.size a ≤ S2x256x1024.size a := by
  revert s; decide

theorem inbKb (h : Fin 8) : ∀ a, (![(h : ℕ), 0, 0] : Fin 3 → Nat) a + S1x4096x128.size a ≤ S8x4096x128.size a := by
  revert h; decide

theorem inbPre (h : Fin 8) : ∀ a, (![(h : ℕ), 0, 0] : Fin 3 → Nat) a + S1x128x128.size a ≤ S8x4096x128.size a := by
  revert h; decide

theorem inbCol (h : Fin 8) : ∀ a, (![0, 128 * (h : ℕ)] : Fin 2 → Nat) a + S256x128.size a ≤ S256x1024.size a := by
  revert h; decide

theorem inbQg (h : Fin 8) : ∀ a, (![0, 128 * (h : ℕ)] : Fin 2 → Nat) a + S32x128.size a ≤ S1024x1024.size a := by
  revert h; decide

theorem inbWo (h : Fin 8) : ∀ a, (![128 * (h : ℕ), 0] : Fin 2 → Nat) a + S128x1024.size a ≤ S1024x1024.size a := by
  revert h; decide

/-- The part of a staging buffer that holds the head being copied in. -/
abbrev slot (m : Memref sig .tc .vmem S2x4096x128 .f32) (s : Fin 2) : Memref sig .tc .vmem S4096x128 .f32 :=
  (m.slice (Rect.unit (s := S2x4096x128) ![(s : ℕ), 0, 0] S1x4096x128.size (inbSlot s)) (fun _ => rfl)).squeeze
    S4096x128 squeezes_S1x4096x128_S4096x128

/-- The `s`-th semaphore of a pair. -/
abbrev sem2 (m : DmaSems sig S2) (s : Fin 2) : DmaSem sig :=
  ((m.slice (Rect.unit (s := S2) ![(s : ℕ)] S1.size (inbSem2 s))).squeeze S_ squeezes_S1_S_).sem

/-- The `s`-th semaphore of a triple. -/
abbrev sem3 (m : DmaSems sig S3) (s : Fin 3) : DmaSem sig :=
  ((m.slice (Rect.unit (s := S3) ![(s : ℕ)] S1.size (inbSem3 s))).squeeze S_ squeezes_S1_S_).sem

/-- A slot of the buffer that receives the blocks of `x` from the left. -/
abbrev commAt (s : Fin 2) : Memref sig .tc .vmem S256x1024 .bf16 :=
  (mComm.slice (Rect.unit (s := S2x256x1024) ![(s : ℕ), 0, 0] S1x256x1024.size (inbComm s)) (fun _ => rfl)).squeeze
    S256x1024 squeezes_S1x256x1024_S256x1024

/-- Head `r` of device `d`'s keys (or values), as it lies in the whole array. -/
abbrev headIn (m : Memref sig .tc .hbm S1x4096x32x128 .f32) (d : Dev nD) (r : Fin 8) : Memref sig .tc .hbm S4096x128 .f32 :=
  (m.slice (Rect.unit (s := S1x4096x32x128) (k0_off1 d (BitVec.ofNat 32 r.val)) S1x4096x1x128.size (k0_off1_inb d r))
    (fun _ => rfl)).squeeze S4096x128 squeezes_S1x4096x1x128_S4096x128

theorem packedKb (h : Fin 8) : (Rect.unit (s := S8x4096x128) ![(h : ℕ), 0, 0] S1x4096x128.size (inbKb h)).PackedRows
    (EltTy.packing .bf16) :=
  match h with
  | 0 => packedbf16_S8x4096x128_S1x4096x128_0_0_0
  | 1 => packedbf16_S8x4096x128_S1x4096x128_1_0_0
  | 2 => packedbf16_S8x4096x128_S1x4096x128_2_0_0
  | 3 => packedbf16_S8x4096x128_S1x4096x128_3_0_0
  | 4 => packedbf16_S8x4096x128_S1x4096x128_4_0_0
  | 5 => packedbf16_S8x4096x128_S1x4096x128_5_0_0
  | 6 => packedbf16_S8x4096x128_S1x4096x128_6_0_0
  | 7 => packedbf16_S8x4096x128_S1x4096x128_7_0_0

theorem packedCol (h : Fin 8) : (Rect.unit (s := S256x1024) ![0, 128 * (h : ℕ)] S256x128.size (inbCol h)).PackedRows
    (EltTy.packing .bf16) :=
  match h with
  | 0 => packedbf16_S256x1024_S256x128_0_0
  | 1 => packedbf16_S256x1024_S256x128_0_128
  | 2 => packedbf16_S256x1024_S256x128_0_256
  | 3 => packedbf16_S256x1024_S256x128_0_384
  | 4 => packedbf16_S256x1024_S256x128_0_512
  | 5 => packedbf16_S256x1024_S256x128_0_640
  | 6 => packedbf16_S256x1024_S256x128_0_768
  | 7 => packedbf16_S256x1024_S256x128_0_896

theorem wordsComm (s : Fin 2) : (Rect.unit (s := S2x256x1024) ![(s : ℕ), 0, 0] S1x256x1024.size (inbComm s)).WholeWords
    (EltTy.packing .bf16) :=
  match s with
  | 0 => wordsbf16_S2x256x1024_S1x256x1024_0_0_0
  | 1 => wordsbf16_S2x256x1024_S1x256x1024_1_0_0

theorem wordComm (s : Fin 2) : (commAt s).view.WordExact :=
  ((Memref.isWhole_whole cc0_scratch1).wordExact_slice rfl _ (wordsComm s)).reshape _ _

/-! ## The values -/

/-- A block of `x` times this device's columns of the query weights, scaled. -/
def vQ (x : Vec F S256x1024 .bf16) (w : Vec F S1024x1024 .bf16) : FVec F S256x1024 .bf16 :=
  shapeCast S256x1024 (truncf .bf16 (mulf
    (matmul dot_S256x1024_S1024x1024_S256x1024_1_0_0_1_n_n none x w (constant S256x1024 .f32 0x00000000#32))
    (broadcast S256x1024 (Scalar.ofBits .f32 0x3DB504F3#32))) bitsLt_bf16_f32) shapeCasts_S256x1024_S256x1024

/-- A head of the keys or values, rounded for the products. -/
def vKb (x : Vec F S1x4096x128 .f32) : FVec F S1x4096x128 .bf16 :=
  shapeCast S1x4096x128 (truncf .bf16 (shapeCast S4096x128 x shapeCasts_S1x4096x128_S4096x128) bitsLt_bf16_f32)
    shapeCasts_S4096x128_S1x4096x128

/-- The first row of the window of keys that block `w` looks at. -/
def wsOf (w : BitVec 32) : BitVec 32 := Scalar.maxsi (Scalar.subi (Scalar.muli w 256#32) 128#32) 0#32

/-- What is added to the scores of the window: 0 where the row may look at the key, the mask value elsewhere. -/
def vBias (w : BitVec 32) : FVec F S256x512 .f32 :=
  select
    (ori
      (cmpi .sle (absi (subi
        (addi (iota .tc S256x512 32 [0] iota_S256x512_d0_w32) (broadcast S256x512 (Scalar.muli w 256#32)))
        (addi (iota .tc S256x512 32 [1] iota_S256x512_d1_w32) (broadcast S256x512 (wsOf w)))))
        (broadcast S256x512 128#32))
      (andi
        (cmpi .slt (addi (iota .tc S256x512 32 [1] iota_S256x512_d1_w32) (broadcast S256x512 (wsOf w)))
          (broadcast S256x512 32#32))
        (broadcast S256x512 (Scalar.cmpi .eq (wsOf w) 0#32))))
    (broadcast S256x512 (Scalar.ofBits .f32 0x00000000#32))
    (broadcast S256x512 (Named.named κ "mask" 0xCE6E6B28#32))

/-- What is added to the scores of the first 128 keys, when the window does not hold them. -/
def vPbias (w : BitVec 32) : FVec F S256x128 .f32 :=
  select
    (andi (cmpi .slt (iota .tc S256x128 32 [1] iota_S256x128_d1_w32) (broadcast S256x128 32#32))
      (broadcast S256x128 (Scalar.cmpi .sgt (wsOf w) 0#32)))
    (broadcast S256x128 (Scalar.ofBits .f32 0x00000000#32))
    (broadcast S256x128 (Named.named κ "mask" 0xCE6E6B28#32))

/-- 1 in the rows from row 32 of the whole on, 0 in the global rows. -/
def vKeep (w : BitVec 32) : FVec F S256x1 .f32 :=
  sitofp .f32 (extui 32
    (cmpi .sge (addi (iota .tc S256x1 32 [0] iota_S256x1_d0_w32) (broadcast S256x1 (Scalar.muli w 256#32)))
      (broadcast S256x1 32#32)) natLt_1_32)

/-- The scores of the window. -/
def vSw (w : BitVec 32) (q : Vec F S256x128 .bf16) (kw : Vec F S1x512x128 .bf16) : FVec F S256x512 .f32 :=
  addf (matmul dot_S256x128_S512x128_S256x512_1_1_0_0_n_n none q
    (shapeCast S512x128 kw shapeCasts_S1x512x128_S512x128) (constant S256x512 .f32 0x00000000#32)) (vBias w)

/-- The scores of the first 128 keys. -/
def vSp (w : BitVec 32) (q : Vec F S256x128 .bf16) (kp : Vec F S1x128x128 .bf16) : FVec F S256x128 .f32 :=
  addf (matmul dot_S256x128_S128x128_S256x128_1_1_0_0_n_n none q
    (shapeCast S128x128 kp shapeCasts_S1x128x128_S128x128) (constant S256x128 .f32 0x00000000#32)) (vPbias w)

/-- The largest score of each row. -/
def vMax (sw : FVec F S256x512 .f32) (sp : FVec F S256x128 .f32) : FVec F S256x1 .f32 :=
  maximumf
    (shapeCast S256x1 (multiReduction .maximumf [1] S256 sw 0xFF800000#32 reduces_S256x512_S256 (.inl rfl) rfl)
      shapeCasts_S256_S256x1)
    (shapeCast S256x1 (multiReduction .maximumf [1] S256 sp 0xFF800000#32 reduces_S256x128_S256 (.inl rfl) rfl)
      shapeCasts_S256_S256x1)

/-- The weights of the window's keys. -/
def vEw (sw : FVec F S256x512 .f32) (sp : FVec F S256x128 .f32) : FVec F S256x512 .f32 :=
  exp (subf sw (broadcastTo S256x512 (vMax sw sp) broadcasts_S256x1_S256x512))

/-- The weights of the first 128 keys. -/
def vEp (sw : FVec F S256x512 .f32) (sp : FVec F S256x128 .f32) : FVec F S256x128 .f32 :=
  exp (subf sp (broadcastTo S256x128 (vMax sw sp) broadcasts_S256x1_S256x128))

/-- The sum of each row's weights. -/
def vDen (sw : FVec F S256x512 .f32) (sp : FVec F S256x128 .f32) : FVec F S256x1 .f32 :=
  addf
    (shapeCast S256x1 (multiReduction .add [1] S256 (vEw sw sp) 0x00000000#32 reduces_S256x512_S256 (.inl rfl) rfl)
      shapeCasts_S256_S256x1)
    (shapeCast S256x1 (multiReduction .add [1] S256 (vEp sw sp) 0x00000000#32 reduces_S256x128_S256 (.inl rfl) rfl)
      shapeCasts_S256_S256x1)

/-- The weighted values of one head in one block of rows. -/
def vCtx (w : BitVec 32) (sw : FVec F S256x512 .f32) (sp : FVec F S256x128 .f32) (vw : Vec F S1x512x128 .bf16)
    (vp : Vec F S1x128x128 .bf16) : FVec F S256x128 .bf16 :=
  shapeCast S256x128 (truncf .bf16 (mulf
    (addf
      (matmul dot_S256x512_S512x128_S256x128_1_0_0_1_n_n none (truncf .bf16 (vEw sw sp) bitsLt_bf16_f32)
        (shapeCast S512x128 vw shapeCasts_S1x512x128_S512x128) (constant S256x128 .f32 0x00000000#32))
      (matmul dot_S256x128_S128x128_S256x128_1_0_0_1_n_n none (truncf .bf16 (vEp sw sp) bitsLt_bf16_f32)
        (shapeCast S128x128 vp shapeCasts_S1x128x128_S128x128) (constant S256x128 .f32 0x00000000#32)))
    (broadcastTo S256x128 (divf (vKeep w) (vDen sw sp)) broadcasts_S256x1_S256x128)) bitsLt_bf16_f32)
    shapeCasts_S256x128_S256x128

/-- The context of a block times this device's rows of the output weights. -/
def vPart (x : Vec F S256x1024 .bf16) (w : Vec F S1024x1024 .bf16) : FVec F S256x1024 .f32 :=
  shapeCast S256x1024 (matmul dot_S256x1024_S1024x1024_S256x1024_1_0_0_1_n_n none x w
    (constant S256x1024 .f32 0x00000000#32)) shapeCasts_S256x1024_S256x1024

/-- The scores of the 32 global rows against all keys. -/
def vSg (q : Vec F S32x128 .bf16) (k : Vec F S1x4096x128 .bf16) : FVec F S32x4096 .f32 :=
  matmul dot_S32x128_S4096x128_S32x4096_1_1_0_0_n_n none q (shapeCast S4096x128 k shapeCasts_S1x4096x128_S4096x128)
    (constant S32x4096 .f32 0x00000000#32)

/-- Their weights. -/
def vEg (s : FVec F S32x4096 .f32) : FVec F S32x4096 .f32 :=
  exp (subf s (broadcastTo S32x4096
    (shapeCast S32x1 (multiReduction .maximumf [1] S32 s 0xFF800000#32 reduces_S32x4096_S32 (.inl rfl) rfl)
      shapeCasts_S32_S32x1) broadcasts_S32x1_S32x4096))

/-- The part one head has in the global rows' result. -/
def vG (q : Vec F S32x128 .bf16) (k v : Vec F S1x4096x128 .bf16) (w : Vec F S128x1024 .bf16) : FVec F S32x1024 .f32 :=
  matmul dot_S32x128_S128x1024_S32x1024_1_0_0_1_n_n none
    (truncf .bf16 (divf
      (matmul dot_S32x4096_S4096x128_S32x128_1_0_0_1_n_n none (truncf .bf16 (vEg (vSg q k)) bitsLt_bf16_f32)
        (shapeCast S4096x128 v shapeCasts_S1x4096x128_S4096x128) (constant S32x128 .f32 0x00000000#32))
      (broadcastTo S32x128
        (shapeCast S32x1 (multiReduction .add [1] S32 (vEg (vSg q k)) 0x00000000#32 reduces_S32x4096_S32 (.inl rfl) rfl)
          shapeCasts_S32_S32x1) broadcasts_S32x1_S32x128)) bitsLt_bf16_f32)
    w (constant S32x1024 .f32 0x00000000#32)

/-- A block of partial results, rounded to be sent. -/
def vSend (x : Vec F S256x1024 .f32) : FVec F S256x1024 .bf16 :=
  shapeCast S256x1024 (truncf .bf16 x bitsLt_bf16_f32) shapeCasts_S256x1024_S256x1024

/-- The four devices' parts of a block, summed. -/
def vOut (p : Vec F S256x1024 .f32) (l r d : Vec F S256x1024 .bf16) : FVec F S256x1024 .f32 :=
  addf (addf p (extf .f32 l bitsLt_bf16_f32)) (addf (extf .f32 r bitsLt_bf16_f32) (extf .f32 d bitsLt_bf16_f32))

/-! ## The attention of one block -/

/-- A block of query rows as the program addresses it: its number, the rows in the arrays of all rows, the
    rows of each head's queries, and the window of each head's keys. -/
@[ext] structure Blk where
  w : BitVec 32
  oR : Fin 2 → ℕ
  hR : ∀ a, oR a + S256x1024.size a ≤ S1024x1024.size a
  hRp : (Rect.unit (s := S1024x1024) oR S256x1024.size hR).PackedRows (EltTy.packing .bf16)
  oQ : Fin 8 → Fin 2 → ℕ
  hQ : ∀ h a, oQ h a + S256x128.size a ≤ S1024x1024.size a
  oK : Fin 8 → Fin 3 → ℕ
  hK : ∀ h a, oK h a + S1x512x128.size a ≤ S8x4096x128.size a

/-- Eight pieces, one per head, in order. -/
def heads (p : Fin 8 → P (F := F) PUnit) : P (F := F) PUnit := do
  p 0; p 1; p 2; p 3; p 4; p 5; p 6; p 7

/-- The queries of a block, from the block of `x` and the weights. -/
def storeQ (B : Blk) (x : Vec F S256x1024 .bf16) : P (F := F) PUnit := do
  let w : Vec F S1024x1024 .bf16 ← Prog.lift (.load mWq (Rect.unit (s := S1024x1024) ![0, 0] S1024x1024.size inb_S1024x1024_S1024x1024_0_0).toLoadRect (View.loadsAt_vmem h_S1024x1024))
  let _ : Vec F S256x1024 .bf16 ← Prog.lift (.load mQ (Rect.unit (s := S1024x1024) B.oR S256x1024.size B.hR).toLoadRect (View.loadsAt_vmem h_S256x1024))
  Prog.lift (.store mQ (Rect.unit (s := S1024x1024) B.oR S256x1024.size B.hR) (vQ x w) Finset.univ (View.stores_vmem h_S256x1024 ((Memref.isWhole_whole cc0_scratch3).storeExact_slice rfl _ B.hRp) (fun _ => rfl)) (.inl rfl))

/-- One head of one block: its context, stored into the head's columns. -/
def attnHead (B : Blk) (h : Fin 8) : P (F := F) PUnit := do
  let q : Vec F S256x128 .bf16 ← Prog.lift (.load mQ (Rect.unit (s := S1024x1024) (B.oQ h) S256x128.size (B.hQ h)).toLoadRect (View.loadsAt_vmem h_S256x128))
  let kw : Vec F S1x512x128 .bf16 ← Prog.lift (.load mKb (Rect.unit (s := S8x4096x128) (B.oK h) S1x512x128.size (B.hK h)).toLoadRect (View.loadsAt_vmem h_S1x512x128))
  let kp : Vec F S1x128x128 .bf16 ← Prog.lift (.load mKb (Rect.unit (s := S8x4096x128) ![(h : ℕ), 0, 0] S1x128x128.size (inbPre h)).toLoadRect (View.loadsAt_vmem h_S1x128x128))
  let vw : Vec F S1x512x128 .bf16 ← Prog.lift (.load mVb (Rect.unit (s := S8x4096x128) (B.oK h) S1x512x128.size (B.hK h)).toLoadRect (View.loadsAt_vmem h_S1x512x128))
  let vp : Vec F S1x128x128 .bf16 ← Prog.lift (.load mVb (Rect.unit (s := S8x4096x128) ![(h : ℕ), 0, 0] S1x128x128.size (inbPre h)).toLoadRect (View.loadsAt_vmem h_S1x128x128))
  let _ : Vec F S256x128 .bf16 ← Prog.lift (.load mCtx (Rect.unit (s := S256x1024) ![0, 128 * (h : ℕ)] S256x128.size (inbCol h)).toLoadRect (View.loadsAt_vmem h_S256x128))
  Prog.lift (.store mCtx (Rect.unit (s := S256x1024) ![0, 128 * (h : ℕ)] S256x128.size (inbCol h)) (vCtx B.w (vSw B.w q kw) (vSp B.w q kp) vw vp) Finset.univ (View.stores_vmem h_S256x128 ((Memref.isWhole_whole cc0_scratch10).storeExact_slice rfl _ (packedCol h)) (fun _ => rfl)) (.inl rfl))

/-- The block's rows of the partial result, from its context. -/
def attnTail (B : Blk) (x : Vec F S256x1024 .bf16) : P (F := F) PUnit := do
  let w : Vec F S1024x1024 .bf16 ← Prog.lift (.load mWo (Rect.unit (s := S1024x1024) ![0, 0] S1024x1024.size inb_S1024x1024_S1024x1024_0_0).toLoadRect (View.loadsAt_vmem h_S1024x1024))
  let _ : Vec F S256x1024 .f32 ← Prog.lift (.load mPart (Rect.unit (s := S1024x1024) B.oR S256x1024.size B.hR).toLoadRect (View.loadsAt_vmem h_S256x1024))
  Prog.lift (.store mPart (Rect.unit (s := S1024x1024) B.oR S256x1024.size B.hR) (vPart x w) Finset.univ (View.stores_vmem_bits_univ h_S256x1024 rfl) (.inl rfl))

/-- A whole buffer of one block of rows. -/
def loadX (m : Memref sig .tc .vmem S256x1024 .bf16) : P (F := F) (Vec F S256x1024 .bf16) :=
  Prog.lift (.load m (Rect.unit (s := S256x1024) ![0, 0] S256x1024.size inb_S256x1024_S256x1024_0_0).toLoadRect (View.loadsAt_vmem h_S256x1024))

/-- The block's rows of the partial result. -/
def attnProj (B : Blk) : P (F := F) PUnit := loadX mCtx >>= attnTail B

/-- The rows of a block of the partial result. -/
def loadPart (B : Blk) : P (F := F) (Vec F S256x1024 .f32) :=
  Prog.lift (.load mPart (Rect.unit (s := S1024x1024) B.oR S256x1024.size B.hR).toLoadRect (View.loadsAt_vmem h_S256x1024))

/-- One head of the global rows. -/
def globHead (h : Fin 8) : P (F := F) (FVec F S32x1024 .f32) := do
  let q : Vec F S32x128 .bf16 ← Prog.lift (.load mQ (Rect.unit (s := S1024x1024) ![0, 128 * (h : ℕ)] S32x128.size (inbQg h)).toLoadRect (View.loadsAt_vmem h_S32x128))
  let k : Vec F S1x4096x128 .bf16 ← Prog.lift (.load mKb (Rect.unit (s := S8x4096x128) ![(h : ℕ), 0, 0] S1x4096x128.size (inbKb h)).toLoadRect (View.loadsAt_vmem h_S1x4096x128))
  let v : Vec F S1x4096x128 .bf16 ← Prog.lift (.load mVb (Rect.unit (s := S8x4096x128) ![(h : ℕ), 0, 0] S1x4096x128.size (inbKb h)).toLoadRect (View.loadsAt_vmem h_S1x4096x128))
  let w : Vec F S128x1024 .bf16 ← Prog.lift (.load mWo (Rect.unit (s := S1024x1024) ![128 * (h : ℕ), 0] S128x1024.size (inbWo h)).toLoadRect (View.loadsAt_vmem h_S128x1024))
  pure (vG q k v w)

/-- The global rows: added to the first 32 rows of the partial result. -/
def glob : P (F := F) PUnit := do
  let g0 ← globHead 0
  let g1 ← globHead 1
  let g2 ← globHead 2
  let g3 ← globHead 3
  let g4 ← globHead 4
  let g5 ← globHead 5
  let g6 ← globHead 6
  let g7 ← globHead 7
  let p : Vec F S32x1024 .f32 ← Prog.lift (.load mPart (Rect.unit (s := S1024x1024) ![0, 0] S32x1024.size inb_S1024x1024_S32x1024_0_0).toLoadRect (View.loadsAt_vmem h_S32x1024))
  let _ : Vec F S32x1024 .f32 ← Prog.lift (.load mPart (Rect.unit (s := S1024x1024) ![0, 0] S32x1024.size inb_S1024x1024_S32x1024_0_0).toLoadRect (View.loadsAt_vmem h_S32x1024))
  Prog.lift (.store mPart (Rect.unit (s := S1024x1024) ![0, 0] S32x1024.size inb_S1024x1024_S32x1024_0_0) (shapeCast S32x1024 (addf p (addf (addf (addf (addf (addf (addf (addf g0 g1) g2) g3) g4) g5) g6) g7)) shapeCasts_S32x1024_S32x1024) Finset.univ (View.stores_vmem_bits_univ h_S32x1024 rfl) (.inl rfl))

/-- The test that the block is the first one. -/
def isFirst (w : BitVec 32) : BitVec 1 :=
  Scalar.cmpi .ne (Scalar.extui (Scalar.andi (Scalar.cmpi .eq w 0#32) 1#1)) 0#32

/-- The global rows are done with the first block. -/
def whenFirst (w : BitVec 32) : P (F := F) PUnit := if _h : isFirst w = 1#1 then glob else pure ⟨⟩

theorem whenFirst_bind {α : Type} (w : BitVec 32) (k : PUnit → P (F := F) α) :
    (whenFirst w >>= k) = if _h : isFirst w = 1#1 then glob >>= k else k ⟨⟩ := by
  unfold whenFirst
  split <;> rfl

/-! ## The copies -/

/-- Start the copy of head `r`'s keys and values into slot `s` of the staging buffers. -/
def startKV (d : Dev nD) (r : Fin 8) (s : Fin 2) : P (F := F) PUnit := do
  Prog.lift (.enqueueDma (headIn mKin d r) (.here (slot mKs s)) (.dma (sem2 cc0_scratch22 s)) ((View.wordExact_bits rfl).reshape _ _) ((View.wordExact_bits rfl).reshape _ _) ⟨Or.inl rfl, trivial⟩)
  Prog.lift (.enqueueDma (headIn mVin d r) (.here (slot mVs s)) (.dma (sem2 cc0_scratch23 s)) ((View.wordExact_bits rfl).reshape _ _) ((View.wordExact_bits rfl).reshape _ _) ⟨Or.inl rfl, trivial⟩)

/-- Wait for them, and store them rounded. -/
def takeKV (d : Dev nD) (r : Fin 8) (s : Fin 2) : P (F := F) PUnit := do
  Prog.lift (.waitDma2 (sem2 cc0_scratch22 s) (headIn mKin d r) (slot mKs s) ((View.wordExact_bits rfl).reshape _ _) ((View.wordExact_bits rfl).reshape _ _))
  Prog.lift (.waitDma2 (sem2 cc0_scratch23 s) (headIn mVin d r) (slot mVs s) ((View.wordExact_bits rfl).reshape _ _) ((View.wordExact_bits rfl).reshape _ _))
  let k : Vec F S1x4096x128 .f32 ← Prog.lift (.load mKs (Rect.unit (s := S2x4096x128) ![(s : ℕ), 0, 0] S1x4096x128.size (inbSlot s)).toLoadRect (View.loadsAt_vmem h_S1x4096x128))
  let _ : Vec F S1x4096x128 .bf16 ← Prog.lift (.load mKb (Rect.unit (s := S8x4096x128) ![(r : ℕ), 0, 0] S1x4096x128.size (inbKb r)).toLoadRect (View.loadsAt_vmem h_S1x4096x128))
  Prog.lift (.store mKb (Rect.unit (s := S8x4096x128) ![(r : ℕ), 0, 0] S1x4096x128.size (inbKb r)) (vKb k) Finset.univ (View.stores_vmem h_S1x4096x128 ((Memref.isWhole_whole cc0_scratch6).storeExact_slice rfl _ (packedKb r)) (fun _ => rfl)) (.inl rfl))
  let v : Vec F S1x4096x128 .f32 ← Prog.lift (.load mVs (Rect.unit (s := S2x4096x128) ![(s : ℕ), 0, 0] S1x4096x128.size (inbSlot s)).toLoadRect (View.loadsAt_vmem h_S1x4096x128))
  let _ : Vec F S1x4096x128 .bf16 ← Prog.lift (.load mVb (Rect.unit (s := S8x4096x128) ![(r : ℕ), 0, 0] S1x4096x128.size (inbKb r)).toLoadRect (View.loadsAt_vmem h_S1x4096x128))
  Prog.lift (.store mVb (Rect.unit (s := S8x4096x128) ![(r : ℕ), 0, 0] S1x4096x128.size (inbKb r)) (vKb v) Finset.univ (View.stores_vmem h_S1x4096x128 ((Memref.isWhole_whole cc0_scratch7).storeExact_slice rfl _ (packedKb r)) (fun _ => rfl)) (.inl rfl))

/-- All the keys and values but the first two heads' copies, which are under way. -/
def allKV (d : Dev nD) : P (F := F) PUnit := do
  takeKV d 0 0; startKV d 2 0
  takeKV d 1 1; startKV d 3 1
  takeKV d 2 0; startKV d 4 0
  takeKV d 3 1; startKV d 5 1
  takeKV d 4 0; startKV d 6 0
  takeKV d 5 1; startKV d 7 1
  takeKV d 6 0
  takeKV d 7 1

/-- The number of a neighbour, as the program computes it. -/
def wordOf (v k : BitVec 32) : BitVec 32 :=
  let s := Scalar.select (Scalar.cmpi .eq 4#32 0#32) 1#32 4#32
  let r := Scalar.remsi (Scalar.addi v k) s
  Scalar.select (Scalar.andi (Scalar.xori (Scalar.cmpi .slt r 0#32) (Scalar.cmpi .slt s 0#32)) (Scalar.cmpi .ne r 0#32))
    (Scalar.addi r s) r

/-- The device's own number, as the program computes it. -/
def wordMe (d : Dev nD) : BitVec 32 := Scalar.remsi (Scalar.divsi (Dev.word d) 1#32) 4#32

/-- The block of device `d + (1 + r)`, as device `d`'s program addresses it. -/
def blkAt (d : Dev nD) (r : Fin 3) : Blk where
  w := wordOf (wordMe d) (BitVec.ofNat 32 (1 + r.val))
  oR := k0_off3 d (BitVec.ofNat 32 (1 + r.val))
  hR := k0_off3_inb d r
  hRp := Facts₀.k0_off3_packedbf16 d r
  oQ := fun h => match h with
    | 0 => k0_off4 d (BitVec.ofNat 32 (1 + r.val))
    | 1 => k0_off6 d (BitVec.ofNat 32 (1 + r.val))
    | 2 => k0_off8 d (BitVec.ofNat 32 (1 + r.val))
    | 3 => k0_off10 d (BitVec.ofNat 32 (1 + r.val))
    | 4 => k0_off12 d (BitVec.ofNat 32 (1 + r.val))
    | 5 => k0_off14 d (BitVec.ofNat 32 (1 + r.val))
    | 6 => k0_off16 d (BitVec.ofNat 32 (1 + r.val))
    | 7 => k0_off18 d (BitVec.ofNat 32 (1 + r.val))
  hQ := fun h => match h with
    | 0 => k0_off4_inb d r
    | 1 => k0_off6_inb d r
    | 2 => k0_off8_inb d r
    | 3 => k0_off10_inb d r
    | 4 => k0_off12_inb d r
    | 5 => k0_off14_inb d r
    | 6 => k0_off16_inb d r
    | 7 => k0_off18_inb d r
  oK := fun h => match h with
    | 0 => k0_off5 d (BitVec.ofNat 32 (1 + r.val))
    | 1 => k0_off7 d (BitVec.ofNat 32 (1 + r.val))
    | 2 => k0_off9 d (BitVec.ofNat 32 (1 + r.val))
    | 3 => k0_off11 d (BitVec.ofNat 32 (1 + r.val))
    | 4 => k0_off13 d (BitVec.ofNat 32 (1 + r.val))
    | 5 => k0_off15 d (BitVec.ofNat 32 (1 + r.val))
    | 6 => k0_off17 d (BitVec.ofNat 32 (1 + r.val))
    | 7 => k0_off19 d (BitVec.ofNat 32 (1 + r.val))
  hK := fun h => match h with
    | 0 => k0_off5_inb d r
    | 1 => k0_off7_inb d r
    | 2 => k0_off9_inb d r
    | 3 => k0_off11_inb d r
    | 4 => k0_off13_inb d r
    | 5 => k0_off15_inb d r
    | 6 => k0_off17_inb d r
    | 7 => k0_off19_inb d r

/-- The block of device `d` itself. -/
def blkMe (d : Dev nD) : Blk where
  w := wordMe d
  oR := k0_off2 d
  hR := k0_off2_inb d
  hRp := Facts₀.k0_off2_packedbf16 d
  oQ := fun h => match h with
    | 0 => k0_off20 d
    | 1 => k0_off22 d
    | 2 => k0_off24 d
    | 3 => k0_off26 d
    | 4 => k0_off28 d
    | 5 => k0_off30 d
    | 6 => k0_off32 d
    | 7 => k0_off34 d
  hQ := fun h => match h with
    | 0 => k0_off20_inb d
    | 1 => k0_off22_inb d
    | 2 => k0_off24_inb d
    | 3 => k0_off26_inb d
    | 4 => k0_off28_inb d
    | 5 => k0_off30_inb d
    | 6 => k0_off32_inb d
    | 7 => k0_off34_inb d
  oK := fun h => match h with
    | 0 => k0_off21 d
    | 1 => k0_off23 d
    | 2 => k0_off25 d
    | 3 => k0_off27 d
    | 4 => k0_off29 d
    | 5 => k0_off31 d
    | 6 => k0_off33 d
    | 7 => k0_off35 d
  hK := fun h => match h with
    | 0 => k0_off21_inb d
    | 1 => k0_off23_inb d
    | 2 => k0_off25_inb d
    | 3 => k0_off27_inb d
    | 4 => k0_off29_inb d
    | 5 => k0_off31_inb d
    | 6 => k0_off33_inb d
    | 7 => k0_off35_inb d

/-! ## The whole body -/

/-- The rounded inputs. -/
def prologue (m0 : Memref sig .tc .vmem S256x1024 .f32) (m1 m4 : Memref sig .tc .vmem S1024x1024 .f32) : P (F := F) PUnit := do
  let x : Vec F S256x1024 .f32 ← Prog.lift (.load m0 (Rect.unit (s := S256x1024) ![0, 0] S256x1024.size inb_S256x1024_S256x1024_0_0).toLoadRect (View.loadsAt_vmem h_S256x1024))
  let _ : Vec F S256x1024 .bf16 ← Prog.lift (.load mXb (Rect.unit (s := S256x1024) ![0, 0] S256x1024.size inb_S256x1024_S256x1024_0_0).toLoadRect (View.loadsAt_vmem h_S256x1024))
  Prog.lift (.store mXb (Rect.unit (s := S256x1024) ![0, 0] S256x1024.size inb_S256x1024_S256x1024_0_0) (k0_pay45 x) Finset.univ (View.stores_vmem h_S256x1024 ((Memref.isWhole_whole cc0_scratch0).storeExact_slice rfl _ packedbf16_S256x1024_S256x1024_0_0) (fun _ => rfl)) (.inl rfl))
  let y : Vec F S1024x1024 .f32 ← Prog.lift (.load m1 (Rect.unit (s := S1024x1024) ![0, 0] S1024x1024.size inb_S1024x1024_S1024x1024_0_0).toLoadRect (View.loadsAt_vmem h_S1024x1024))
  let _ : Vec F S1024x1024 .bf16 ← Prog.lift (.load mWq (Rect.unit (s := S1024x1024) ![0, 0] S1024x1024.size inb_S1024x1024_S1024x1024_0_0).toLoadRect (View.loadsAt_vmem h_S1024x1024))
  Prog.lift (.store mWq (Rect.unit (s := S1024x1024) ![0, 0] S1024x1024.size inb_S1024x1024_S1024x1024_0_0) (k0_pay46 y) Finset.univ (View.stores_vmem h_S1024x1024 ((Memref.isWhole_whole cc0_scratch8).storeExact_slice rfl _ packedbf16_S1024x1024_S1024x1024_0_0) (fun _ => rfl)) (.inl rfl))
  let z : Vec F S1024x1024 .f32 ← Prog.lift (.load m4 (Rect.unit (s := S1024x1024) ![0, 0] S1024x1024.size inb_S1024x1024_S1024x1024_0_0).toLoadRect (View.loadsAt_vmem h_S1024x1024))
  let _ : Vec F S1024x1024 .bf16 ← Prog.lift (.load mWo (Rect.unit (s := S1024x1024) ![0, 0] S1024x1024.size inb_S1024x1024_S1024x1024_0_0).toLoadRect (View.loadsAt_vmem h_S1024x1024))
  Prog.lift (.store mWo (Rect.unit (s := S1024x1024) ![0, 0] S1024x1024.size inb_S1024x1024_S1024x1024_0_0) (k0_pay47 z) Finset.univ (View.stores_vmem h_S1024x1024 ((Memref.isWhole_whole cc0_scratch9).storeExact_slice rfl _ packedbf16_S1024x1024_S1024x1024_0_0) (fun _ => rfl)) (.inl rfl))

/-- A slot of the receiving buffer. -/
def loadComm (s : Fin 2) : P (F := F) (Vec F S256x1024 .bf16) := do
  let x : Vec F S1x256x1024 .bf16 ← Prog.lift (.load mComm (Rect.unit (s := S2x256x1024) ![(s : ℕ), 0, 0] S1x256x1024.size (inbComm s)).toLoadRect (View.loadsAt_vmem h_S1x256x1024))
  pure (shapeCast S256x1024 x shapeCasts_S1x256x1024_S256x1024)

/-- A block of the partial result, rounded into a buffer to be sent from. -/
def packPart (B : Blk) (m : Memref sig .tc .vmem S256x1024 .bf16) (hm : m.IsWhole) : P (F := F) PUnit := do
  let x ← loadPart B
  let _ : Vec F S256x1024 .bf16 ← Prog.lift (.load m (Rect.unit (s := S256x1024) ![0, 0] S256x1024.size inb_S256x1024_S256x1024_0_0).toLoadRect (View.loadsAt_vmem h_S256x1024))
  Prog.lift (.store m (Rect.unit (s := S256x1024) ![0, 0] S256x1024.size inb_S256x1024_S256x1024_0_0) (vSend x) Finset.univ (View.stores_vmem h_S256x1024 (hm.storeExact_slice rfl _ packedbf16_S256x1024_S256x1024_0_0) (fun _ => rfl)) (.inl rfl))

/-- Send a buffer of one block to device `e`. -/
def sendTo (e : Dev nD) (src dst : Memref sig .tc .vmem S256x1024 .bf16) (hs : src.view.WordExact) (hd : dst.view.WordExact)
    (ss rs : DmaSem sig) : P (F := F) PUnit :=
  Prog.lift (.enqueueDma src (.remote (Dev.tc e) dst (.dma ss)) (.dma rs) hs hd ⟨⟨rfl, Or.inl rfl⟩, trivial⟩)

/-- Wait for a copy of one block. -/
def waitFor (s : DmaSem sig) (src dst : Memref sig .tc .vmem S256x1024 .bf16) (hs : src.view.WordExact)
    (hd : dst.view.WordExact) : P (F := F) PUnit :=
  Prog.lift (.waitDma2 s src dst hs hd)

theorem wXb : mXb.view.WordExact := (Memref.isWhole_whole cc0_scratch0).wordExact
theorem wLcomm : mLcomm.view.WordExact := (Memref.isWhole_whole cc0_scratch2).wordExact
theorem wLb : mLb.view.WordExact := (Memref.isWhole_whole cc0_scratch12).wordExact
theorem wRb : mRb.view.WordExact := (Memref.isWhole_whole cc0_scratch13).wordExact
theorem wDb : mDb.view.WordExact := (Memref.isWhole_whole cc0_scratch14).wordExact
theorem wLr : mLr.view.WordExact := (Memref.isWhole_whole cc0_scratch15).wordExact
theorem wRr : mRr.view.WordExact := (Memref.isWhole_whole cc0_scratch16).wordExact
theorem wDr : mDr.view.WordExact := (Memref.isWhole_whole cc0_scratch17).wordExact

/-- The sum of the four devices' parts, stored into the result. -/
def finish (d : Dev nD) (m5 : Memref sig .tc .vmem S256x1024 .f32) (h5 : m5.IsWhole) : P (F := F) PUnit := do
  let p ← loadPart (blkMe d)
  let l ← loadX mLr
  let r ← loadX mRr
  let o ← loadX mDr
  let _ : Vec F S256x1024 .f32 ← Prog.lift (.load m5 (Rect.unit (s := S256x1024) ![0, 0] S256x1024.size inb_S256x1024_S256x1024_0_0).toLoadRect (View.loadsAt_vmem h_S256x1024))
  Prog.lift (.store m5 (Rect.unit (s := S256x1024) ![0, 0] S256x1024.size inb_S256x1024_S256x1024_0_0) (vOut p l r o) Finset.univ (View.stores_vmem_bits_univ h_S256x1024 rfl) (.inl rfl))

/-- The body of the kernel on device `d`. -/
def bodyAt (m0 : Memref sig .tc .vmem S256x1024 .f32) (m1 m4 : Memref sig .tc .vmem S1024x1024 .f32)
    (m5 : Memref sig .tc .vmem S256x1024 .f32) (h5 : m5.IsWhole) (d : Dev nD) : P (F := F) PUnit := do
  startKV d 0 0
  startKV d 1 1
  prologue m0 m1 m4
  semSignalWord (⟨k0_dev1 d, Facts₀.k0_dev1_lt d⟩ : Dev nD) barS.sem 1#32
  semSignalWord (⟨k0_dev2 d, Facts₀.k0_dev2_lt d⟩ : Dev nD) barS.sem 1#32
  semWaitWord barS.sem 2#32
  sendTo ⟨k0_dev3 d, Facts₀.k0_dev3_lt d⟩ mXb (commAt 0) wXb (wordComm 0) (sem2 cc0_scratch18 0) (sem2 cc0_scratch19 0)
  sendTo ⟨k0_dev4 d, Facts₀.k0_dev4_lt d⟩ mXb mLcomm wXb wLcomm cc0_scratch20.sem cc0_scratch21.sem
  loadX mXb >>= storeQ (blkMe d)
  allKV d
  waitFor (sem2 cc0_scratch19 0) mXb (commAt 0) wXb (wordComm 0)
  sendTo ⟨k0_dev5 d, Facts₀.k0_dev5_lt d⟩ (commAt 0) (commAt 1) (wordComm 0) (wordComm 1) (sem2 cc0_scratch18 1) (sem2 cc0_scratch19 1)
  loadComm 0 >>= storeQ (blkAt d 2)
  heads (attnHead (blkAt d 2))
  attnProj (blkAt d 2)
  whenFirst (blkAt d 2).w
  packPart (blkAt d 2) mLb (Memref.isWhole_whole cc0_scratch12)
  sendTo ⟨k0_dev6 d, Facts₀.k0_dev6_lt d⟩ mLb mLr wLb wLr (sem3 cc0_scratch24 0) (sem3 cc0_scratch25 0)
  waitFor cc0_scratch21.sem mXb mLcomm wXb wLcomm
  loadX mLcomm >>= storeQ (blkAt d 0)
  heads (attnHead (blkAt d 0))
  attnProj (blkAt d 0)
  whenFirst (blkAt d 0).w
  packPart (blkAt d 0) mRb (Memref.isWhole_whole cc0_scratch13)
  sendTo ⟨k0_dev7 d, Facts₀.k0_dev7_lt d⟩ mRb mRr wRb wRr (sem3 cc0_scratch24 1) (sem3 cc0_scratch25 1)
  waitFor (sem2 cc0_scratch19 1) (commAt 0) (commAt 1) (wordComm 0) (wordComm 1)
  loadComm 1 >>= storeQ (blkAt d 1)
  heads (attnHead (blkAt d 1))
  attnProj (blkAt d 1)
  whenFirst (blkAt d 1).w
  packPart (blkAt d 1) mDb (Memref.isWhole_whole cc0_scratch14)
  sendTo ⟨k0_dev8 d, Facts₀.k0_dev8_lt d⟩ mDb mDr wDb wDr (sem3 cc0_scratch24 2) (sem3 cc0_scratch25 2)
  heads (attnHead (blkMe d))
  attnProj (blkMe d)
  whenFirst (blkMe d).w
  waitFor (sem3 cc0_scratch25 0) mLb mLr wLb wLr
  waitFor (sem3 cc0_scratch25 1) mRb mRr wRb wRr
  waitFor (sem3 cc0_scratch25 2) mDb mDr wDb wDr
  finish d m5 h5
  waitFor (sem2 cc0_scratch18 0) (commAt 0) mXb (wordComm 0) wXb
  waitFor cc0_scratch20.sem mLcomm mXb wLcomm wXb
  waitFor (sem2 cc0_scratch18 1) (commAt 1) (commAt 0) (wordComm 1) (wordComm 0)
  waitFor (sem3 cc0_scratch24 0) mLr mLb wLr wLb
  waitFor (sem3 cc0_scratch24 1) mRr mRb wRr wRb
  waitFor (sem3 cc0_scratch24 2) mDr mDb wDr wDb
  pure ⟨⟩

end Cert.Proof.K
-- ==== Proof.Blocks.lean ====
module

public import proofs.«01_k».proof.Proof.Program

/-!
  The block of rows a device works at, in closed form: block `b` is the rows `256 b … 256 b + 255`, and its
  window of keys begins at row `256 b - 128` (at row 0 for block 0).
-/

@[expose] public section

set_option synthInstance.maxSize 4096

noncomputable section

namespace Cert.Proof.K

open Idealize.ShloMosaic Idealize.SL.Sem
open Cert.KernelIdeal Cert.KernelIdeal.Gen

/-- The device `k` places to the right of device `c` around the ring. -/
def sh (k : ℕ) (c : Dev nD) : Dev nD := ⟨(c.val + k) % 4, Nat.mod_lt _ (by decide)⟩

abbrev nxt (c : Dev nD) : Dev nD := sh 1 c
abbrev opp (c : Dev nD) : Dev nD := sh 2 c
abbrev prv (c : Dev nD) : Dev nD := sh 3 c

theorem prv_nxt (c : Dev nD) : prv (nxt c) = c := by revert c; decide
theorem nxt_prv (c : Dev nD) : nxt (prv c) = c := by revert c; decide
theorem opp_opp (c : Dev nD) : opp (opp c) = c := by revert c; decide
theorem prv_prv (c : Dev nD) : prv (prv c) = opp c := by revert c; decide
theorem nxt_nxt (c : Dev nD) : nxt (nxt c) = opp c := by revert c; decide
theorem prv_opp (c : Dev nD) : prv (opp c) = nxt c := by revert c; decide
theorem opp_nxt (c : Dev nD) : opp (nxt c) = prv c := by revert c; decide
theorem opp_prv (c : Dev nD) : opp (prv c) = nxt c := by revert c; decide

theorem dev1_eq (c : Dev nD) : (⟨k0_dev1 c, Facts₀.k0_dev1_lt c⟩ : Dev nD) = prv c :=
  Fin.ext ((by decide +kernel : ∀ c : Dev nD, k0_dev1 c = (prv c).val) c)
theorem dev2_eq (c : Dev nD) : (⟨k0_dev2 c, Facts₀.k0_dev2_lt c⟩ : Dev nD) = nxt c :=
  Fin.ext ((by decide +kernel : ∀ c : Dev nD, k0_dev2 c = (nxt c).val) c)
theorem dev3_eq (c : Dev nD) : (⟨k0_dev3 c, Facts₀.k0_dev3_lt c⟩ : Dev nD) = nxt c :=
  Fin.ext ((by decide +kernel : ∀ c : Dev nD, k0_dev3 c = (nxt c).val) c)
theorem dev4_eq (c : Dev nD) : (⟨k0_dev4 c, Facts₀.k0_dev4_lt c⟩ : Dev nD) = prv c :=
  Fin.ext ((by decide +kernel : ∀ c : Dev nD, k0_dev4 c = (prv c).val) c)
theorem dev5_eq (c : Dev nD) : (⟨k0_dev5 c, Facts₀.k0_dev5_lt c⟩ : Dev nD) = nxt c :=
  Fin.ext ((by decide +kernel : ∀ c : Dev nD, k0_dev5 c = (nxt c).val) c)
theorem dev6_eq (c : Dev nD) : (⟨k0_dev6 c, Facts₀.k0_dev6_lt c⟩ : Dev nD) = prv c :=
  Fin.ext ((by decide +kernel : ∀ c : Dev nD, k0_dev6 c = (prv c).val) c)
theorem dev7_eq (c : Dev nD) : (⟨k0_dev7 c, Facts₀.k0_dev7_lt c⟩ : Dev nD) = nxt c :=
  Fin.ext ((by decide +kernel : ∀ c : Dev nD, k0_dev7 c = (nxt c).val) c)
theorem dev8_eq (c : Dev nD) : (⟨k0_dev8 c, Facts₀.k0_dev8_lt c⟩ : Dev nD) = opp c :=
  Fin.ext ((by decide +kernel : ∀ c : Dev nD, k0_dev8 c = (opp c).val) c)

/-- The first row of block `b`'s window of keys. -/
abbrev ws (b : Fin 4) : ℕ := 256 * b.val - 128

theorem inbR (b : Fin 4) : ∀ a, (![256 * b.val, 0] : Fin 2 → ℕ) a + S256x1024.size a ≤ S1024x1024.size a := by
  revert b; decide
theorem inbQ (b : Fin 4) (h : Fin 8) :
    ∀ a, (![256 * b.val, 128 * h.val] : Fin 2 → ℕ) a + S256x128.size a ≤ S1024x1024.size a := by
  revert b h; decide
theorem inbK (b : Fin 4) (h : Fin 8) :
    ∀ a, (![h.val, ws b, 0] : Fin 3 → ℕ) a + S1x512x128.size a ≤ S8x4096x128.size a := by
  revert b h; decide

theorem packed_of_eq {s : Shape} {o o' : Fin s.rank → ℕ} {z : Fin s.rank → ℕ} {n : ℕ} (e : o = o')
    (hi : ∀ a, o a + z a ≤ s.size a) (hi' : ∀ a, o' a + z a ≤ s.size a)
    (p : (Rect.unit (s := s) o z hi).PackedRows n) : (Rect.unit (s := s) o' z hi').PackedRows n := by
  subst e; exact p

/-- Block `b`. -/
def blk (b : Fin 4) : Blk where
  w := BitVec.ofNat 32 b.val
  oR := ![256 * b.val, 0]
  hR := inbR b
  hRp := packed_of_eq (k0_off2_eq (b : Dev nD)) (k0_off2_inb b) (inbR b) (Facts₀.k0_off2_packedbf16 b)
  oQ := fun h => ![256 * b.val, 128 * h.val]
  hQ := inbQ b
  oK := fun h => ![h.val, ws b, 0]
  hK := inbK b

set_option maxRecDepth 8192 in
theorem blkMe_eq (d : Dev nD) : blkMe d = blk d := by
  refine Blk.ext ?_ ?_ ?_ ?_
  · revert d; decide +kernel
  · revert d; decide +kernel
  · funext h; revert d h; decide +kernel
  · funext h; revert d h; decide +kernel

set_option maxRecDepth 8192 in
theorem blkAt_eq (d : Dev nD) (r : Fin 3) : blkAt d r = blk (sh (1 + r.val) d) := by
  refine Blk.ext ?_ ?_ ?_ ?_
  · revert d r; decide +kernel
  · revert d r; decide +kernel
  · funext h; revert d r h; decide +kernel
  · funext h; revert d r h; decide +kernel

theorem isFirst_eq (b : Fin 4) : isFirst (blk b).w = 1#1 ↔ b = 0 := by revert b; decide +kernel

end Cert.Proof.K
-- ==== Proof.Base.lean ====
module

public import proofs.«01_k».proof.Proof.Blocks
public import proofs.«01_k».proof.Proof.Gen.KernelIdeal.Launch
public import Idealize.ShloMosaic.Lib.Pipeline.Launch
public import Idealize.ShloMosaic.Lib.Pipeline.Kit
public import Idealize.ShloMosaic.Lib.Tactic

/-!
  The resources the proof of the run is carried out with, and the rules for a load from and a store to a
  rectangle of a whole buffer.
-/

@[expose] public section

set_option synthInstance.maxSize 4096

noncomputable section

namespace Cert.Proof.K

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-- The resource algebra of the cells' rounds; a barrier cell's two duties are told apart by a `Bool`. -/
abbrev UB : Type := URounds (GSem nD τ sig) Bool
/-- The pipeline's cells beside them. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The precondition of a program of device `c` for a postcondition. -/
abbrev Wp (c : Dev nD) {α : Type} (p : P (F := F) α) (Q : α → sProp 𝕄) : sProp 𝕄 :=
  wp frame (wpE (defs₀ (F := F)) 𝒱₀ (c : Thread nD τ) none) Set.univ p Q

/-- A store's effect on a buffer: the rectangle holds the stored value, the rest is as it was. -/
def Stored {s : Shape} {α : Type} (r : Rect s) (w : r.shape.Idx → α) (f g : s.Idx → α) : Prop :=
  (∀ j, g (r.idx j) = w j) ∧ ∀ i, (∀ j, r.idx j ≠ i) → g i = f i

theorem stored_whole {sg : RefSig} {κ : Kind} {Val : EltTy → Type} (b : Ref sg κ) (r : Rect b.ty.shape)
    (f : b.ty.Contents Val) (w : r.shape.Idx → Val b.ty.elt) :
    Stored r w f (((Memref.whole b).access r : View sg κ _ _ _).write Val f w Finset.univ) := by
  constructor
  · intro j
    exact View.write_emb_of_mem (v := ((Memref.whole b).access r : View sg κ _ _ _)) f w (Finset.mem_univ j)
  · intro x hx
    refine View.write_of_not_mem (v := ((Memref.whole b).access r : View sg κ _ _ _)) f w _ ?_
    intro hh
    rw [View.setOn, Finset.mem_map] at hh
    obtain ⟨j, -, hj⟩ := hh
    exact hx j hj

/-- A load from a rectangle of a buffer held whole. -/
theorem ld (c : Dev nD) {cs : CoreSpace} {s : Shape} {e : EltTy} (m : Memref sig .tc cs s e)
    {r : Rect s} {hl : m.view.LoadsAt r.toLoadRect}
    {α : Type} {k : (r.shape.Idx → (Elt F) e) → P (F := F) α} {Q : α → sProp 𝕄}
    {q : PosShare TreeShare} {f : Buf (Elt F) (m.view.loc (c : Thread nD τ))} {v : r.shape.Idx → (Elt F) e}
    (hv : m.view.readAt (Elt F) r.toLoadRect f = v) :
    (m.view.loc (c : Thread nD τ) ↦{q} f)
      ⊢ iprop(((m.view.loc (c : Thread nD τ) ↦{q} f) -∗ Wp c (k v) Q)
        -∗ Wp c (.op (.load m r.toLoadRect hl) k) Q) := by
  subst hv
  exact wp_load 𝒱₀ (c : Thread nD τ) none Set.univ (Finset.subset_univ _)

/-- A store to a rectangle of a buffer held whole: some property of the contents written is kept. -/
theorem st (c : Dev nD) {cs : CoreSpace} {s : Shape} {e : EltTy} (m : Memref sig .tc cs s e)
    {r : Rect s} {w : r.shape.Idx → (Elt F) e} {hx : (m.access r).Stores Finset.univ}
    {hm : Finset.univ = Finset.univ ∨ ∀ a, r.stride a = 1}
    {α : Type} {k : PUnit → P (F := F) α} {Q : α → sProp 𝕄}
    {f : Buf (Elt F) (m.view.loc (c : Thread nD τ))} (p : Buf (Elt F) (m.view.loc (c : Thread nD τ)) → Prop)
    (hp : p ((m.access r).write (Elt F) f w Finset.univ)) :
    (m.view.loc (c : Thread nD τ) ↦{fullShare} f)
      ⊢ iprop(((∃ g : Buf (Elt F) (m.view.loc (c : Thread nD τ)),
            ⌜p g⌝ ∗ (m.view.loc (c : Thread nD τ) ↦{fullShare} g)) -∗ Wp c (k ⟨⟩) Q)
        -∗ Wp c (.op (.store m r w Finset.univ hx hm) k) Q) := by
  iintro H Hk
  iapply (wp_store 𝒱₀ (c : Thread nD τ) none Set.univ (m := m) (r := r) (Mk := Finset.univ)
    (Finset.subset_univ _)) $$ H
  iintro H
  iapply Hk
  iexists ((m.access r).write (Elt F) f w Finset.univ)
  isplitr
  · ipureintro; exact hp
  · iexact H

end Cert.Proof.K
-- ==== Proof.Values.lean ====
module

public import proofs.«01_k».proof.Proof.Base

/-!
  What the buffers of a device come to hold: for each block of rows the queries, the context of each head, the
  block of the partial result; and how the pieces of a buffer, stored one after the other, make up the whole.
-/

@[expose] public section

set_option synthInstance.maxSize 4096

noncomputable section

namespace Cert.Proof.K

open Idealize.ShloMosaic
open Cert.KernelIdeal Cert.KernelIdeal.Gen

variable {F : FTy → Type} [FloatOps F] [Named F]

/-! ## Rectangles of indices -/

theorem unit_val {s : Shape} (o z : Fin s.rank → ℕ) (h : ∀ a, o a + z a ≤ s.size a)
    (j : (Rect.unit (s := s) o z h).shape.Idx) (a : Fin s.rank) :
    ((Rect.unit (s := s) o z h).idx j a : ℕ) = o a + j a := by
  show o a + 1 * (j a : ℕ) = _
  omega

/-- A rectangle within a rectangle. -/
theorem idx_comp {s : Shape} {o z o' z' o'' : Fin s.rank → ℕ} (h : ∀ a, o a + z a ≤ s.size a)
    (h' : ∀ a, o' a + z' a ≤ (Rect.unit (s := s) o z h).shape.size a) (h'' : ∀ a, o'' a + z' a ≤ s.size a)
    (e : ∀ a, o'' a = o a + o' a) (j : (Rect.unit (s := (Rect.unit (s := s) o z h).shape) o' z' h').shape.Idx) :
    (Rect.unit (s := s) o z h).idx ((Rect.unit (s := (Rect.unit (s := s) o z h).shape) o' z' h').idx j)
      = (Rect.unit (s := s) o'' z' h'').idx j := by
  funext a
  apply Fin.ext
  rw [unit_val, unit_val, unit_val, e a]
  omega

/-- Rectangles apart along one axis share no index. -/
theorem idx_ne {s : Shape} {o z o' z' : Fin s.rank → ℕ} (h : ∀ a, o a + z a ≤ s.size a)
    (h' : ∀ a, o' a + z' a ≤ s.size a) (a : Fin s.rank) (e : o a + z a ≤ o' a ∨ o' a + z' a ≤ o a)
    (j : (Rect.unit (s := s) o z h).shape.Idx) (j' : (Rect.unit (s := s) o' z' h').shape.Idx) :
    (Rect.unit (s := s) o z h).idx j ≠ (Rect.unit (s := s) o' z' h').idx j' := by
  intro hh
  have h1 := congrArg Fin.val (congrFun hh a)
  rw [unit_val, unit_val] at h1
  have h2 : (j a : ℕ) < z a := (j a).isLt
  have h3 : (j' a : ℕ) < z' a := (j' a).isLt
  omega

/-- The rows of block `b` in the arrays of all rows. -/
abbrev rR (b : Fin 4) : Rect S1024x1024 := Rect.unit (s := S1024x1024) ![256 * b.val, 0] S256x1024.size (inbR b)
/-- The queries of head `h` in block `b`. -/
abbrev rQ (b : Fin 4) (h : Fin 8) : Rect S1024x1024 :=
  Rect.unit (s := S1024x1024) ![256 * b.val, 128 * h.val] S256x128.size (inbQ b h)
/-- The columns of head `h`. -/
abbrev rC (h : Fin 8) : Rect S256x1024 := Rect.unit (s := S256x1024) ![0, 128 * h.val] S256x128.size (inbCol h)
/-- The window of block `b` in head `h`'s keys. -/
abbrev rK (b : Fin 4) (h : Fin 8) : Rect S8x4096x128 :=
  Rect.unit (s := S8x4096x128) ![h.val, ws b, 0] S1x512x128.size (inbK b h)
/-- The first 128 keys of head `h`. -/
abbrev rP (h : Fin 8) : Rect S8x4096x128 := Rect.unit (s := S8x4096x128) ![h.val, 0, 0] S1x128x128.size (inbPre h)
/-- All keys of head `h`. -/
abbrev rA (h : Fin 8) : Rect S8x4096x128 := Rect.unit (s := S8x4096x128) ![h.val, 0, 0] S1x4096x128.size (inbKb h)
/-- The queries of head `h` in the global rows. -/
abbrev rG (h : Fin 8) : Rect S1024x1024 := Rect.unit (s := S1024x1024) ![0, 128 * h.val] S32x128.size (inbQg h)
/-- The rows of the output weights that head `h` meets. -/
abbrev rW (h : Fin 8) : Rect S1024x1024 := Rect.unit (s := S1024x1024) ![128 * h.val, 0] S128x1024.size (inbWo h)
/-- The global rows. -/
abbrev rT : Rect S1024x1024 := Rect.unit (s := S1024x1024) ![0, 0] S32x1024.size inb_S1024x1024_S32x1024_0_0

theorem inbG' (h : Fin 8) : ∀ a, (![0, 128 * (h : ℕ)] : Fin 2 → Nat) a + S32x128.size a ≤ S256x1024.size a := by
  revert h; decide
theorem inbT' : ∀ a, (![0, 0] : Fin 2 → Nat) a + S32x1024.size a ≤ S256x1024.size a := by decide

/-- The queries of head `h` in the global rows, within the first block. -/
abbrev rG' (h : Fin 8) : Rect S256x1024 := Rect.unit (s := S256x1024) ![0, 128 * h.val] S32x128.size (inbG' h)
/-- The global rows, within the first block. -/
abbrev rT' : Rect S256x1024 := Rect.unit (s := S256x1024) ![0, 0] S32x1024.size inbT'

theorem rQ_idx (b : Fin 4) (h : Fin 8) (j : S256x128.Idx) : (rQ b h).idx j = (rR b).idx ((rC h).idx j) :=
  (idx_comp (s := S1024x1024) (inbR b) (inbCol h) (inbQ b h) (fun a => by
    match a with
    | ⟨0, _⟩ => rfl
    | ⟨1, _⟩ => exact (Nat.zero_add _).symm) j).symm

theorem rG_idx (h : Fin 8) (j : S32x128.Idx) : (rG h).idx j = (rR 0).idx ((rG' h).idx j) :=
  (idx_comp (s := S1024x1024) (inbR 0) (inbG' h) (inbQg h) (fun a => by
    match a with
    | ⟨0, _⟩ => rfl
    | ⟨1, _⟩ => exact (Nat.zero_add _).symm) j).symm

theorem rT_idx (j : S32x1024.Idx) : rT.idx j = (rR 0).idx (rT'.idx j) :=
  (idx_comp (s := S1024x1024) (inbR 0) inbT' inb_S1024x1024_S32x1024_0_0 (fun a => by
    match a with
    | ⟨0, _⟩ => rfl
    | ⟨1, _⟩ => rfl) j).symm

theorem rR_ne {b b' : Fin 4} (hb : b ≠ b') (j j' : S256x1024.Idx) : (rR b).idx j ≠ (rR b').idx j' := by
  refine idx_ne (s := S1024x1024) (inbR b) (inbR b') 0 ?_ j j'
  have h : b.val ≠ b'.val := fun h => hb (Fin.ext h)
  show 256 * b.val + 256 ≤ 256 * b'.val ∨ 256 * b'.val + 256 ≤ 256 * b.val
  omega

theorem rC_ne {h h' : Fin 8} (hh : h ≠ h') (j j' : S256x128.Idx) : (rC h).idx j ≠ (rC h').idx j' := by
  refine idx_ne (s := S256x1024) (inbCol h) (inbCol h') 1 ?_ j j'
  have : h.val ≠ h'.val := fun e => hh (Fin.ext e)
  show 128 * h.val + 128 ≤ 128 * h'.val ∨ 128 * h'.val + 128 ≤ 128 * h.val
  omega

theorem rA_ne {h h' : Fin 8} (hh : h ≠ h') (j j' : S1x4096x128.Idx) : (rA h).idx j ≠ (rA h').idx j' := by
  refine idx_ne (s := S8x4096x128) (inbKb h) (inbKb h') 0 ?_ j j'
  have : h.val ≠ h'.val := fun e => hh (Fin.ext e)
  show h.val + 1 ≤ h'.val ∨ h'.val + 1 ≤ h.val
  omega

/-! ## The values of a block -/

/-- The rows of every block in the buffer of queries, of the blocks in `S`. -/
def HasQ (Q : Fin 4 → Vec F S256x1024 .bf16) (S : Finset (Fin 4)) (f : Vec F S1024x1024 .bf16) : Prop :=
  ∀ b ∈ S, ∀ j : S256x1024.Idx, f ((rR b).idx j) = Q b j

theorem HasQ.store {Q : Fin 4 → Vec F S256x1024 .bf16} {S : Finset (Fin 4)} {f g : Vec F S1024x1024 .bf16} {b : Fin 4}
    (hf : HasQ Q S f) (hg : Stored (rR b) (Q b) f g) : HasQ Q (insert b S) g := by
  intro b' hb' j
  by_cases e : b' = b
  · subst e; exact hg.1 j
  · rw [hg.2 _ fun j' => rR_ne (fun h => e h.symm) j' j]
    exact hf b' ((Finset.mem_insert.mp hb').resolve_left e) j

/-- The heads of a buffer of all heads' keys or values, of the heads before the `n`-th. -/
def HasH (K : Vec F S8x4096x128 .bf16) (n : ℕ) (f : Vec F S8x4096x128 .bf16) : Prop :=
  ∀ h : Fin 8, h.val < n → ∀ j : S1x4096x128.Idx, f ((rA h).idx j) = K ((rA h).idx j)

theorem HasH.store {K : Vec F S8x4096x128 .bf16} {n : ℕ} {f g : Vec F S8x4096x128 .bf16} {h : Fin 8} (hn : h.val = n)
    (hf : HasH K n f) (hg : Stored (rA h) (fun j => K ((rA h).idx j)) f g) : HasH K (n + 1) g := by
  intro h' hh' j
  by_cases e : h' = h
  · subst e; exact hg.1 j
  · rw [hg.2 _ fun j' => rA_ne (fun x => e x.symm) j' j]
    exact hf h' (by have : h'.val ≠ h.val := fun x => e (Fin.ext x); omega) j

/-- An index of the buffer of all heads, as an index of its head. -/
theorem rA_surj (i : S8x4096x128.Idx) : ∃ (h : Fin 8) (j : S1x4096x128.Idx), (rA h).idx j = i := by
  refine ⟨i 0, fun a => match a with | ⟨0, _⟩ => ⟨0, Nat.one_pos⟩ | ⟨1, _⟩ => i 1 | ⟨2, _⟩ => i 2, ?_⟩
  funext a
  apply Fin.ext
  rw [unit_val]
  match a with
  | ⟨0, _⟩ => rfl
  | ⟨1, _⟩ => exact Nat.zero_add _
  | ⟨2, _⟩ => exact Nat.zero_add _

theorem HasH.all {K f : Vec F S8x4096x128 .bf16} (hf : HasH K 8 f) : f = K := by
  funext i
  obtain ⟨h, j, rfl⟩ := rA_surj i
  exact hf h h.isLt j

/-- The keys, or values, of all heads, from each head's. -/
def allOf (s : Fin 8 → Vec F S4096x128 .f32) : Vec F S8x4096x128 .bf16 := fun i =>
  truncf .bf16 (s (i 0)) bitsLt_bf16_f32 (fun a => match a with | ⟨0, _⟩ => i 1 | ⟨1, _⟩ => i 2)

/-- A head's context in a block. -/
def headCtx (b : Fin 4) (Q : Vec F S256x1024 .bf16) (K V : Vec F S8x4096x128 .bf16) (h : Fin 8) : FVec F S256x128 .bf16 :=
  vCtx (BitVec.ofNat 32 b.val)
    (vSw (BitVec.ofNat 32 b.val) (fun j => Q ((rC h).idx j)) (fun j => K ((rK b h).idx j)))
    (vSp (BitVec.ofNat 32 b.val) (fun j => Q ((rC h).idx j)) (fun j => K ((rP h).idx j)))
    (fun j => V ((rK b h).idx j)) (fun j => V ((rP h).idx j))

/-- The head a column belongs to. -/
def headOf (i : S256x1024.Idx) : Fin 8 := ⟨(i 1).val / 128, by have : (i 1).val < 1024 := (i 1).isLt; omega⟩

/-- Its place within the head's columns. -/
def inHead (i : S256x1024.Idx) : S256x128.Idx := fun a =>
  match a with
  | ⟨0, _⟩ => i 0
  | ⟨1, _⟩ => ⟨(i 1).val % 128, Nat.mod_lt _ (by decide)⟩

theorem rC_inHead (i : S256x1024.Idx) : (rC (headOf i)).idx (inHead i) = i := by
  funext a
  apply Fin.ext
  rw [unit_val]
  match a with
  | ⟨0, _⟩ => exact Nat.zero_add _
  | ⟨1, _⟩ => exact Nat.div_add_mod _ _

/-- The context of a block. -/
def ctxOf (b : Fin 4) (Q : Vec F S256x1024 .bf16) (K V : Vec F S8x4096x128 .bf16) : Vec F S256x1024 .bf16 :=
  fun i => headCtx b Q K V (headOf i) (inHead i)

/-- The columns of the heads before the `n`-th in the buffer of the context. -/
def HasC (C : Fin 8 → FVec F S256x128 .bf16) (n : ℕ) (f : Vec F S256x1024 .bf16) : Prop :=
  ∀ h : Fin 8, h.val < n → ∀ j : S256x128.Idx, f ((rC h).idx j) = C h j

theorem HasC.store {C : Fin 8 → FVec F S256x128 .bf16} {n : ℕ} {f g : Vec F S256x1024 .bf16} {h : Fin 8} (hn : h.val = n)
    (hf : HasC C n f) (hg : Stored (rC h) (C h) f g) : HasC C (n + 1) g := by
  intro h' hh' j
  by_cases e : h' = h
  · subst e; exact hg.1 j
  · rw [hg.2 _ fun j' => rC_ne (fun x => e x.symm) j' j]
    exact hf h' (by have : h'.val ≠ h.val := fun x => e (Fin.ext x); omega) j

theorem HasC.all {b : Fin 4} {Q : Vec F S256x1024 .bf16} {K V : Vec F S8x4096x128 .bf16} {f : Vec F S256x1024 .bf16}
    (hf : HasC (headCtx b Q K V) 8 f) : f = ctxOf b Q K V := by
  funext i
  have := hf (headOf i) (headOf i).isLt (inHead i)
  rw [rC_inHead] at this
  exact this

/-- What head `h` adds to the global rows. -/
def globTerm (Q : Vec F S256x1024 .bf16) (K V : Vec F S8x4096x128 .bf16) (WO : Vec F S1024x1024 .bf16) (h : Fin 8) :
    FVec F S32x1024 .f32 :=
  vG (fun j => Q ((rG' h).idx j)) (fun j => K ((rA h).idx j)) (fun j => V ((rA h).idx j)) (fun j => WO ((rW h).idx j))

/-- What all heads add. -/
def globSum (Q : Vec F S256x1024 .bf16) (K V : Vec F S8x4096x128 .bf16) (WO : Vec F S1024x1024 .bf16) :
    FVec F S32x1024 .f32 :=
  addf (addf (addf (addf (addf (addf (addf (globTerm Q K V WO 0) (globTerm Q K V WO 1)) (globTerm Q K V WO 2))
    (globTerm Q K V WO 3)) (globTerm Q K V WO 4)) (globTerm Q K V WO 5)) (globTerm Q K V WO 6)) (globTerm Q K V WO 7)

/-- The first block of the partial result with the global rows added. -/
def withGlob (G : FVec F S32x1024 .f32) (X : Vec F S256x1024 .f32) : Vec F S256x1024 .f32 := fun i =>
  if h : (i 0).val < 32 then
    shapeCast S32x1024 (addf (fun j => X (rT'.idx j)) G) shapeCasts_S32x1024_S32x1024
      (fun a => match a with | ⟨0, _⟩ => ⟨(i 0).val, h⟩ | ⟨1, _⟩ => i 1)
  else X i

/-- A block of the partial result. -/
def partOf (b : Fin 4) (Q : Vec F S256x1024 .bf16) (K V : Vec F S8x4096x128 .bf16) (WO : Vec F S1024x1024 .bf16) :
    Vec F S256x1024 .f32 :=
  if b = 0 then withGlob (globSum Q K V WO) (vPart (ctxOf b Q K V) WO) else vPart (ctxOf b Q K V) WO

/-- The buffer of the partial result holds the block `X` at the rows of block `b`. -/
def HasP (b : Fin 4) (X : Vec F S256x1024 .f32) (f : Vec F S1024x1024 .f32) : Prop :=
  ∀ j : S256x1024.Idx, f ((rR b).idx j) = X j

theorem HasP.glob {G : FVec F S32x1024 .f32} {X : Vec F S256x1024 .f32} {f g : Vec F S1024x1024 .f32} (hf : HasP 0 X f)
    (hg : Stored rT (shapeCast S32x1024 (addf (fun j => f (rT.idx j)) G) shapeCasts_S32x1024_S32x1024) f g) :
    HasP 0 (withGlob G X) g := by
  have e : (fun j => f (rT.idx j)) = fun j => X (rT'.idx j) := by
    funext j
    rw [rT_idx]; exact hf _
  rw [e] at hg
  intro i
  unfold withGlob
  split
  · rename_i h
    have := hg.1 (fun a => match a with | ⟨0, _⟩ => ⟨(i 0).val, h⟩ | ⟨1, _⟩ => i 1)
    refine Eq.trans (congrArg g (funext fun a => Fin.ext ?_)) this
    rw [unit_val, unit_val]
    match a with
    | ⟨0, _⟩ => rfl
    | ⟨1, _⟩ => rfl
  · rename_i h
    rw [hg.2 _ fun j => ?_]
    · exact hf i
    · intro hh
      have h1 := congrArg Fin.val (congrFun hh 0)
      rw [unit_val, unit_val] at h1
      have h2 : (j 0).val < 32 := (j 0).isLt
      apply h
      have h3 : (0 + (j 0).val) = 256 * 0 + (i 0).val := h1
      omega

end Cert.Proof.K
-- ==== Proof.Protocol.lean ====
module

public import proofs.«01_k».proof.Proof.Base
public import proofs.«01_k».proof.Proof.Values

/-!
  What the devices hand each other: the values a run computes, the cells of the semaphores, and for each
  round of each cell who pays, how much, and what the payment hands over.
-/

@[expose] public section

set_option synthInstance.maxSize 4096
set_option maxRecDepth 16384

noncomputable section

namespace Cert.Proof.K

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## The values of a run -/

section Values
variable (m : (ℓ : Loc nD τ sig) → Buf (Elt F) ℓ) (c : Dev nD)

/-- A device's rows of the input. -/
def xIn : Vec F S256x1024 .f32 := (win0_0.blk (0 : Fin 1)).view.read (Elt F) (m ((c : Thread nD τ).loc main_arg0))
/-- Its columns of the first matrix. -/
def wqIn : Vec F S1024x1024 .f32 := (win0_1.blk (0 : Fin 1)).view.read (Elt F) (m ((c : Thread nD τ).loc main_arg1))
/-- Its rows of the second matrix. -/
def woIn : Vec F S1024x1024 .f32 := (win0_2.blk (0 : Fin 1)).view.read (Elt F) (m ((c : Thread nD τ).loc main_arg4))
/-- The keys of the `h`-th of its heads. -/
def kSlab (h : Fin 8) : Vec F S4096x128 .f32 := (headIn mKin c h).view.read (Elt F) (m (mKin.view.loc (c : Thread nD τ)))
/-- Its values. -/
def vSlab (h : Fin 8) : Vec F S4096x128 .f32 := (headIn mVin c h).view.read (Elt F) (m (mVin.view.loc (c : Thread nD τ)))

/-- A device's rows of the input, rounded. -/
def XB : Vec F S256x1024 .bf16 := k0_pay45 (xIn m c)
/-- The queries of block `b` for the heads of device `c`. -/
def QB (b : Dev nD) : Vec F S256x1024 .bf16 := vQ (XB m b) (k0_pay46 (wqIn m c))
/-- The keys of the heads of a device. -/
def KB : Vec F S8x4096x128 .bf16 := allOf (kSlab m c)
/-- The values of the heads of a device. -/
def VB : Vec F S8x4096x128 .bf16 := allOf (vSlab m c)
/-- What the heads of device `c` contribute to block `b` of the result. -/
def PT (b : Dev nD) : Vec F S256x1024 .f32 := partOf b (QB m c b) (KB m c) (VB m c) (k0_pay47 (woIn m c))
/-- The same, rounded for sending. -/
def SD (b : Dev nD) : Vec F S256x1024 .bf16 := vSend (PT m c b)
/-- A device's block of the result. -/
def OUT : Vec F S256x1024 .f32 := vOut (PT m c c) (SD m (nxt c) c) (SD m (prv c) c) (SD m (opp c) c)

end Values

/-! ## The cells -/

/-- A device's semaphores: the barrier; the departures and arrivals of the copies to the right, the departure and the
    arrival of the copy to the left; the keys' and values' slots; the departures and arrivals of the parts. -/
def csem (k : Fin 17) : SemLoc sig :=
  match k.val with
  | 0 => .reg barS.sem
  | 1 => .dma (sem2 cc0_scratch18 0) | 2 => .dma (sem2 cc0_scratch18 1)
  | 3 => .dma (sem2 cc0_scratch19 0) | 4 => .dma (sem2 cc0_scratch19 1)
  | 5 => .dma cc0_scratch20.sem | 6 => .dma cc0_scratch21.sem
  | 7 => .dma (sem2 cc0_scratch22 0) | 8 => .dma (sem2 cc0_scratch22 1)
  | 9 => .dma (sem2 cc0_scratch23 0) | 10 => .dma (sem2 cc0_scratch23 1)
  | 11 => .dma (sem3 cc0_scratch24 0) | 12 => .dma (sem3 cc0_scratch24 1) | 13 => .dma (sem3 cc0_scratch24 2)
  | 14 => .dma (sem3 cc0_scratch25 0) | 15 => .dma (sem3 cc0_scratch25 1) | _ => .dma (sem3 cc0_scratch25 2)

/-- The cell of a device's `k`-th semaphore. -/
abbrev kcell (ck : Dev nD × Fin 17) : GSem nD τ sig := ((ck.1 : Thread nD τ), csem ck.2)

/-- Which of these semaphores one is. -/
def kind (s : SemLoc sig) : Option (Fin 17) := (List.finRange 17).find? fun k => csem k = s

theorem kind_csem (k : Fin 17) : kind (csem k) = some k := by revert k; decide

theorem csem_inj : Function.Injective csem := fun a b h => by
  have := kind_csem a
  rw [h, kind_csem] at this
  exact (Option.some.inj this).symm

theorem kcell_inj : Function.Injective kcell := fun a b h => by
  have h1 : a.1 = b.1 := congrArg (fun g : GSem nD τ sig => g.1.1) h
  have h2 : csem a.2 = csem b.2 := congrArg (fun g : GSem nD τ sig => g.2) h
  exact Prod.ext h1 (csem_inj h2)

/-- The credit of a copy of one block, and of one head's keys. -/
abbrev N : ℕ := mXb.view.dmaCredit
abbrev NK : ℕ := (slot mKs 0).view.dmaCredit
theorem N_pos : 0 < N := View.dmaCredit_pos _ (by decide)
theorem NK_pos : 0 < NK := View.dmaCredit_pos _ (by decide)

/-- The units a payment to a cell of each sort comes in. -/
def amt (k : Fin 17) : ℕ := if k = 0 then 1 else if 7 ≤ k.val ∧ k.val ≤ 10 then NK else N

theorem amt_pos (k : Fin 17) : 0 < amt k := by
  unfold amt
  split
  · exact Nat.one_pos
  · split
    · exact NK_pos
    · exact N_pos

/-- Who pays in a round: two devices at the barrier, and one copy elsewhere. -/
def dut (k : Fin 17) (r : ℕ) : Finset Bool :=
  if k = 0 then (if r = 0 then Finset.univ else ∅)
  else if 7 ≤ k.val ∧ k.val ≤ 10 then (if r < 4 then {false} else ∅)
  else if r = 0 then {false} else ∅

/-- The rounds of a cell. -/
def fin (k : Fin 17) : ℕ := if 7 ≤ k.val ∧ k.val ≤ 10 then 4 else 1

theorem dut_later (k : Fin 17) (r : ℕ) (h : fin k ≤ r) : dut k r = ∅ := by
  unfold fin at h
  unfold dut
  split
  · next e => subst e; rw [if_neg (by decide)] at h; exact if_neg (by omega)
  · split
    · next e => rw [if_pos e] at h; exact if_neg (by omega)
    · next e => rw [if_neg e] at h; exact if_neg (by omega)

/-! ## What is handed over -/

section Pay
variable (m : (ℓ : Loc nD τ sig) → Buf (Elt F) ℓ) (c : Dev nD)

/-- A buffer, or a part of one, at contents of no interest. -/
def anyB {cs : Space} {s : Shape} {e : EltTy} (b : Memref sig .tc cs s e) : sProp 𝕄 :=
  iprop(∃ f : Buf (Elt F) (b.view.loc (c : Thread nD τ)), b.view.loc (c : Thread nD τ) ↦[b.view.set]{fullShare} f)

instance anyB_storable {cs : Space} {s : Shape} {e : EltTy} (b : Memref sig .tc cs s e) :
    BI.Storable (upEmb : UEmb _ 𝕄) (anyB (F := F) c b) := by unfold anyB; infer_instance

/-- The half of the inputs' shares a slot's copies read with. -/
def half (s : Fin 2) : PosShare TreeShare := if s = 0 then fullShare.left else fullShare.right

/-- The part of the input keys a copy reads, at the share of its slot. -/
def kSrc (h : Fin 8) (s : Fin 2) : sProp 𝕄 :=
  iprop((headIn mKin c h).view.loc (c : Thread nD τ) ↦[(headIn mKin c h).view.set]{half s} m (mKin.view.loc (c : Thread nD τ)))
/-- The part of the input values. -/
def vSrc (h : Fin 8) (s : Fin 2) : sProp 𝕄 :=
  iprop((headIn mVin c h).view.loc (c : Thread nD τ) ↦[(headIn mVin c h).view.set]{half s} m (mVin.view.loc (c : Thread nD τ)))

instance kSrc_storable (h : Fin 8) (s : Fin 2) : BI.Storable (upEmb : UEmb _ 𝕄) (kSrc (F := F) m c h s) := by
  unfold kSrc; infer_instance
instance vSrc_storable (h : Fin 8) (s : Fin 2) : BI.Storable (upEmb : UEmb _ 𝕄) (vSrc (F := F) m c h s) := by
  unfold vSrc; infer_instance

/-- The head whose keys the `r`-th copy into slot `s` brings. -/
def headAt (r : ℕ) (s : Fin 2) : Fin 8 := ⟨(2 * r + s.val) % 8, Nat.mod_lt _ (by decide)⟩

/-- What slot `s` holds after the `r`-th copy into it, and the part of the input read. -/
def kPay (s : Fin 2) (r : ℕ) : sProp 𝕄 :=
  iprop(owns (c : Thread nD τ) (slot mKs s) fullShare (kSlab m c (headAt r s)) ∗ kSrc m c (headAt r s) s)
def vPay (s : Fin 2) (r : ℕ) : sProp 𝕄 :=
  iprop(owns (c : Thread nD τ) (slot mVs s) fullShare (vSlab m c (headAt r s)) ∗ vSrc m c (headAt r s) s)

/-- What a payment to a cell hands over: at the barrier the neighbour's receiving buffers; for a departure the buffer
    read, at the share it was read with; for an arrival the buffer written. The two arrivals from the left hand over,
    beside the block, the buffer for the part of the device two places away. -/
def pay (k : Fin 17) (r : ℕ) (d : Bool) : sProp 𝕄 :=
  match k.val with
  | 0 => if d then iprop(anyB (nxt c) (commAt 0) ∗ anyB (nxt c) (commAt 1) ∗ anyB (nxt c) mRr)
      else iprop(anyB (prv c) mLcomm ∗ anyB (prv c) mLr)
  | 1 => owns (c : Thread nD τ) mXb fullShare.left (XB m c)
  | 2 => owns (c : Thread nD τ) (commAt 0) fullShare.left (XB m (prv c))
  | 3 => iprop(owns (c : Thread nD τ) (commAt 0) fullShare (XB m (prv c)) ∗ anyB (prv c) mDr)
  | 4 => iprop(owns (c : Thread nD τ) (commAt 1) fullShare (XB m (opp c)) ∗ anyB (opp c) mDr)
  | 5 => owns (c : Thread nD τ) mXb fullShare.right.left (XB m c)
  | 6 => owns (c : Thread nD τ) mLcomm fullShare (XB m (nxt c))
  | 7 => kPay m c 0 r
  | 8 => kPay m c 1 r
  | 9 => vPay m c 0 r
  | 10 => vPay m c 1 r
  | 11 => owns (c : Thread nD τ) mLb fullShare (SD m c (prv c))
  | 12 => owns (c : Thread nD τ) mRb fullShare (SD m c (nxt c))
  | 13 => owns (c : Thread nD τ) mDb fullShare (SD m c (opp c))
  | 14 => owns (c : Thread nD τ) mLr fullShare (SD m (nxt c) c)
  | 15 => owns (c : Thread nD τ) mRr fullShare (SD m (prv c) c)
  | _ => owns (c : Thread nD τ) mDr fullShare (SD m (opp c) c)

instance pay_storable (k : Fin 17) (r : ℕ) (d : Bool) : BI.Storable (upEmb : UEmb _ 𝕄) (pay (F := F) m c k r d) := by
  unfold pay kPay vPay
  split <;> (try split) <;> infer_instance

end Pay

section Sched
variable (m : (ℓ : Loc nD τ sig) → Buf (Elt F) ℓ)

/-- The rounds of every cell. -/
def Rd : Rounds.Schedule (GSem nD τ sig) Bool 𝕄 where
  duties g r := if g.1.2 = .tc then (match kind g.2 with | some k => dut k r | none => ∅) else ∅
  unitless _ := False
  amount g _ _ := match kind g.2 with | some k => amt k | none => 1
  payload g r d := match kind g.2 with | some k => pay m g.1.1 k r d | none => iprop(emp)
  amount_pos g _ _ _ := by
    cases kind g.2 with
    | none => exact Nat.one_pos
    | some k => exact amt_pos k

instance Rd_payload_storable (g : GSem nD τ sig) (r : ℕ) (d : Bool) :
    BI.Storable (upEmb : UEmb _ 𝕄) ((Rd (F := F) m).payload g r d) := by
  show BI.Storable upEmb (match kind g.2 with | some k => pay m g.1.1 k r d | none => iprop(emp))
  split <;> infer_instance

variable (c : Dev nD) (k : Fin 17)

theorem Rd_duties (r : ℕ) : (Rd (F := F) m).duties (kcell (c, k)) r = dut k r := by
  show (if (Kind.tc : Kind) = .tc then (match kind (csem k) with | some k => dut k r | none => ∅) else ∅) = _
  rw [kind_csem]; rfl

theorem Rd_amount (r : ℕ) (d : Bool) : (Rd (F := F) m).amount (kcell (c, k)) r d = amt k := by
  show (match kind (csem k) with | some k => amt k | none => 1) = _
  rw [kind_csem]

theorem Rd_payload (r : ℕ) (d : Bool) : (Rd (F := F) m).payload (kcell (c, k)) r d = pay m c k r d := by
  show (match kind (csem k) with | some k => pay m c k r d | none => iprop(emp)) = _
  rw [kind_csem]

theorem Rd_later (r : ℕ) (h : fin k ≤ r) : (Rd (F := F) m).duties (kcell (c, k)) r = ∅ := by
  rw [Rd_duties, dut_later k r h]

theorem Rd_expect (r : ℕ) : (Rd (F := F) m).expect (kcell (c, k)) r = (dut k r).card * amt k := by
  unfold Schedule.expect Schedule.amountOf
  rw [Rd_duties, Finset.sum_congr rfl fun d _ => Rd_amount m c k r d, Finset.sum_const, smul_eq_mul]

/-- What a wait for the whole of a one-payment round gives. -/
theorem Rd_rest (r : ℕ) (h : dut k r = {false}) :
    bigSep ((Rd (F := F) m).duties (kcell (c, k)) r \ ∅) (fun d => (Rd (F := F) m).payload (kcell (c, k)) r d) = pay m c k r false := by
  rw [Finset.sdiff_empty, Rd_duties, h, bigSep_singleton, Rd_payload]

/-- What the barrier's wait gives. -/
theorem Rd_rest0 :
    bigSep ((Rd (F := F) m).duties (kcell (c, 0)) 0 \ ∅) (fun d => (Rd (F := F) m).payload (kcell (c, 0)) 0 d)
      = iprop(pay m c 0 0 false ∗ pay m c 0 0 true) := by
  have h : dut 0 0 = Finset.univ := by decide
  rw [Finset.sdiff_empty, Rd_duties, h, bigSep_univ_eq_bigSepL [false, true] (by decide) (by decide), bigSepL_cons_cons, bigSepL_singleton,
    Rd_payload, Rd_payload]
  rfl

end Sched

/-! ## What each device owes at launch -/

/-- What is owed to a list of cells, one payment to each; the first of the list is paid first. -/
def debt : List (Dev nD × Fin 17) → CellTallies nD τ sig Unit
  | [] => 0
  | x :: l => debt l + tallyAt (kcell x) () (amt x.2)

/-- The payments device `c` makes to others, in order. -/
def dues (c : Dev nD) : List (Dev nD × Fin 17) :=
  [(prv c, 0), (nxt c, 0), (nxt c, 3), (prv c, 6), (nxt c, 4), (prv c, 14), (nxt c, 15), (opp c, 16)]

/-- The level of a cell: what a device may still owe when it waits there must lie above. -/
def lvl (k : Fin 17) : ℕ :=
  match k.val with
  | 0 => 1
  | 1 => 0 | 2 => 0
  | 3 => 2 | 4 => 3
  | 5 => 0 | 6 => 3
  | 7 => 0 | 8 => 0 | 9 => 0 | 10 => 0
  | 11 => 0 | 12 => 0 | 13 => 0
  | 14 => 4 | 15 => 4 | _ => 4

abbrev LS (g : GSem nD τ sig) : Finset Unit := if g.1.2 = .tc then {()} else ∅
/-- The level of every cell of the machine. -/
def lv (g : GSem nD τ sig) (_ : Unit) : ℕ := match kind g.2 with | some k => lvl k | none => 0

theorem mem_LS (c : Dev nD) (sm : SemLoc sig) : () ∈ LS ((c : Thread nD τ), sm) := by
  rw [LS, if_pos rfl]; exact Finset.mem_singleton_self ()

theorem lv_kcell (ck : Dev nD × Fin 17) (u : Unit) : lv (kcell ck) u = lvl ck.2 := by
  show (match kind (csem ck.2) with | some k => lvl k | none => 0) = _
  rw [kind_csem]

theorem debt_pos (l : List (Dev nD × Fin 17)) (g : GSem nD τ sig) (u : Unit) (h : 0 < debt l g u) : ∃ x ∈ l, g = kcell x := by
  induction l with
  | nil => exact absurd h (by show ¬ 0 < (0 : CellTallies nD τ sig Unit) g u; exact Nat.lt_irrefl 0)
  | cons x l ih =>
    by_cases e : g = kcell x
    · exact ⟨x, List.mem_cons_self .., e⟩
    · have h' : 0 < debt l g u + tallyAt (kcell x) () (amt x.2) g u := h
      have z : tallyAt (kcell x) () (amt x.2) g u = 0 := by rw [tallyAt_ne_cell e]; rfl
      rw [z, Nat.add_zero] at h'
      obtain ⟨y, hy, e⟩ := ih h'
      exact ⟨y, List.mem_cons_of_mem _ hy, e⟩

/-- A device may wait at a cell while what it still owes lies above it. -/
theorem mayWait (c : Dev nD) (sm : SemLoc sig) (l : List (Dev nD × Fin 17))
    (h : ∀ x ∈ l, lv ((c : Thread nD τ), sm) () < lvl x.2) :
    (levAts LS lv : sProp 𝕄) ⊢ MayWait (c : Thread nD τ) sm () (debt l) := by
  refine MayOwe.of_cut (L := LS) (lev := lv) (lv ((c : Thread nD τ), sm) ())
    (fun p hp => by rw [Finset.mem_singleton.mp hp]; exact mem_LS _ _)
    (fun g u hg => by obtain ⟨x, hx, rfl⟩ := debt_pos l g u hg; exact mem_LS _ _)
    (fun p hp => by rw [Finset.mem_singleton.mp hp])
    (fun g u hg => by obtain ⟨x, hx, rfl⟩ := debt_pos l g u hg; rw [lv_kcell]; exact h x hx)

/-- The number of payments to a cell in a list. -/
theorem debt_at (l : List (Dev nD × Fin 17)) (ck : Dev nD × Fin 17) : debt l (kcell ck) () = l.count ck * amt ck.2 := by
  induction l with
  | nil => rw [List.count_nil, Nat.zero_mul]; rfl
  | cons x l ih =>
    have h' : debt (x :: l) (kcell ck) () = debt l (kcell ck) () + tallyAt (kcell x) () (amt x.2) (kcell ck) () := rfl
    rw [h', ih, List.count_cons, Nat.add_mul]
    congr 1
    by_cases e : x = ck
    · subst e
      rw [tallyAt_self]
      simp
    · rw [tallyAt_ne_cell fun he => e (kcell_inj he).symm]
      simp [e]

/-- What the devices together owe a cell. -/
theorem dues_count (c : Dev nD) (k : Fin 17) :
    ∑ d : Dev nD, (dues d).count (c, k) = if k = 0 then 2 else if k = 3 ∨ k = 4 ∨ k = 6 ∨ k = 14 ∨ k = 15 ∨ k = 16 then 1 else 0 := by
  revert c k; decide

end Cert.Proof.K
-- ==== Proof.Pieces.lean ====
module

public import proofs.«01_k».proof.Proof.Values

/-!
  What each piece of the body that stays on its device does to the buffers.
-/

@[expose] public section

set_option synthInstance.maxSize 4096
set_option maxRecDepth 16384

noncomputable section

namespace Cert.Proof.K

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- Device `c` holds the whole buffer of `m` at contents `f`. -/
abbrev at' (c : Dev nD) {cs : Space} {s : Shape} {e : EltTy} (m : Memref sig .tc cs s e) (q : PosShare TreeShare)
    (f : Buf (Elt F) (m.view.loc (c : Thread nD τ))) : sProp 𝕄 := m.view.loc (c : Thread nD τ) ↦{q} f

theorem hz2 : (![0, 0] : Fin 2 → Nat) = fun _ => 0 := funext fun a => by fin_cases a <;> rfl

theorem wret (c : Dev nD) {α : Type} (a : α) (Q : α → sProp 𝕄) : Q a ⊢ Wp c (.ret a) Q := by
  show Q a ⊢ wp _ _ _ _ _
  rw [wp_ret]
  iintro H
  imodintro
  iexact H

theorem wbind (c : Dev nD) {α β : Type} (p : P (F := F) α) (k : α → P (F := F) β) (Q : β → sProp 𝕄) :
    Wp c (p >>= k) Q = Wp c p fun a => Wp c (k a) Q := wp_bind _ _ _ _ _ _

section

variable (c : Dev nD) (b : Fin 4)

/-- Eight pieces in order, each taking what the heads before it left. -/
theorem wp_heads (p : Fin 8 → P (F := F) PUnit) (R : ℕ → sProp 𝕄)
    (hp : ∀ (h : Fin 8) (Kt : PUnit → sProp 𝕄), iprop(R h.val ∗ (R (h.val + 1) -∗ Kt ⟨⟩)) ⊢ Wp c (p h) Kt)
    (Kt : PUnit → sProp 𝕄) : iprop(R 0 ∗ (R 8 -∗ Kt ⟨⟩)) ⊢ Wp c (heads p) Kt := by
  unfold heads
  simp only [wbind]
  iintro ⟨H, Hk⟩
  iapply (show iprop(R 0 ∗ (R 1 -∗ _)) ⊢ _ from hp 0 _); isplitl [H]; · iexact H
  iintro H
  iapply (show iprop(R 1 ∗ (R 2 -∗ _)) ⊢ _ from hp 1 _); isplitl [H]; · iexact H
  iintro H
  iapply (show iprop(R 2 ∗ (R 3 -∗ _)) ⊢ _ from hp 2 _); isplitl [H]; · iexact H
  iintro H
  iapply (show iprop(R 3 ∗ (R 4 -∗ _)) ⊢ _ from hp 3 _); isplitl [H]; · iexact H
  iintro H
  iapply (show iprop(R 4 ∗ (R 5 -∗ _)) ⊢ _ from hp 4 _); isplitl [H]; · iexact H
  iintro H
  iapply (show iprop(R 5 ∗ (R 6 -∗ _)) ⊢ _ from hp 5 _); isplitl [H]; · iexact H
  iintro H
  iapply (show iprop(R 6 ∗ (R 7 -∗ _)) ⊢ _ from hp 6 _); isplitl [H]; · iexact H
  iintro H
  iapply (show iprop(R 7 ∗ (R 8 -∗ _)) ⊢ _ from hp 7 _); isplitl [H]; · iexact H
  iexact Hk

/-- The queries of a block. -/
theorem wp_storeQ (Q : Fin 4 → Vec F S256x1024 .bf16) (S : Finset (Fin 4)) (x : Vec F S256x1024 .bf16)
    (WQ : Vec F S1024x1024 .bf16) (f : Vec F S1024x1024 .bf16) (hf : HasQ Q S f) (hx : vQ x WQ = Q b)
    (Kt : PUnit → sProp 𝕄) :
    iprop(at' c mWq fullShare WQ ∗ at' c mQ fullShare f
        ∗ ((at' c mWq fullShare WQ ∗ ∃ g : Vec F S1024x1024 .bf16, ⌜HasQ Q (insert b S) g⌝ ∗ at' c mQ fullShare g) -∗ Kt ⟨⟩))
      ⊢ Wp c (storeQ (blk b) x) Kt := by
  unfold storeQ
  simp only [Prog.lift, Prog.bind_op, Prog.bind_ret, Prog.pure_eq_ret]
  iintro ⟨HW, HQ, Hk⟩
  iapply (ld c mWq (v := WQ) (Memref.readAt_unit_zero (Elt F) cc0_scratch8 hz2 _ WQ)) $$ HW
  iintro HW
  iapply (ld c mQ rfl) $$ HQ
  iintro HQ
  iapply (st c mQ (HasQ Q (insert b S)) (hf.store (hx ▸ stored_whole cc0_scratch3 (rR b) f _))) $$ HQ
  iintro HQ
  iapply (wret c)
  iapply Hk
  isplitl [HW]; · iexact HW
  iexact HQ

/-- One head's context. -/
theorem wp_attnHead (h : Fin 8) (Q : Fin 4 → Vec F S256x1024 .bf16) (S : Finset (Fin 4)) (hb : b ∈ S)
    (K V : Vec F S8x4096x128 .bf16) (f : Vec F S1024x1024 .bf16) (hf : HasQ Q S f) (n : ℕ) (hn : h.val = n)
    (Kt : PUnit → sProp 𝕄) :
    iprop(at' c mQ fullShare f ∗ at' c mKb fullShare K ∗ at' c mVb fullShare V
        ∗ (∃ g : Vec F S256x1024 .bf16, ⌜HasC (headCtx b (Q b) K V) n g⌝ ∗ at' c mCtx fullShare g)
        ∗ ((at' c mQ fullShare f ∗ at' c mKb fullShare K ∗ at' c mVb fullShare V
            ∗ ∃ g : Vec F S256x1024 .bf16, ⌜HasC (headCtx b (Q b) K V) (n + 1) g⌝ ∗ at' c mCtx fullShare g) -∗ Kt ⟨⟩))
      ⊢ Wp c (attnHead (blk b) h) Kt := by
  unfold attnHead
  simp only [Prog.lift, Prog.bind_op, Prog.bind_ret, Prog.pure_eq_ret]
  iintro ⟨HQ, HK, HV, ⟨%g, %hg, HC⟩, Hk⟩
  iapply (ld c mQ (r := rQ b h) (f := f) (v := fun j : S256x128.Idx => Q b ((rC h).idx j))
    (funext fun j => (congrArg f (rQ_idx b h j)).trans (hf b hb _))) $$ HQ
  iintro HQ
  iapply (ld c mKb (v := fun j : S1x512x128.Idx => K ((rK b h).idx j)) rfl) $$ HK
  iintro HK
  iapply (ld c mKb (v := fun j : S1x128x128.Idx => K ((rP h).idx j)) rfl) $$ HK
  iintro HK
  iapply (ld c mVb (v := fun j : S1x512x128.Idx => V ((rK b h).idx j)) rfl) $$ HV
  iintro HV
  iapply (ld c mVb (v := fun j : S1x128x128.Idx => V ((rP h).idx j)) rfl) $$ HV
  iintro HV
  iapply (ld c mCtx rfl) $$ HC
  iintro HC
  iapply (st c mCtx (HasC (headCtx b (Q b) K V) (n + 1)) (hg.store hn (stored_whole cc0_scratch10 (rC h) g _))) $$ HC
  iintro HC
  iapply (wret c)
  iapply Hk
  isplitl [HQ]; · iexact HQ
  isplitl [HK]; · iexact HK
  isplitl [HV]; · iexact HV
  iexact HC

/-- What a block's attention reads and writes: the queries, the keys and values, the context. -/
def attnRes (Q : Fin 4 → Vec F S256x1024 .bf16) (K V : Vec F S8x4096x128 .bf16) (f : Vec F S1024x1024 .bf16) (n : ℕ) :
    sProp 𝕄 :=
  iprop(at' c mQ fullShare f ∗ at' c mKb fullShare K ∗ at' c mVb fullShare V
    ∗ ∃ g : Vec F S256x1024 .bf16, ⌜HasC (headCtx b (Q b) K V) n g⌝ ∗ at' c mCtx fullShare g)

theorem wp_attnHeads (Q : Fin 4 → Vec F S256x1024 .bf16) (S : Finset (Fin 4)) (hb : b ∈ S)
    (K V : Vec F S8x4096x128 .bf16) (f : Vec F S1024x1024 .bf16) (hf : HasQ Q S f) (Kt : PUnit → sProp 𝕄) :
    iprop(attnRes c b Q K V f 0 ∗ (attnRes c b Q K V f 8 -∗ Kt ⟨⟩)) ⊢ Wp c (heads (attnHead (blk b))) Kt := by
  refine wp_heads c _ (attnRes c b Q K V f) (fun h Kt => ?_) Kt
  unfold attnRes
  iintro ⟨⟨HQ, HK, HV, HC⟩, Hk⟩
  iapply (wp_attnHead c b h Q S hb K V f hf h.val rfl)
  isplitl [HQ]; · iexact HQ
  isplitl [HK]; · iexact HK
  isplitl [HV]; · iexact HV
  isplitl [HC]; · iexact HC
  iexact Hk

/-- The block's rows of the partial result. -/
theorem wp_attnProj (X : Vec F S256x1024 .bf16) (WO : Vec F S1024x1024 .bf16) (f : Vec F S1024x1024 .f32)
    (Kt : PUnit → sProp 𝕄) :
    iprop(at' c mCtx fullShare X ∗ at' c mWo fullShare WO ∗ at' c mPart fullShare f
        ∗ ((at' c mCtx fullShare X ∗ at' c mWo fullShare WO
          ∗ ∃ g : Vec F S1024x1024 .f32, ⌜HasP b (vPart X WO) g⌝ ∗ at' c mPart fullShare g) -∗ Kt ⟨⟩))
      ⊢ Wp c (attnProj (blk b)) Kt := by
  unfold attnProj loadX attnTail
  simp only [Prog.lift, Prog.bind_op, Prog.bind_ret, Prog.pure_eq_ret]
  iintro ⟨HC, HW, HP, Hk⟩
  iapply (ld c mCtx (v := X) (Memref.readAt_unit_zero (Elt F) cc0_scratch10 hz2 _ X)) $$ HC
  iintro HC
  iapply (ld c mWo (v := WO) (Memref.readAt_unit_zero (Elt F) cc0_scratch9 hz2 _ WO)) $$ HW
  iintro HW
  iapply (ld c mPart rfl) $$ HP
  iintro HP
  iapply (st c mPart (HasP b (vPart X WO)) (stored_whole cc0_scratch11 (rR b) f _).1) $$ HP
  iintro HP
  iapply (wret c)
  iapply Hk
  isplitl [HC]; · iexact HC
  isplitl [HW]; · iexact HW
  iexact HP

/-- One head of the global rows. -/
theorem wp_globHead (h : Fin 8) (Q : Fin 4 → Vec F S256x1024 .bf16) (S : Finset (Fin 4)) (hb : 0 ∈ S)
    (K V : Vec F S8x4096x128 .bf16) (WO : Vec F S1024x1024 .bf16) (f : Vec F S1024x1024 .bf16) (hf : HasQ Q S f)
    (Kt : FVec F S32x1024 .f32 → sProp 𝕄) :
    iprop((at' c mQ fullShare f ∗ at' c mKb fullShare K ∗ at' c mVb fullShare V ∗ at' c mWo fullShare WO)
        ∗ ((at' c mQ fullShare f ∗ at' c mKb fullShare K ∗ at' c mVb fullShare V ∗ at' c mWo fullShare WO)
          -∗ Kt (globTerm (Q 0) K V WO h)))
      ⊢ Wp c (globHead h) Kt := by
  unfold globHead
  simp only [Prog.lift, Prog.bind_op, Prog.bind_ret, Prog.pure_eq_ret]
  iintro ⟨⟨HQ, HK, HV, HW⟩, Hk⟩
  iapply (ld c mQ (r := rG h) (f := f) (v := fun j : S32x128.Idx => Q 0 ((rG' h).idx j))
    (funext fun j => (congrArg f (rG_idx h j)).trans (hf 0 hb _))) $$ HQ
  iintro HQ
  iapply (ld c mKb (v := fun j : S1x4096x128.Idx => K ((rA h).idx j)) rfl) $$ HK
  iintro HK
  iapply (ld c mVb (v := fun j : S1x4096x128.Idx => V ((rA h).idx j)) rfl) $$ HV
  iintro HV
  iapply (ld c mWo (v := fun j : S128x1024.Idx => WO ((rW h).idx j)) rfl) $$ HW
  iintro HW
  iapply (show Kt (globTerm (Q 0) K V WO h) ⊢ _ from wret c _ Kt)
  iapply Hk
  isplitl [HQ]; · iexact HQ
  isplitl [HK]; · iexact HK
  isplitl [HV]; · iexact HV
  iexact HW

/-- The global rows, when the block is the first. -/
theorem wp_glob (Q : Fin 4 → Vec F S256x1024 .bf16) (S : Finset (Fin 4)) (hb : 0 ∈ S)
    (K V : Vec F S8x4096x128 .bf16) (WO : Vec F S1024x1024 .bf16) (f : Vec F S1024x1024 .bf16) (hf : HasQ Q S f)
    (X : Vec F S256x1024 .f32) (p : Vec F S1024x1024 .f32) (hp : HasP 0 X p)
    (Kt : PUnit → sProp 𝕄) :
    iprop((at' c mQ fullShare f ∗ at' c mKb fullShare K ∗ at' c mVb fullShare V ∗ at' c mWo fullShare WO)
        ∗ at' c mPart fullShare p
        ∗ (((at' c mQ fullShare f ∗ at' c mKb fullShare K ∗ at' c mVb fullShare V ∗ at' c mWo fullShare WO)
          ∗ ∃ g : Vec F S1024x1024 .f32, ⌜HasP 0 (withGlob (globSum (Q 0) K V WO) X) g⌝ ∗ at' c mPart fullShare g) -∗ Kt ⟨⟩))
      ⊢ Wp c glob Kt := by
  unfold glob
  simp only [wbind]
  iintro ⟨H, HP, Hk⟩
  iapply (wp_globHead c 0 Q S hb K V WO f hf); isplitl [H]; · iexact H
  iintro H
  iapply (wp_globHead c 1 Q S hb K V WO f hf); isplitl [H]; · iexact H
  iintro H
  iapply (wp_globHead c 2 Q S hb K V WO f hf); isplitl [H]; · iexact H
  iintro H
  iapply (wp_globHead c 3 Q S hb K V WO f hf); isplitl [H]; · iexact H
  iintro H
  iapply (wp_globHead c 4 Q S hb K V WO f hf); isplitl [H]; · iexact H
  iintro H
  iapply (wp_globHead c 5 Q S hb K V WO f hf); isplitl [H]; · iexact H
  iintro H
  iapply (wp_globHead c 6 Q S hb K V WO f hf); isplitl [H]; · iexact H
  iintro H
  iapply (wp_globHead c 7 Q S hb K V WO f hf); isplitl [H]; · iexact H
  iintro H
  simp only [← wbind]
  simp only [Prog.lift, Prog.bind_op, Prog.bind_ret, Prog.pure_eq_ret]
  iapply (ld c mPart (v := fun j : S32x1024.Idx => p (rT.idx j)) rfl) $$ HP
  iintro HP
  iapply (ld c mPart rfl) $$ HP
  iintro HP
  iapply (st c mPart (HasP 0 (withGlob (globSum (Q 0) K V WO) X)) (hp.glob (stored_whole cc0_scratch11 rT p _))) $$ HP
  iintro HP
  iapply (wret c)
  iapply Hk
  isplitl [H]; · iexact H
  iexact HP

/-- The attention of one block, from its queries to its rows of the partial result. -/
theorem wp_attn (Q : Fin 4 → Vec F S256x1024 .bf16) (S : Finset (Fin 4)) (hb : b ∈ S)
    (K V : Vec F S8x4096x128 .bf16) (WO : Vec F S1024x1024 .bf16) (f : Vec F S1024x1024 .bf16) (hf : HasQ Q S f)
    (Kt : sProp 𝕄) :
    iprop((at' c mQ fullShare f ∗ at' c mKb fullShare K ∗ at' c mVb fullShare V ∗ at' c mWo fullShare WO)
        ∗ (∃ g : Vec F S256x1024 .bf16, at' c mCtx fullShare g) ∗ (∃ g : Vec F S1024x1024 .f32, at' c mPart fullShare g)
        ∗ (((at' c mQ fullShare f ∗ at' c mKb fullShare K ∗ at' c mVb fullShare V ∗ at' c mWo fullShare WO)
            ∗ (∃ g : Vec F S256x1024 .bf16, at' c mCtx fullShare g)
            ∗ ∃ g : Vec F S1024x1024 .f32, ⌜HasP b (partOf b (Q b) K V WO) g⌝ ∗ at' c mPart fullShare g) -∗ Kt))
      ⊢ Wp c (heads (attnHead (blk b))) fun _ => Wp c (attnProj (blk b)) fun _ => Wp c (whenFirst (blk b).w) fun _ => Kt := by
  iintro ⟨⟨HQ, HK, HV, HW⟩, ⟨%g, HC⟩, ⟨%p, HP⟩, Hk⟩
  iapply (wp_attnHeads c b Q S hb K V f hf)
  isplitl [HQ HK HV HC]
  · unfold attnRes
    isplitl [HQ]; · iexact HQ
    isplitl [HK]; · iexact HK
    isplitl [HV]; · iexact HV
    iexists g
    isplitr; · ipureintro; intro h hh; exact absurd hh (Nat.not_lt_zero _)
    iexact HC
  unfold attnRes
  iintro ⟨HQ, HK, HV, ⟨%x, %hx, HC⟩⟩
  have hx' := hx.all
  subst hx'
  iapply (wp_attnProj c b (ctxOf b (Q b) K V) WO p)
  isplitl [HC]; · iexact HC
  isplitl [HW]; · iexact HW
  isplitl [HP]; · iexact HP
  iintro ⟨HC, HW, ⟨%y, %hy, HP⟩⟩
  unfold whenFirst
  by_cases hb0 : b = 0
  · have h1 : isFirst (blk b).w = 1#1 := (isFirst_eq b).mpr hb0
    rw [dif_pos h1]
    subst hb0
    iapply (wp_glob c Q S hb K V WO f hf (vPart (ctxOf 0 (Q 0) K V) WO) y hy)
    isplitl [HQ HK HV HW]
    · isplitl [HQ]; · iexact HQ
      isplitl [HK]; · iexact HK
      isplitl [HV]; · iexact HV
      iexact HW
    isplitl [HP]; · iexact HP
    iintro ⟨H, HP⟩
    iapply Hk
    isplitl [H]; · iexact H
    isplitl [HC]; · iexists _; iexact HC
    unfold partOf
    rw [if_pos rfl]
    iexact HP
  · have h1 : ¬ isFirst (blk b).w = 1#1 := fun h => hb0 ((isFirst_eq b).mp h)
    rw [dif_neg h1]
    iapply (wret c)
    iapply Hk
    isplitl [HQ HK HV HW]
    · isplitl [HQ]; · iexact HQ
      isplitl [HK]; · iexact HK
      isplitl [HV]; · iexact HV
      iexact HW
    isplitl [HC]; · iexists _; iexact HC
    unfold partOf
    rw [if_neg hb0]
    iexists y
    isplitr; · ipureintro; exact hy
    iexact HP

/-- The rectangle of a whole buffer of one block. -/
abbrev r00 : Rect S256x1024 := Rect.unit (s := S256x1024) ![0, 0] S256x1024.size inb_S256x1024_S256x1024_0_0

/-- A block of the partial result, rounded into a buffer to be sent from. -/
theorem wp_packPart (m : Memref sig .tc .vmem S256x1024 .bf16) (hm : m.IsWhole)
    (hw : ∀ (g : Buf (Elt F) (m.view.loc (c : Thread nD τ))) (w : Vec F S256x1024 .bf16),
      m.view.read (Elt F) ((m.access r00).write (Elt F) g w Finset.univ) = w)
    (hs : m.view.set = Finset.univ)
    (X : Vec F S256x1024 .f32) (f : Vec F S1024x1024 .f32) (hf : HasP b X f) (g : Buf (Elt F) (m.view.loc (c : Thread nD τ)))
    (Kt : PUnit → sProp 𝕄) :
    iprop(at' c mPart fullShare f ∗ at' c m fullShare g
        ∗ ((at' c mPart fullShare f ∗ owns (c : Thread nD τ) m fullShare (vSend X)) -∗ Kt ⟨⟩))
      ⊢ Wp c (packPart (blk b) m hm) Kt := by
  unfold packPart loadPart
  simp only [Prog.lift, Prog.bind_op, Prog.bind_ret, Prog.pure_eq_ret]
  iintro ⟨HP, Hm, Hk⟩
  iapply (ld c mPart (r := rR b) (f := f) (v := X) (funext fun j => hf j)) $$ HP
  iintro HP
  iapply (ld c m rfl) $$ Hm
  iintro Hm
  iapply (st c m (fun g => m.view.read (Elt F) g = vSend X) (hw g _)) $$ Hm
  iintro ⟨%y, %hy, Hm⟩
  iapply (wret c)
  iapply Hk
  isplitl [HP]; · iexact HP
  unfold owns
  iexists y
  isplitr; · ipureintro; exact hy
  rw [hs]
  iexact Hm

/-- The loads of a whole buffer of one block. -/
theorem wp_loadX (m : Memref sig .tc .vmem S256x1024 .bf16) (q : PosShare TreeShare)
    (hr : ∀ g : Buf (Elt F) (m.view.loc (c : Thread nD τ)), m.view.readAt (Elt F) r00.toLoadRect g = m.view.read (Elt F) g)
    (hs : m.view.set = Finset.univ) (X : Vec F S256x1024 .bf16) (Kt : Vec F S256x1024 .bf16 → sProp 𝕄) :
    iprop(owns (c : Thread nD τ) m q X ∗ (owns (c : Thread nD τ) m q X -∗ Kt X)) ⊢ Wp c (loadX m) Kt := by
  unfold loadX Prog.lift owns
  rw [hs]
  iintro ⟨⟨%g, %hg, Hm⟩, Hk⟩
  iapply (ld c m (v := X) ((hr g).trans hg)) $$ Hm
  iintro Hm
  iapply (wret c)
  iapply Hk
  iexists g
  isplitr; · ipureintro; exact hg
  iexact Hm

/-- The rounded inputs. -/
theorem wp_prologue (X : Vec F S256x1024 .f32) (W0 W1 : Vec F S1024x1024 .f32) (x : Vec F S256x1024 .bf16)
    (w0 w1 : Vec F S1024x1024 .bf16) (Kt : PUnit → sProp 𝕄) :
    iprop(at' c (Memref.whole cc0_stg0_0) fullShare X ∗ at' c (Memref.whole cc0_stg1_0) fullShare W0
        ∗ at' c (Memref.whole cc0_stg2_0) fullShare W1
        ∗ at' c mXb fullShare x ∗ at' c mWq fullShare w0 ∗ at' c mWo fullShare w1
        ∗ ((at' c (Memref.whole cc0_stg0_0) fullShare X ∗ at' c (Memref.whole cc0_stg1_0) fullShare W0
          ∗ at' c (Memref.whole cc0_stg2_0) fullShare W1
          ∗ at' c mXb fullShare (k0_pay45 X) ∗ at' c mWq fullShare (k0_pay46 W0) ∗ at' c mWo fullShare (k0_pay47 W1)) -∗ Kt ⟨⟩))
      ⊢ Wp c (prologue (Memref.whole cc0_stg0_0) (Memref.whole cc0_stg1_0) (Memref.whole cc0_stg2_0)) Kt := by
  unfold prologue
  simp only [Prog.lift, Prog.bind_op, Prog.bind_ret, Prog.pure_eq_ret]
  iintro ⟨H0, H1, H4, Hx, Hq, Ho, Hk⟩
  iapply (ld c (Memref.whole cc0_stg0_0) (v := X) (Memref.readAt_unit_zero (Elt F) cc0_stg0_0 hz2 _ X)) $$ H0
  iintro H0
  iapply (ld c mXb rfl) $$ Hx
  iintro Hx
  iapply (st c mXb (fun g => g = k0_pay45 X) (Memref.write_access_unit_zero_univ (Elt F) cc0_scratch0 hz2 _ x _)) $$ Hx
  iintro ⟨%y0, %h0, Hx⟩
  iapply (ld c (Memref.whole cc0_stg1_0) (v := W0) (Memref.readAt_unit_zero (Elt F) cc0_stg1_0 hz2 _ W0)) $$ H1
  iintro H1
  iapply (ld c mWq rfl) $$ Hq
  iintro Hq
  iapply (st c mWq (fun g => g = k0_pay46 W0) (Memref.write_access_unit_zero_univ (Elt F) cc0_scratch8 hz2 _ w0 _)) $$ Hq
  iintro ⟨%y1, %h1, Hq⟩
  iapply (ld c (Memref.whole cc0_stg2_0) (v := W1) (Memref.readAt_unit_zero (Elt F) cc0_stg2_0 hz2 _ W1)) $$ H4
  iintro H4
  iapply (ld c mWo rfl) $$ Ho
  iintro Ho
  iapply (st c mWo (fun g => g = k0_pay47 W1) (Memref.write_access_unit_zero_univ (Elt F) cc0_scratch9 hz2 _ w1 _)) $$ Ho
  iintro ⟨%y2, %h2, Ho⟩
  iapply (wret c)
  iapply Hk
  isplitl [H0]; · iexact H0
  isplitl [H1]; · iexact H1
  isplitl [H4]; · iexact H4
  isplitl [Hx]; · rw [h0]; iexact Hx
  isplitl [Hq]; · rw [h1]; iexact Hq
  rw [h2]; iexact Ho

/-- The sum of the four parts. -/
theorem wp_finish (p : Vec F S1024x1024 .f32) (P : Vec F S256x1024 .f32) (hp : HasP b P p)
    (L R D : Vec F S256x1024 .bf16) (o : Vec F S256x1024 .f32) (h5 : (Memref.whole cc0_stg3_0).IsWhole)
    (hb : blkMe c = blk b)
    (Kt : PUnit → sProp 𝕄) :
    iprop(at' c mPart fullShare p ∗ at' c mLr fullShare L ∗ at' c mRr fullShare R ∗ at' c mDr fullShare D
        ∗ at' c (Memref.whole cc0_stg3_0) fullShare o
        ∗ ((at' c mPart fullShare p ∗ at' c mLr fullShare L ∗ at' c mRr fullShare R ∗ at' c mDr fullShare D
          ∗ at' c (Memref.whole cc0_stg3_0) fullShare (vOut P L R D)) -∗ Kt ⟨⟩))
      ⊢ Wp c (finish c (Memref.whole cc0_stg3_0) h5) Kt := by
  unfold finish loadPart loadX
  rw [hb]
  simp only [Prog.lift, Prog.bind_op, Prog.bind_ret, Prog.pure_eq_ret]
  iintro ⟨HP, HL, HR, HD, HO, Hk⟩
  iapply (ld c mPart (r := rR b) (f := p) (v := P) (funext fun j => hp j)) $$ HP
  iintro HP
  iapply (ld c mLr (v := L) (Memref.readAt_unit_zero (Elt F) cc0_scratch15 hz2 _ L)) $$ HL
  iintro HL
  iapply (ld c mRr (v := R) (Memref.readAt_unit_zero (Elt F) cc0_scratch16 hz2 _ R)) $$ HR
  iintro HR
  iapply (ld c mDr (v := D) (Memref.readAt_unit_zero (Elt F) cc0_scratch17 hz2 _ D)) $$ HD
  iintro HD
  iapply (ld c (Memref.whole cc0_stg3_0) rfl) $$ HO
  iintro HO
  iapply (st c (Memref.whole cc0_stg3_0) (fun g => g = vOut P L R D)
    (Memref.write_access_unit_zero_univ (Elt F) cc0_stg3_0 hz2 _ o _)) $$ HO
  iintro ⟨%y, %hy, HO⟩
  iapply (wret c)
  iapply Hk
  isplitl [HP]; · iexact HP
  isplitl [HL]; · iexact HL
  isplitl [HR]; · iexact HR
  isplitl [HD]; · iexact HD
  rw [hy]; iexact HO

/-- A slot of the receiving buffer, read as a block. -/
theorem wp_loadComm (s : Fin 2) (q : PosShare TreeShare) (X : Vec F S256x1024 .bf16)
    (Kt : Vec F S256x1024 .bf16 → sProp 𝕄) :
    iprop(owns (c : Thread nD τ) (commAt s) q X ∗ (owns (c : Thread nD τ) (commAt s) q X -∗ Kt X))
      ⊢ Wp c (loadComm s) Kt := by
  unfold loadComm owns
  simp only [Prog.lift, Prog.bind_op, Prog.bind_ret, Prog.pure_eq_ret]
  iintro ⟨⟨%g, %hg, Hm⟩, Hk⟩
  subst hg
  iapply (wp_load_rect 𝒱₀ (c : Thread nD τ) none Set.univ (m := mComm)
    (r := Rect.unit (s := S2x256x1024) ![(s : ℕ), 0, 0] S1x256x1024.size (inbComm s))
    (Finset.subset_of_eq (View.set_reshape _ _).symm)) $$ Hm
  iintro Hm
  iapply (show Kt ((commAt s).view.read (Elt F) g) ⊢ _ from wret c _ Kt)
  iapply Hk
  iexists g
  isplitr; · ipureintro; rfl
  iexact Hm

end

end Cert.Proof.K
-- ==== Proof.Copies.lean ====
module

public import proofs.«01_k».proof.Proof.Protocol
public import proofs.«01_k».proof.Proof.Pieces
public import Idealize.ShloMosaic.Lib.Pipeline.Value

/-!
  The copies between the devices and from the inputs, the waits for them, and the handshake they start from.
-/

@[expose] public section

set_option synthInstance.maxSize 4096
set_option maxRecDepth 16384

noncomputable section

namespace Cert.Proof.K

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

section
variable (m : (ℓ : Loc nD τ sig) → Buf (Elt F) ℓ) (K : Dev nD × Fin 17 → ℕ) (c : Dev nD)

/-! ## What every device knows -/

/-- Every cell's invariant, that its first round is reached, and the levels. -/
def ctx : sProp 𝕄 :=
  iprop((bigSep Finset.univ fun ck => cellInv ER (Rd m) (K ck) (kcell ck))
    ∗ (bigSep Finset.univ fun ck : Dev nD × Fin 17 => reached ER (kcell ck) 0) ∗ levAts LS lv)

instance ctx_persistent : BI.Persistent (ctx m K) := by unfold ctx; infer_instance

theorem invs_elim (ck : Dev nD × Fin 17) :
    (bigSep Finset.univ fun ck => cellInv ER (Rd m) (K ck) (kcell ck) : sProp 𝕄) ⊢ cellInv ER (Rd m) (K ck) (kcell ck) :=
  bigSep_elim (Finset.mem_univ ck)

theorem marks_elim (ck : Dev nD × Fin 17) :
    (bigSep Finset.univ fun ck : Dev nD × Fin 17 => (reached ER (kcell ck) 0 : sProp 𝕄)) ⊢ reached ER (kcell ck) 0 :=
  bigSep_elim (Finset.mem_univ ck)

theorem ctx_inv (ck : Dev nD × Fin 17) : ctx m K ⊢ cellInv ER (Rd m) (K ck) (kcell ck) := by
  unfold ctx
  iintro ⟨H, -, -⟩
  iapply (invs_elim m K ck); iexact H

theorem ctx_reached (ck : Dev nD × Fin 17) : ctx m K ⊢ reached ER (kcell ck) 0 := by
  unfold ctx
  iintro ⟨-, H, -⟩
  iapply (marks_elim ck); iexact H

theorem ctx_lev : ctx m K ⊢ levAts LS lv := by
  unfold ctx
  iintro ⟨-, -, H⟩
  iexact H

/-- What a device still owes, wherever it has waited. -/
def ow (l : List (Dev nD × Fin 17)) : sProp 𝕄 := iprop(∃ W, owes (c : Thread nD τ) (debt l) W)

/-- The right to make a payment. -/
abbrev tok (ck : Dev nD × Fin 17) (r : ℕ) (d : Bool) : sProp 𝕄 := dutyTok ER (kcell ck) r d
/-- The place a device has come to at one of its cells. -/
abbrev at_ (k : Fin 17) (r : ℕ) : sProp 𝕄 := atPos ER (kcell (c, k)) r ∅ 0

/-! ## Copies to other devices -/

/-- A copy to another device: the buffer read is at the departure's cell, the buffer written, with whatever goes with
    it, at the arrival's. -/
theorem wp_sendTo (e n : Dev nD) (hn : n = e) (kS kR : Fin 17) (src dst : Memref sig .tc .vmem S256x1024 .bf16)
    (hs : src.view.WordExact) (hd : dst.view.WordExact) (ss rs : DmaSem sig) (hS : csem kS = .dma ss) (hR : csem kR = .dma rs)
    (hdS : dut kS 0 = {false}) (hdR : dut kR 0 = {false}) (haS : amt kS = N) (haR : amt kR = N)
    (hN : dst.view.amount (.dma rs) = N)
    (q : PosShare TreeShare) (X : Vec F S256x1024 .bf16) (G : sProp 𝕄)
    (hpS : pay m c kS 0 false = owns (c : Thread nD τ) src q X)
    (hpR : pay m e kR 0 false = iprop(owns (e : Thread nD τ) dst fullShare X ∗ G))
    (l : List (Dev nD × Fin 17)) (Kt : PUnit → sProp 𝕄) :
    iprop(ctx m K ∗ owns (c : Thread nD τ) src q X ∗ anyB e dst ∗ G ∗ ow c ((e, kR) :: l) ∗ tok (c, kS) 0 false ∗ tok (e, kR) 0 false
        ∗ ((cred (tallyAt (kcell (c, kS)) () N) ∗ ow c l) -∗ Kt ⟨⟩))
      ⊢ Wp c (sendTo n src dst hs hd ss rs) Kt := by
  subst hn
  have hdS' := Rd_duties (F := F) m c kS 0
  have hdR' := Rd_duties (F := F) m n kR 0
  have haS' := Rd_amount (F := F) m c kS 0 false
  have haR' := Rd_amount (F := F) m n kR 0 false
  have hpS' := Rd_payload m c kS 0 false
  have hpR' := Rd_payload m n kR 0 false
  have hcS : kcell (c, kS) = ((c : Thread nD τ), .dma ss) := by show ((c : Thread nD τ), csem kS) = _; rw [hS]
  have hcR : kcell (n, kR) = ((n : Thread nD τ), .dma rs) := by show ((n : Thread nD τ), csem kR) = _; rw [hR]
  have hO : debt ((n, kR) :: l) = debt l + tallyAt ((n : Thread nD τ), .dma rs) () N := by
    show debt l + tallyAt (kcell (n, kR)) () (amt kR) = _
    rw [hcR, haR]
  rw [hcS] at hdS' haS' hpS'
  rw [hcR] at hdR' haR' hpR'
  unfold sendTo Prog.lift ow tok
  iintro ⟨#C, Hs, Hd, HG, ⟨%W, HO⟩, HtS, HtR, Hk⟩
  ihave #HiS := (ctx_inv m K (c, kS)) $$ C
  ihave #HiR := (ctx_inv m K (n, kR)) $$ C
  ihave #HrS := (ctx_reached m K (c, kS)) $$ C
  ihave #HrR := (ctx_reached m K (n, kR)) $$ C
  unfold owns anyB
  icases Hs with ⟨%fs, %hfs, Hs⟩
  icases Hd with ⟨%fd, Hd⟩
  rw [hcS, hcR]
  iapply (Rounds.wp_send_pointsTo_with 𝒱₀ ER (Rd m) (c : Thread nD τ) none (κ₁ := K (c, kS)) (κ₂ := K (n, kR))
    (r₁ := 0) (r₂ := 0) (d₁ := false) (d₂ := false) (fd := fd) (fs := fs) (F := G) (q := q)
    (by rw [hdS', hdS]; exact Finset.mem_singleton_self _) (by rw [hdR', hdR]; exact Finset.mem_singleton_self _)
    () () N hN (haS'.trans haS) (haR'.trans haR) (debt l) hO (W := W)
    (by
      rw [hpS', hpS]; unfold owns
      iintro H; iexists fs; isplitr; · ipureintro; exact hfs
      iexact H)
    (by
      rw [hpR', hpR]; unfold owns
      iintro ⟨H, HG⟩
      isplitl [H]
      · iexists (dst.view.write (Elt F) fd (src.view.read (Elt F) fs) Finset.univ)
        isplitr
        · ipureintro; exact (View.read_write_univ _ _).trans hfs
        · iexact H
      · iexact HG)) $$ [Hs Hd HG HO HtS HtR]
  · isplitr; · iexact HiS
    isplitr; · iexact HiR
    isplitl [Hs]; · iexact Hs
    isplitl [Hd HG]
    · isplitl [Hd]; · iexact Hd
      iexact HG
    isplitl [HO]; · iexact HO
    isplitl [HtS]; · iexact HtS
    isplitr; · iexact HrS
    isplitl [HtR]; · iexact HtR
    iexact HrR
  iintro ⟨Hc, HO⟩
  iapply (wret c)
  iapply Hk
  isplitl [Hc]; · iexact Hc
  iexists W; iexact HO

/-- A wait for a copy: what its cell hands over. -/
theorem wp_waitFor (k : Fin 17) (s : DmaSem sig) (src dst : Memref sig .tc .vmem S256x1024 .bf16) (hs : src.view.WordExact)
    (hd : dst.view.WordExact) (hk : csem k = .dma s) (hdu : dut k 0 = {false}) (ha : amt k = N) (hN : dst.view.dmaCredit = N)
    (l : List (Dev nD × Fin 17)) (hl : ∀ x ∈ l, lvl k < lvl x.2) (Kt : PUnit → sProp 𝕄) :
    iprop(ctx m K ∗ cred (tallyAt (kcell (c, k)) () N) ∗ ow c l ∗ at_ c k 0
        ∗ ((ow c l ∗ at_ c k 1 ∗ pay m c k 0 false) -∗ Kt ⟨⟩))
      ⊢ Wp c (waitFor s src dst hs hd) Kt := by
  have he := Rd_expect m c k 0
  rw [hdu, ha, Finset.card_singleton, Nat.one_mul] at he
  have hr := Rd_rest m c k 0 hdu
  have hm := mayWait (F := F) c (csem k) l (fun x hx => by rw [show lv ((c : Thread nD τ), csem k) () = lvl k from lv_kcell (c, k) ()]; exact hl x hx)
  have hcS : kcell (c, k) = ((c : Thread nD τ), .dma s) := by show ((c : Thread nD τ), csem k) = _; rw [hk]
  rw [hcS] at he hr
  rw [hk] at hm
  unfold waitFor Prog.lift ow at_
  iintro ⟨#C, Hc, ⟨%W, HO⟩, Hat, Hk⟩
  ihave #Hi := (ctx_inv m K (c, k)) $$ C
  ihave #Hlev := (ctx_lev m K) $$ C
  rw [hcS]
  iapply (Rounds.wp_wait_rest_token 𝒱₀ ER (Rd m) (c : Thread nD τ) none (κ := K (c, k))
      (wpE_waitDma2_eq 𝒱₀ (c : Thread nD τ) none Set.univ) (Set.mem_univ _) () (O := debt l) (W := W) (R := 0) (m := 0) (T := ∅)
      (by rw [Nat.zero_add, he, ← hN])) $$ [Hc HO Hat]
  · isplitr; · iexact Hi
    isplitl [Hc]; · first | (rw [hN]; iexact Hc) | iexact Hc
    isplitl [HO]; · iexact HO
    isplitr; · iapply hm; iexact Hlev
    iexact Hat
  iintro ⟨HO, Hat, -, Hpay⟩
  ihave Hp := (Entails.of_eq hr) $$ Hpay
  iapply (wret c)
  iapply Hk
  isplitl [HO]; · iexists _; iexact HO
  isplitl [Hat]; · iexact Hat
  iexact Hp

/-! ## The handshake -/

/-- The signal to a neighbour hands over the buffers the neighbour will write. -/
theorem wp_signal_to (e n : Dev nD) (hn : n = e) (d : Bool) (l : List (Dev nD × Fin 17)) (Kt : PUnit → sProp 𝕄) :
    iprop(ctx m K ∗ ow c ((e, 0) :: l) ∗ tok (e, 0) 0 d ∗ pay m e 0 0 d ∗ (ow c l -∗ Kt ⟨⟩))
      ⊢ Wp c (semSignalWord n barS.sem 1#32) Kt := by
  subst hn
  have hp := Rd_payload m n 0 0 d
  rw [show kcell (n, 0) = ((n : Thread nD τ), .reg barS.sem) from rfl] at hp
  unfold semSignalWord ow tok
  iintro ⟨#C, ⟨%W, HO⟩, Ht, Hp, Hk⟩
  ihave #Hi := (ctx_inv m K (n, 0)) $$ C
  ihave #Hr := (ctx_reached m K (n, 0)) $$ C
  iapply (Rounds.wp_signal 𝒱₀ ER (Rd m) (c : Thread nD τ) none (dst := (n : Thread nD τ)) (κ := K (n, 0)) (r := 0)
      (d := d) (by rw [show (((n : Thread nD τ), SemLoc.reg barS.sem) : GSem nD τ sig) = kcell (n, 0) from rfl, Rd_duties]; exact Finset.mem_univ _)
      ((Rd_amount m n 0 0 d).trans (by decide)) () (debt l) rfl)
    $$ [HO Ht Hp]
  · isplitr; · iexact Hi
    isplitl [HO]; · iexact HO
    isplitl [Ht]; · iexact Ht
    isplitl [Hp]
    · rw [hp]; iexact Hp
    iexact Hr
  iintro HO
  iapply (wret c)
  iapply Hk
  iexists W; iexact HO

/-- The wait for both neighbours' signals. -/
theorem wp_wait_both (l : List (Dev nD × Fin 17)) (hl : ∀ x ∈ l, lvl 0 < lvl x.2) (Kt : PUnit → sProp 𝕄) :
    iprop(ctx m K ∗ cred (tallyAt (kcell (c, 0)) () 2) ∗ ow c l ∗ at_ c 0 0
        ∗ ((ow c l ∗ at_ c 0 1 ∗ pay m c 0 0 false ∗ pay m c 0 0 true) -∗ Kt ⟨⟩))
      ⊢ Wp c (semWaitWord barS.sem 2#32) Kt := by
  have he : (Rd m).expect (kcell (c, 0)) 0 = 2 := by rw [Rd_expect]; decide
  have hm := mayWait (F := F) c (csem 0) l (fun x hx => by rw [show lv ((c : Thread nD τ), csem 0) () = lvl 0 from lv_kcell (c, 0) ()]; exact hl x hx)
  have hr := Rd_rest0 m c
  rw [show kcell (c, 0) = ((c : Thread nD τ), .reg barS.sem) from rfl] at hr
  unfold semWaitWord ow at_
  iintro ⟨#C, Hc, ⟨%W, HO⟩, Hat, Hk⟩
  ihave #Hi := (ctx_inv m K (c, 0)) $$ C
  ihave #Hlev := (ctx_lev m K) $$ C
  iapply (Rounds.wp_wait_rest_token 𝒱₀ ER (Rd m) (c : Thread nD τ) none (κ := K (c, 0))
      (wpE_semWait_eq 𝒱₀ (c : Thread nD τ) none Set.univ) (Set.mem_univ _) () (O := debt l) (W := W) (R := 0) (m := 0) (T := ∅)
      (by rw [Nat.zero_add]; exact he.symm)) $$ [Hc HO Hat]
  · isplitr; · iexact Hi
    isplitl [Hc]; · iexact Hc
    isplitl [HO]; · iexact HO
    isplitr; · iapply hm; iexact Hlev
    iexact Hat
  iintro ⟨HO, Hat, -, Hpay⟩
  ihave Hp := (Entails.of_eq hr) $$ Hpay
  iapply (wret c)
  iapply Hk
  isplitl [HO]; · iexists _; iexact HO
  isplitl [Hat]; · iexact Hat
  iexact Hp

/-! ## The keys and values, copied in a head at a time -/

/-- A slot of the staging buffers that no copy is under way to: the slot, and the inputs at its share. -/
def idle (s : Fin 2) : sProp 𝕄 :=
  iprop(anyB c (slot mKs s) ∗ anyB c (slot mVs s)
    ∗ at' c mKin (half s) (m (mKin.view.loc (c : Thread nD τ))) ∗ at' c mVin (half s) (m (mVin.view.loc (c : Thread nD τ))))

/-- A slot that the `r`-th copy is under way to. -/
def busy (s : Fin 2) (r : ℕ) : sProp 𝕄 :=
  iprop(cred (tallyAt ((c : Thread nD τ), .dma (sem2 cc0_scratch22 s)) () NK) ∗ cred (tallyAt ((c : Thread nD τ), .dma (sem2 cc0_scratch23 s)) () NK)
    ∗ (mKin.view.loc (c : Thread nD τ) ↦[Finset.univ \ (headIn mKin c (headAt r s)).view.set]{half s} m (mKin.view.loc (c : Thread nD τ)))
    ∗ (mVin.view.loc (c : Thread nD τ) ↦[Finset.univ \ (headIn mVin c (headAt r s)).view.set]{half s} m (mVin.view.loc (c : Thread nD τ))))

/-- The cells of a slot. -/
def kOf (s : Fin 2) : Fin 17 := if s = 0 then 7 else 8
def vOf (s : Fin 2) : Fin 17 := if s = 0 then 9 else 10

theorem kOf_cell (s : Fin 2) : kcell (c, kOf s) = ((c : Thread nD τ), .dma (sem2 cc0_scratch22 s)) := by
  match s with
  | 0 => rfl
  | 1 => rfl
theorem vOf_cell (s : Fin 2) : kcell (c, vOf s) = ((c : Thread nD τ), .dma (sem2 cc0_scratch23 s)) := by
  match s with
  | 0 => rfl
  | 1 => rfl
theorem kOf_pay (s : Fin 2) (r : ℕ) : pay m c (kOf s) r false = kPay m c s r := by
  match s with
  | 0 => rfl
  | 1 => rfl
theorem vOf_pay (s : Fin 2) (r : ℕ) : pay m c (vOf s) r false = vPay m c s r := by
  match s with
  | 0 => rfl
  | 1 => rfl
theorem kOf_dut (s : Fin 2) (r : ℕ) (hr : r < 4) : dut (kOf s) r = {false} := by
  match s with
  | 0 => exact (if_pos hr)
  | 1 => exact (if_pos hr)
theorem vOf_dut (s : Fin 2) (r : ℕ) (hr : r < 4) : dut (vOf s) r = {false} := by
  match s with
  | 0 => exact (if_pos hr)
  | 1 => exact (if_pos hr)
theorem kOf_amt (s : Fin 2) : amt (kOf s) = NK := by
  match s with
  | 0 => rfl
  | 1 => rfl
theorem vOf_amt (s : Fin 2) : amt (vOf s) = NK := by
  match s with
  | 0 => rfl
  | 1 => rfl

/-- Starting the copies of one head. -/
theorem wp_startKV (s : Fin 2) (r : ℕ) (hr : r < 4) (h : Fin 8) (hh : h = headAt r s) (Kt : PUnit → sProp 𝕄) :
    iprop(ctx m K ∗ idle m c s ∗ tok (c, kOf s) r false ∗ tok (c, vOf s) r false
        ∗ reached ER (kcell (c, kOf s)) r ∗ reached ER (kcell (c, vOf s)) r ∗ (busy m c s r -∗ Kt ⟨⟩))
      ⊢ Wp c (startKV c h s) Kt := by
  subst hh
  have hdK := Rd_duties (F := F) m c (kOf s) r
  have hdV := Rd_duties (F := F) m c (vOf s) r
  have haK := Rd_amount (F := F) m c (kOf s) r false
  have haV := Rd_amount (F := F) m c (vOf s) r false
  have hpK := Rd_payload (F := F) m c (kOf s) r false
  have hpV := Rd_payload (F := F) m c (vOf s) r false
  rw [kOf_cell] at hdK haK hpK
  rw [vOf_cell] at hdV haV hpV
  rw [kOf_pay] at hpK
  rw [vOf_pay] at hpV
  unfold startKV idle anyB busy tok
  simp only [Prog.lift, Prog.bind_op, Prog.bind_ret, Prog.pure_eq_ret]
  iintro ⟨#C, ⟨⟨%fk, Hk⟩, ⟨%fv, Hv⟩, HK, HV⟩, HtK, HtV, #HrK, #HrV, Hc⟩
  ihave #HiK := (ctx_inv m K (c, kOf s)) $$ C
  ihave #HiV := (ctx_inv m K (c, vOf s)) $$ C
  rw [kOf_cell, vOf_cell]
  ihave HK := ((pointsTo_split_subset (Finset.subset_univ (headIn mKin c (headAt r s)).view.set)).1) $$ HK
  ihave HV := ((pointsTo_split_subset (Finset.subset_univ (headIn mVin c (headAt r s)).view.set)).1) $$ HV
  icases HK with ⟨HK, HK'⟩
  icases HV with ⟨HV, HV'⟩
  iapply (Rounds.wp_copy_pointsTo 𝒱₀ ER (Rd m) (c : Thread nD τ) none (κ := K (c, kOf s)) (r := r) (d := false)
      (src := headIn mKin c (headAt r s)) (dst := slot mKs s) (q := half s) (fd := fk)
      (by rw [hdK, kOf_dut s r hr]; exact Finset.mem_singleton_self _) () NK rfl (haK.trans (kOf_amt s))
      (by
        rw [hpK]; unfold kPay owns kSrc
        iintro ⟨H, HS⟩
        isplitl [H]
        · iexists ((slot mKs s).view.write (Elt F) fk ((headIn mKin c (headAt r s)).view.read (Elt F) (m (mKin.view.loc (c : Thread nD τ)))) Finset.univ)
          isplitr
          · ipureintro; exact View.read_write_univ _ _
          · iexact H
        · iexact HS)) $$ [Hk HK HtK]
  · isplitr; · iexact HiK
    isplitl [HK]; · iexact HK
    isplitl [Hk]; · iexact Hk
    isplitl [HtK]; · iexact HtK
    iexact HrK
  iintro HcK
  iapply (Rounds.wp_copy_pointsTo 𝒱₀ ER (Rd m) (c : Thread nD τ) none (κ := K (c, vOf s)) (r := r) (d := false)
      (src := headIn mVin c (headAt r s)) (dst := slot mVs s) (q := half s) (fd := fv)
      (by rw [hdV, vOf_dut s r hr]; exact Finset.mem_singleton_self _) () NK rfl (haV.trans (vOf_amt s))
      (by
        rw [hpV]; unfold vPay owns vSrc
        iintro ⟨H, HS⟩
        isplitl [H]
        · iexists ((slot mVs s).view.write (Elt F) fv ((headIn mVin c (headAt r s)).view.read (Elt F) (m (mVin.view.loc (c : Thread nD τ)))) Finset.univ)
          isplitr
          · ipureintro; exact View.read_write_univ _ _
          · iexact H
        · iexact HS)) $$ [Hv HV HtV]
  · isplitr; · iexact HiV
    isplitl [HV]; · iexact HV
    isplitl [Hv]; · iexact Hv
    isplitl [HtV]; · iexact HtV
    iexact HrV
  iintro HcV
  iapply (wret c)
  iapply Hc
  isplitl [HcK]; · iexact HcK
  isplitl [HcV]; · iexact HcV
  isplitl [HK']; · iexact HK'
  iexact HV'

/-- A slot read whole and rounded, as a head of the buffer of all heads. -/
theorem vKb_allOf (S : Fin 8 → Vec F S4096x128 .f32) (h : Fin 8) (k : Vec F S1x4096x128 .f32)
    (hk : shapeCast S4096x128 k shapeCasts_S1x4096x128_S4096x128 = S h) :
    vKb k = fun j => allOf S ((rA h).idx j) := by
  funext j
  unfold vKb
  rw [hk]
  refine (shapeCast_addUnit_apply ![4096, 128] _ _ j).trans ?_
  unfold allOf
  have h0 : (rA h).idx j 0 = h := Fin.ext (by
    rw [unit_val]
    have : (j 0).val < 1 := (j 0).isLt
    show h.val + (j 0).val = h.val
    omega)
  rw [h0]
  congr 1
  funext a
  apply Fin.ext
  match a with
  | ⟨0, _⟩ => rw [unit_val]; exact (Nat.zero_add _).symm
  | ⟨1, _⟩ => rw [unit_val]; exact (Nat.zero_add _).symm

end

end Cert.Proof.K
-- ==== Proof.Heads.lean ====
module

public import proofs.«01_k».proof.Proof.Copies

/-!
  The keys and values of all heads, brought in one head at a time through two slots.
-/

@[expose] public section

set_option synthInstance.maxSize 4096
set_option maxRecDepth 16384

noncomputable section

namespace Cert.Proof.K

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

section
variable (m : (ℓ : Loc nD τ sig) → Buf (Elt F) ℓ) (K : Dev nD × Fin 17 → ℕ) (c : Dev nD)

/-- A wait for the copy of one head into a slot. -/
theorem wp_waitSlot (k : Fin 17) (sm : DmaSem sig) (r : ℕ) {cs cs' : Space} {s s' : Shape} {e e' : EltTy}
    (src : Memref sig .tc cs s e) (dst : Memref sig .tc cs' s' e') (hs : src.view.WordExact) (hd : dst.view.WordExact)
    (hk : csem k = .dma sm) (h0 : lvl k = 0) (hdu : dut k r = {false}) (ha : amt k = NK) (hN : dst.view.dmaCredit = NK)
    (l : List (Dev nD × Fin 17)) (hl : ∀ x ∈ l, 0 < lvl x.2) {α : Type} (kk : PUnit → P (F := F) α) (Kt : α → sProp 𝕄) :
    iprop(ctx m K ∗ cred (tallyAt ((c : Thread nD τ), .dma sm) () NK) ∗ ow c l ∗ at_ c k r
        ∗ ((ow c l ∗ at_ c k (r + 1) ∗ reached ER (kcell (c, k)) (r + 1) ∗ pay m c k r false) -∗ Wp c (kk ⟨⟩) Kt))
      ⊢ Wp c (.op (.waitDma2 sm src dst hs hd) kk) Kt := by
  have he := Rd_expect m c k r
  rw [hdu, ha, Finset.card_singleton, Nat.one_mul] at he
  have hr := Rd_rest m c k r hdu
  have hm := mayWait (F := F) c (csem k) l (fun x hx => by
    rw [show lv ((c : Thread nD τ), csem k) () = lvl k from lv_kcell (c, k) (), h0]; exact hl x hx)
  have hcS : kcell (c, k) = ((c : Thread nD τ), .dma sm) := by show ((c : Thread nD τ), csem k) = _; rw [hk]
  rw [hcS] at he hr
  rw [hk] at hm
  unfold ow at_
  iintro ⟨#C, Hc, ⟨%W, HO⟩, Hat, Hk⟩
  ihave #Hi := (ctx_inv m K (c, k)) $$ C
  ihave #Hlev := (ctx_lev m K) $$ C
  rw [hcS]
  iapply (Rounds.wp_wait_rest_token 𝒱₀ ER (Rd m) (c : Thread nD τ) none (κ := K (c, k))
      (wpE_waitDma2_eq 𝒱₀ (c : Thread nD τ) none Set.univ) (Set.mem_univ _) () (O := debt l) (W := W) (R := r) (m := 0) (T := ∅)
      (by rw [Nat.zero_add, he, ← hN])) $$ [Hc HO Hat]
  · isplitr; · iexact Hi
    isplitl [Hc]; · rw [hN]; iexact Hc
    isplitl [HO]; · iexact HO
    isplitr; · iapply hm; iexact Hlev
    iexact Hat
  iintro ⟨HO, Hat, Hr, Hpay⟩
  ihave Hp := (Entails.of_eq hr) $$ Hpay
  iapply Hk
  isplitl [HO]; · iexists _; iexact HO
  isplitl [Hat]; · iexact Hat
  isplitl [Hr]; · iexact Hr
  iexact Hp

theorem kOf_sem (s : Fin 2) : csem (kOf s) = .dma (sem2 cc0_scratch22 s) := by
  match s with
  | 0 => rfl
  | 1 => rfl
theorem vOf_sem (s : Fin 2) : csem (vOf s) = .dma (sem2 cc0_scratch23 s) := by
  match s with
  | 0 => rfl
  | 1 => rfl
theorem kOf_lvl (s : Fin 2) : lvl (kOf s) = 0 := by
  match s with
  | 0 => rfl
  | 1 => rfl
theorem vOf_lvl (s : Fin 2) : lvl (vOf s) = 0 := by
  match s with
  | 0 => rfl
  | 1 => rfl

/-- Keys and values stored up to the `n`-th head. -/
def have_ (n : ℕ) : sProp 𝕄 :=
  iprop(∃ (fk fv : Vec F S8x4096x128 .bf16), ⌜HasH (KB m c) n fk ∧ HasH (VB m c) n fv⌝ ∗ at' c mKb fullShare fk ∗ at' c mVb fullShare fv)

/-- Taking a head out of its slot. -/
theorem wp_takeKV (s : Fin 2) (r : ℕ) (hr : r < 4) (h : Fin 8) (hh : h = headAt r s)
    (l : List (Dev nD × Fin 17)) (hl : ∀ x ∈ l, 0 < lvl x.2) (Kt : PUnit → sProp 𝕄) :
    iprop(ctx m K ∗ busy m c s r ∗ ow c l ∗ at_ c (kOf s) r ∗ at_ c (vOf s) r ∗ have_ m c h.val
        ∗ ((idle m c s ∗ ow c l ∗ at_ c (kOf s) (r + 1) ∗ at_ c (vOf s) (r + 1)
          ∗ reached ER (kcell (c, kOf s)) (r + 1) ∗ reached ER (kcell (c, vOf s)) (r + 1) ∗ have_ m c (h.val + 1)) -∗ Kt ⟨⟩))
      ⊢ Wp c (takeKV c h s) Kt := by
  subst hh
  unfold takeKV busy have_
  simp only [Prog.lift, Prog.bind_op, Prog.bind_ret, Prog.pure_eq_ret]
  iintro ⟨#C, ⟨HcK, HcV, HK', HV'⟩, HO, HaK, HaV, ⟨%fk, %fv, %hf, HKb, HVb⟩, Hc⟩
  iapply (wp_waitSlot m K c (kOf s) (sem2 cc0_scratch22 s) r (headIn mKin c (headAt r s)) (slot mKs s) _ _ (kOf_sem s) (kOf_lvl s)
    (kOf_dut s r hr) (kOf_amt s) rfl l hl)
  isplitr; · iexact C
  isplitl [HcK]; · iexact HcK
  isplitl [HO]; · iexact HO
  isplitl [HaK]; · iexact HaK
  iintro ⟨HO, HaK, HrK, Hp⟩
  ihave Hp := (Entails.of_eq (kOf_pay m c s r)) $$ Hp
  iapply (wp_waitSlot m K c (vOf s) (sem2 cc0_scratch23 s) r (headIn mVin c (headAt r s)) (slot mVs s) _ _ (vOf_sem s) (vOf_lvl s)
    (vOf_dut s r hr) (vOf_amt s) rfl l hl)
  isplitr; · iexact C
  isplitl [HcV]; · iexact HcV
  isplitl [HO]; · iexact HO
  isplitl [HaV]; · iexact HaV
  iintro ⟨HO, HaV, HrV, Hq⟩
  ihave Hq := (Entails.of_eq (vOf_pay m c s r)) $$ Hq
  unfold kPay vPay owns kSrc vSrc
  icases Hp with ⟨⟨%gk, %hgk, Hks⟩, HK⟩
  icases Hq with ⟨⟨%gv, %hgv, Hvs⟩, HV⟩
  iapply (wp_load_rect 𝒱₀ (c : Thread nD τ) none Set.univ (m := mKs)
    (r := Rect.unit (s := S2x4096x128) ![(s : ℕ), 0, 0] S1x4096x128.size (inbSlot s))
    (Finset.subset_of_eq (View.set_reshape _ _).symm)) $$ Hks
  iintro Hks
  iapply (ld c mKb rfl) $$ HKb
  iintro HKb
  iapply (st c mKb (fun g => HasH (KB m c) ((headAt r s).val + 1) g)
    (HasH.store rfl hf.1 (by
      have e := stored_whole cc0_scratch6 (rA (headAt r s)) fk (vKb (F := F) ((mKs.access (Rect.unit (s := S2x4096x128) ![(s : ℕ), 0, 0] S1x4096x128.size (inbSlot s))).read (Elt F) gk))
      have ev : vKb ((mKs.access (Rect.unit (s := S2x4096x128) ![(s : ℕ), 0, 0] S1x4096x128.size (inbSlot s))).read (Elt F) gk)
          = fun j => KB m c ((rA (headAt r s)).idx j) := vKb_allOf (kSlab m c) (headAt r s) _ (show shapeCast S4096x128 ((mKs.access (Rect.unit (s := S2x4096x128) ![(s : ℕ), 0, 0] S1x4096x128.size (inbSlot s))).read (Elt F) gk) _ = _ from hgk)
      rw [← ev]
      exact e))) $$ HKb
  iintro ⟨%fk', %hk', HKb⟩
  iapply (wp_load_rect 𝒱₀ (c : Thread nD τ) none Set.univ (m := mVs)
    (r := Rect.unit (s := S2x4096x128) ![(s : ℕ), 0, 0] S1x4096x128.size (inbSlot s))
    (Finset.subset_of_eq (View.set_reshape _ _).symm)) $$ Hvs
  iintro Hvs
  iapply (ld c mVb rfl) $$ HVb
  iintro HVb
  iapply (st c mVb (fun g => HasH (VB m c) ((headAt r s).val + 1) g)
    (HasH.store rfl hf.2 (by
      have e := stored_whole cc0_scratch7 (rA (headAt r s)) fv (vKb (F := F) ((mVs.access (Rect.unit (s := S2x4096x128) ![(s : ℕ), 0, 0] S1x4096x128.size (inbSlot s))).read (Elt F) gv))
      have ev : vKb ((mVs.access (Rect.unit (s := S2x4096x128) ![(s : ℕ), 0, 0] S1x4096x128.size (inbSlot s))).read (Elt F) gv)
          = fun j => VB m c ((rA (headAt r s)).idx j) := vKb_allOf (vSlab m c) (headAt r s) _ (show shapeCast S4096x128 ((mVs.access (Rect.unit (s := S2x4096x128) ![(s : ℕ), 0, 0] S1x4096x128.size (inbSlot s))).read (Elt F) gv) _ = _ from hgv)
      rw [← ev]
      exact e))) $$ HVb
  iintro ⟨%fv', %hv', HVb⟩
  iapply (wret c)
  iapply Hc
  ihave HK := ((pointsTo_split_subset (ℓ := mKin.view.loc (c : Thread nD τ)) (I := (headIn mKin c (headAt r s)).view.set) (Finset.subset_univ _)).2) $$ [HK HK']
  · isplitl [HK]; · iexact HK
    iexact HK'
  ihave HV := ((pointsTo_split_subset (ℓ := mVin.view.loc (c : Thread nD τ)) (I := (headIn mVin c (headAt r s)).view.set) (Finset.subset_univ _)).2) $$ [HV HV']
  · isplitl [HV]; · iexact HV
    iexact HV'
  unfold idle anyB
  isplitl [Hks Hvs HK HV]
  · isplitl [Hks]; · iexists gk; iexact Hks
    isplitl [Hvs]; · iexists gv; iexact Hvs
    isplitl [HK]; · iexact HK
    iexact HV
  isplitl [HO]; · iexact HO
  isplitl [HaK]; · iexact HaK
  isplitl [HaV]; · iexact HaV
  isplitl [HrK]; · iexact HrK
  isplitl [HrV]; · iexact HrV
  iexists fk', fv'
  isplitr; · ipureintro; exact ⟨hk', hv'⟩
  isplitl [HKb]; · iexact HKb
  iexact HVb

/-- A slot as it stands before its `r`-th head is taken out: the copy under way, and its cells' places. -/
def ready (s : Fin 2) (r : ℕ) : sProp 𝕄 := iprop(busy m c s r ∗ at_ c (kOf s) r ∗ at_ c (vOf s) r)

/-- The rights to start the `r`-th copies into a slot. -/
def start (s : Fin 2) (r : ℕ) : sProp 𝕄 := iprop(tok (c, kOf s) r false ∗ tok (c, vOf s) r false)

/-- Taking a head out of its slot and starting the next copy into it. -/
theorem wp_nextKV (s : Fin 2) (r : ℕ) (hr : r + 1 < 4) (h h' : Fin 8) (hh : h = headAt r s) (hh' : h' = headAt (r + 1) s)
    (l : List (Dev nD × Fin 17)) (hl : ∀ x ∈ l, 0 < lvl x.2) {α : Type} (kk : PUnit → P (F := F) α) (Kt : α → sProp 𝕄) :
    iprop(ctx m K ∗ ready m c s r ∗ start c s (r + 1) ∗ ow c l ∗ have_ m c h.val
        ∗ ((ready m c s (r + 1) ∗ ow c l ∗ have_ m c (h.val + 1)) -∗ Wp c (kk ⟨⟩) Kt))
      ⊢ Wp c (takeKV c h s >>= fun _ => startKV c h' s >>= kk) Kt := by
  unfold ready start
  iintro ⟨#C, ⟨Hb, HaK, HaV⟩, ⟨HtK, HtV⟩, HO, Hh, Hk⟩
  rw [wbind]
  iapply (wp_takeKV m K c s r (by omega) h hh l hl)
  isplitr; · iexact C
  isplitl [Hb]; · iexact Hb
  isplitl [HO]; · iexact HO
  isplitl [HaK]; · iexact HaK
  isplitl [HaV]; · iexact HaV
  isplitl [Hh]; · iexact Hh
  iintro ⟨Hi, HO, HaK, HaV, HrK, HrV, Hh⟩
  rw [wbind]
  iapply (wp_startKV m K c s (r + 1) hr h' hh')
  isplitr; · iexact C
  isplitl [Hi]; · iexact Hi
  isplitl [HtK]; · iexact HtK
  isplitl [HtV]; · iexact HtV
  isplitl [HrK]; · iexact HrK
  isplitl [HrV]; · iexact HrV
  iintro Hb
  iapply Hk
  isplitl [Hb HaK HaV]
  · isplitl [Hb]; · iexact Hb
    isplitl [HaK] <;> iassumption
  isplitl [HO]; · iexact HO
  iexact Hh

/-- Taking the last head out of a slot. -/
theorem wp_lastKV (s : Fin 2) (h : Fin 8) (hh : h = headAt 3 s)
    (l : List (Dev nD × Fin 17)) (hl : ∀ x ∈ l, 0 < lvl x.2) (Kt : PUnit → sProp 𝕄) :
    iprop(ctx m K ∗ ready m c s 3 ∗ ow c l ∗ have_ m c h.val
        ∗ ((idle m c s ∗ at_ c (kOf s) 4 ∗ at_ c (vOf s) 4 ∗ ow c l ∗ have_ m c (h.val + 1)) -∗ Kt ⟨⟩))
      ⊢ Wp c (takeKV c h s) Kt := by
  unfold ready
  iintro ⟨#C, ⟨Hb, HaK, HaV⟩, HO, Hh, Hk⟩
  iapply (wp_takeKV m K c s 3 (by omega) h hh l hl)
  isplitr; · iexact C
  isplitl [Hb]; · iexact Hb
  isplitl [HO]; · iexact HO
  isplitl [HaK]; · iexact HaK
  isplitl [HaV]; · iexact HaV
  isplitl [Hh]; · iexact Hh
  iintro ⟨Hi, HO, HaK, HaV, -, -, Hh⟩
  iapply Hk
  isplitl [Hi]; · iexact Hi
  isplitl [HaK]; · iexact HaK
  isplitl [HaV]; · iexact HaV
  isplitl [HO]; · iexact HO
  iexact Hh

/-- All heads, the first two of which are under way. -/
theorem wp_allKV (l : List (Dev nD × Fin 17)) (hl : ∀ x ∈ l, 0 < lvl x.2) (Kt : PUnit → sProp 𝕄) :
    iprop(ctx m K ∗ ready m c 0 0 ∗ ready m c 1 0
        ∗ (start c 0 1 ∗ start c 1 1 ∗ start c 0 2 ∗ start c 1 2 ∗ start c 0 3 ∗ start c 1 3) ∗ ow c l ∗ have_ m c 0
        ∗ ((idle m c 0 ∗ idle m c 1 ∗ (at_ c (kOf 0) 4 ∗ at_ c (vOf 0) 4 ∗ at_ c (kOf 1) 4 ∗ at_ c (vOf 1) 4) ∗ ow c l
          ∗ at' c mKb fullShare (KB m c) ∗ at' c mVb fullShare (VB m c)) -∗ Kt ⟨⟩))
      ⊢ Wp c (allKV c) Kt := by
  unfold allKV
  iintro ⟨#C, R0, R1, ⟨T2, T3, T4, T5, T6, T7⟩, HO, Hh, Hk⟩
  iapply (wp_nextKV m K c 0 0 (by omega) 0 2 rfl rfl l hl)
  isplitr; · iexact C
  isplitl [R0]; · iexact R0
  isplitl [T2]; · iexact T2
  isplitl [HO]; · iexact HO
  isplitl [Hh]; · iexact Hh
  iintro ⟨R0, HO, Hh⟩
  iapply (wp_nextKV m K c 1 0 (by omega) 1 3 rfl rfl l hl)
  isplitr; · iexact C
  isplitl [R1]; · iexact R1
  isplitl [T3]; · iexact T3
  isplitl [HO]; · iexact HO
  isplitl [Hh]; · iexact Hh
  iintro ⟨R1, HO, Hh⟩
  iapply (wp_nextKV m K c 0 1 (by omega) 2 4 rfl rfl l hl)
  isplitr; · iexact C
  isplitl [R0]; · iexact R0
  isplitl [T4]; · iexact T4
  isplitl [HO]; · iexact HO
  isplitl [Hh]; · iexact Hh
  iintro ⟨R0, HO, Hh⟩
  iapply (wp_nextKV m K c 1 1 (by omega) 3 5 rfl rfl l hl)
  isplitr; · iexact C
  isplitl [R1]; · iexact R1
  isplitl [T5]; · iexact T5
  isplitl [HO]; · iexact HO
  isplitl [Hh]; · iexact Hh
  iintro ⟨R1, HO, Hh⟩
  iapply (wp_nextKV m K c 0 2 (by omega) 4 6 rfl rfl l hl)
  isplitr; · iexact C
  isplitl [R0]; · iexact R0
  isplitl [T6]; · iexact T6
  isplitl [HO]; · iexact HO
  isplitl [Hh]; · iexact Hh
  iintro ⟨R0, HO, Hh⟩
  iapply (wp_nextKV m K c 1 2 (by omega) 5 7 rfl rfl l hl)
  isplitr; · iexact C
  isplitl [R1]; · iexact R1
  isplitl [T7]; · iexact T7
  isplitl [HO]; · iexact HO
  isplitl [Hh]; · iexact Hh
  iintro ⟨R1, HO, Hh⟩
  rw [wbind]
  iapply (wp_lastKV m K c 0 6 rfl l hl)
  isplitr; · iexact C
  isplitl [R0]; · iexact R0
  isplitl [HO]; · iexact HO
  isplitl [Hh]; · iexact Hh
  iintro ⟨I0, A0, B0, HO, Hh⟩
  iapply (wp_lastKV m K c 1 7 rfl l hl)
  isplitr; · iexact C
  isplitl [R1]; · iexact R1
  isplitl [HO]; · iexact HO
  isplitl [Hh]; · iexact Hh
  iintro ⟨I1, A1, B1, HO, Hh⟩
  iapply Hk
  unfold have_
  icases Hh with ⟨%fk, %fv, %hf, HKb, HVb⟩
  have e1 : fk = KB m c := HasH.all hf.1
  have e2 : fv = VB m c := HasH.all hf.2
  subst e1; subst e2
  isplitl [I0]; · iexact I0
  isplitl [I1]; · iexact I1
  isplitl [A0 B0 A1 B1]
  · isplitl [A0]; · iexact A0
    isplitl [B0]; · iexact B0
    isplitl [A1]; · iexact A1
    iexact B1
  isplitl [HO]; · iexact HO
  isplitl [HKb]; · iexact HKb
  iexact HVb

end

end Cert.Proof.K
-- ==== Proof.Own.lean ====
module

public import proofs.«01_k».proof.Proof.Heads

/-!
  Taking buffers apart and putting them together: by shares, and by their two slots.
-/

@[expose] public section

set_option synthInstance.maxSize 4096
set_option maxRecDepth 16384

noncomputable section

namespace Cert.Proof.K

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

section
variable (c : Dev nD)

theorem whole_owns (b : Ref sig .tc) (q : PosShare TreeShare) (X : b.ty.Contents (Elt F)) :
    (at' c (Memref.whole b) q X : sProp 𝕄) ⊢ owns (c : Thread nD τ) (Memref.whole b) q X := by
  unfold owns; simp only [Memref.view_whole, View.read_whole, View.set_whole]
  iintro H
  iexists X
  isplitr; · ipureintro; rfl
  iexact H

theorem owns_whole (b : Ref sig .tc) (q : PosShare TreeShare) (X : b.ty.Contents (Elt F)) :
    (owns (c : Thread nD τ) (Memref.whole b) q X : sProp 𝕄) ⊢ at' c (Memref.whole b) q X := by
  unfold owns; simp only [Memref.view_whole, View.read_whole, View.set_whole]
  iintro ⟨%f, %h, H⟩
  subst h
  iexact H

theorem owns_any {cs : Space} {s : Shape} {e : EltTy} (b : Memref sig .tc cs s e) (X : Vec F s e) :
    (owns (c : Thread nD τ) b fullShare X : sProp 𝕄) ⊢ anyB c b := by
  unfold owns anyB
  iintro ⟨%f, -, H⟩
  iexists f
  iexact H

theorem any_whole (b : Ref sig .tc) :
    (anyB c (Memref.whole b) : sProp 𝕄) ⊢ ∃ f : Buf (Elt F) ((c : Thread nD τ).loc b), at' c (Memref.whole b) fullShare f := by
  unfold anyB; simp only [Memref.view_whole, View.set_whole]
  iintro ⟨%f, H⟩
  iexists f
  iexact H

theorem whole_any (b : Ref sig .tc) (f : Buf (Elt F) ((c : Thread nD τ).loc b)) :
    (at' c (Memref.whole b) fullShare f : sProp 𝕄) ⊢ anyB c (Memref.whole b) := by
  unfold anyB; simp only [Memref.view_whole, View.set_whole]
  iintro H
  iexists f
  iexact H

/-- A buffer shared in two. -/
theorem owns_split {cs : Space} {s : Shape} {e : EltTy} (b : Memref sig .tc cs s e) (q : PosShare TreeShare) (X : Vec F s e) :
    (owns (c : Thread nD τ) b q X : sProp 𝕄) ⊢ iprop(owns (c : Thread nD τ) b q.left X ∗ owns (c : Thread nD τ) b q.right X) := by
  unfold owns
  iintro ⟨%f, %h, H⟩
  ihave H := ((pointsTo_share (PosShare.mem_left_op_right q)).1) $$ H
  icases H with ⟨H1, H2⟩
  isplitl [H1]
  · iexists f
    isplitr; · ipureintro; exact h
    iexact H1
  · iexists f
    isplitr; · ipureintro; exact h
    iexact H2

/-- The two shares put together. -/
theorem owns_join {cs : Space} {s : Shape} {e : EltTy} (b : Memref sig .tc cs s e) (q : PosShare TreeShare) (X Y : Vec F s e) :
    iprop(owns (c : Thread nD τ) b q.left X ∗ owns (c : Thread nD τ) b q.right Y) ⊢ (owns (c : Thread nD τ) b q X : sProp 𝕄) := by
  unfold owns
  iintro ⟨⟨%f, %hf, H1⟩, ⟨%g, -, H2⟩⟩
  ihave %ha := (pointsTo_agree (ℓ := b.view.loc (c : Thread nD τ)) (I := b.view.set) (J := b.view.set) (q₁ := q.left) (q₂ := q.right) (f := f) (g := g)) $$ [H1 H2]
  · isplitl [H1] <;> iassumption
  have e : (b.view.loc (c : Thread nD τ) ↦[b.view.set]{q.right} g : sProp 𝕄) = (b.view.loc (c : Thread nD τ) ↦[b.view.set]{q.right} f) :=
    pointsTo_congr fun i hi => (ha i (Finset.mem_inter.mpr ⟨hi, hi⟩)).1.symm
  ihave H2 := (Entails.of_eq e) $$ H2
  iexists f
  isplitr; · ipureintro; exact hf
  iapply ((pointsTo_share (PosShare.mem_left_op_right q)).2)
  isplitl [H1] <;> iassumption

theorem share_split (ℓ : Loc nD τ sig) (q : PosShare TreeShare) (f : Buf (Elt F) ℓ) :
    (ℓ ↦{q} f : sProp 𝕄) ⊢ iprop((ℓ ↦{q.left} f) ∗ (ℓ ↦{q.right} f)) := (pointsTo_share (PosShare.mem_left_op_right q)).1

theorem share_join (ℓ : Loc nD τ sig) (q : PosShare TreeShare) (f : Buf (Elt F) ℓ) :
    iprop((ℓ ↦{q.left} f) ∗ (ℓ ↦{q.right} f)) ⊢ (ℓ ↦{q} f : sProp 𝕄) := (pointsTo_share (PosShare.mem_left_op_right q)).2

/-! ## The two slots of a buffer -/

theorem split_two (ℓ : Loc nD τ sig) (I J : Finset (Idx ℓ)) (h : J = Finset.univ \ I) (f : Buf (Elt F) ℓ) :
    (ℓ ↦{fullShare} f : sProp 𝕄) ⊢ iprop((∃ g : Buf (Elt F) ℓ, ℓ ↦[I]{fullShare} g) ∗ ∃ g : Buf (Elt F) ℓ, ℓ ↦[J]{fullShare} g) := by
  subst h
  iintro H
  ihave H := ((pointsTo_split_subset (Finset.subset_univ I)).1) $$ H
  icases H with ⟨H1, H2⟩
  isplitl [H1]
  · iexists f; iexact H1
  · iexists f; iexact H2

theorem join_two (ℓ : Loc nD τ sig) (I J : Finset (Idx ℓ)) (h : J = Finset.univ \ I) :
    iprop((∃ g : Buf (Elt F) ℓ, ℓ ↦[I]{fullShare} g) ∗ ∃ g : Buf (Elt F) ℓ, ℓ ↦[J]{fullShare} g) ⊢ (∃ f : Buf (Elt F) ℓ, ℓ ↦{fullShare} f : sProp 𝕄) := by
  subst h
  iintro ⟨⟨%f, H1⟩, ⟨%g, H2⟩⟩
  iexists (I.piecewise f g)
  iapply (pointsTo_join_subset (ℓ := ℓ) (I := I) (S := Finset.univ) (q := fullShare) (g := f) (f := g) (Finset.subset_univ I))
  isplitl [H1] <;> iassumption

theorem two_slots {n0 n1 : ℕ} (i0 : ∀ a, (![((0 : Fin 2) : ℕ), 0, 0] : Fin 3 → ℕ) a + (![1, n0, n1] : Fin 3 → ℕ) a ≤ (⟨3, ![2, n0, n1]⟩ : Shape).size a)
    (i1 : ∀ a, (![((1 : Fin 2) : ℕ), 0, 0] : Fin 3 → ℕ) a + (![1, n0, n1] : Fin 3 → ℕ) a ≤ (⟨3, ![2, n0, n1]⟩ : Shape).size a) :
    (Rect.unit (s := ⟨3, ![2, n0, n1]⟩) ![((1 : Fin 2) : ℕ), 0, 0] ![1, n0, n1] i1).set
      = Finset.univ \ (Rect.unit (s := ⟨3, ![2, n0, n1]⟩) ![((0 : Fin 2) : ℕ), 0, 0] ![1, n0, n1] i0).set := by
  ext i
  rw [Finset.mem_sdiff, Rect.mem_set_unit, Rect.mem_set_unit]
  have h0 : (i 0).val < 2 := (i 0).isLt
  have h1 : (i 1).val < n0 := (i 1).isLt
  have h2 : (i 2).val < n1 := (i 2).isLt
  constructor
  · intro h
    refine ⟨Finset.mem_univ _, fun h' => ?_⟩
    have a1 : 1 ≤ (i 0).val := (h 0).1
    have a2 : (i 0).val < 0 + 1 := (h' 0).2
    omega
  · rintro ⟨-, h⟩ a
    have hn : (i 0).val = 1 := by
      by_contra hne
      refine h fun a => ?_
      match a with
      | ⟨0, _⟩ => exact ⟨Nat.zero_le _, show (i 0).val < 0 + 1 by omega⟩
      | ⟨1, _⟩ => exact ⟨Nat.zero_le _, show (i 1).val < 0 + n0 by omega⟩
      | ⟨2, _⟩ => exact ⟨Nat.zero_le _, show (i 2).val < 0 + n1 by omega⟩
    match a with
    | ⟨0, _⟩ => exact ⟨show 1 ≤ (i 0).val by omega, show (i 0).val < 1 + 1 by omega⟩
    | ⟨1, _⟩ => exact ⟨Nat.zero_le _, show (i 1).val < 0 + n0 by omega⟩
    | ⟨2, _⟩ => exact ⟨Nat.zero_le _, show (i 2).val < 0 + n1 by omega⟩

theorem comm_set (s : Fin 2) : (commAt s).view.set = (Rect.unit (s := S2x256x1024) ![(s : ℕ), 0, 0] S1x256x1024.size (inbComm s)).set :=
  (View.set_reshape _ _).trans (View.set_slice_whole cc0_scratch1 _)
theorem ks_set (s : Fin 2) : (slot mKs s).view.set = (Rect.unit (s := S2x4096x128) ![(s : ℕ), 0, 0] S1x4096x128.size (inbSlot s)).set :=
  (View.set_reshape _ _).trans (View.set_slice_whole cc0_scratch4 _)
theorem vs_set (s : Fin 2) : (slot mVs s).view.set = (Rect.unit (s := S2x4096x128) ![(s : ℕ), 0, 0] S1x4096x128.size (inbSlot s)).set :=
  (View.set_reshape _ _).trans (View.set_slice_whole cc0_scratch5 _)

theorem comm_sets : (commAt 1).view.set = Finset.univ \ (commAt 0).view.set := by
  rw [comm_set, comm_set]; exact two_slots (inbComm 0) (inbComm 1)
theorem ks_sets : (slot mKs 1).view.set = Finset.univ \ (slot mKs 0).view.set := by
  rw [ks_set, ks_set]; exact two_slots (inbSlot 0) (inbSlot 1)
theorem vs_sets : (slot mVs 1).view.set = Finset.univ \ (slot mVs 0).view.set := by
  rw [vs_set, vs_set]; exact two_slots (inbSlot 0) (inbSlot 1)

theorem comm_split (f : Buf (Elt F) ((c : Thread nD τ).loc cc0_scratch1)) :
    (at' c mComm fullShare f : sProp 𝕄) ⊢ iprop(anyB c (commAt 0) ∗ anyB c (commAt 1)) := split_two _ _ _ comm_sets f
theorem ks_split (f : Buf (Elt F) ((c : Thread nD τ).loc cc0_scratch4)) :
    (at' c mKs fullShare f : sProp 𝕄) ⊢ iprop(anyB c (slot mKs 0) ∗ anyB c (slot mKs 1)) := split_two _ _ _ ks_sets f
theorem vs_split (f : Buf (Elt F) ((c : Thread nD τ).loc cc0_scratch5)) :
    (at' c mVs fullShare f : sProp 𝕄) ⊢ iprop(anyB c (slot mVs 0) ∗ anyB c (slot mVs 1)) := split_two _ _ _ vs_sets f
theorem comm_join : iprop(anyB c (commAt 0) ∗ anyB c (commAt 1))
    ⊢ (∃ f : Buf (Elt F) ((c : Thread nD τ).loc cc0_scratch1), at' c mComm fullShare f : sProp 𝕄) := join_two _ _ _ comm_sets
theorem ks_join : iprop(anyB c (slot mKs 0) ∗ anyB c (slot mKs 1))
    ⊢ (∃ f : Buf (Elt F) ((c : Thread nD τ).loc cc0_scratch4), at' c mKs fullShare f : sProp 𝕄) := join_two _ _ _ ks_sets
theorem vs_join : iprop(anyB c (slot mVs 0) ∗ anyB c (slot mVs 1))
    ⊢ (∃ f : Buf (Elt F) ((c : Thread nD τ).loc cc0_scratch5), at' c mVs fullShare f : sProp 𝕄) := join_two _ _ _ vs_sets

end

end Cert.Proof.K
-- ==== Proof.Parts.lean ====
module

public import proofs.«01_k».proof.Proof.Own

/-!
  The body of one device, from what it is given at launch to what it leaves.
-/

@[expose] public section

set_option synthInstance.maxSize 4096
set_option maxRecDepth 16384

noncomputable section

namespace Cert.Proof.K

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

section
variable (m : (ℓ : Loc nD τ sig) → Buf (Elt F) ℓ) (K : Dev nD × Fin 17 → ℕ) (c : Dev nD)

/-! ## One block -/

/-- What the attention of a block works with: the queries of the blocks in `S`, the matrices, the keys and values, and
    the two buffers it fills. -/
def tools (S : Finset (Fin 4)) : sProp 𝕄 :=
  iprop((∃ f : Vec F S1024x1024 .bf16, ⌜HasQ (QB m c) S f⌝ ∗ at' c mQ fullShare f)
    ∗ at' c mWq fullShare (k0_pay46 (wqIn m c)) ∗ at' c mWo fullShare (k0_pay47 (woIn m c))
    ∗ at' c mKb fullShare (KB m c) ∗ at' c mVb fullShare (VB m c)
    ∗ (∃ g : Vec F S256x1024 .bf16, at' c mCtx fullShare g) ∗ (∃ g : Vec F S1024x1024 .f32, at' c mPart fullShare g))

theorem tools_eq (S : Finset (Fin 4)) : (tools m c S : sProp 𝕄) =
  iprop((∃ f : Vec F S1024x1024 .bf16, ⌜HasQ (QB m c) S f⌝ ∗ at' c mQ fullShare f)
    ∗ at' c mWq fullShare (k0_pay46 (wqIn m c)) ∗ at' c mWo fullShare (k0_pay47 (woIn m c))
    ∗ at' c mKb fullShare (KB m c) ∗ at' c mVb fullShare (VB m c)
    ∗ (∃ g : Vec F S256x1024 .bf16, at' c mCtx fullShare g) ∗ (∃ g : Vec F S1024x1024 .f32, at' c mPart fullShare g)) := rfl

/-- The queries of one more block. -/
theorem wp_query (b : Fin 4) (S : Finset (Fin 4)) (Kt : PUnit → sProp 𝕄) :
    iprop(tools m c S ∗ (tools m c (insert b S) -∗ Kt ⟨⟩)) ⊢ Wp c (storeQ (blk b) (XB m b)) Kt := by
  unfold tools
  iintro ⟨⟨⟨%f, %hf, HQ⟩, HWq, Hr⟩, Hk⟩
  iapply (wp_storeQ c b (QB m c) S (XB m b) (k0_pay46 (wqIn m c)) f hf rfl)
  isplitl [HWq]; · iexact HWq
  isplitl [HQ]; · iexact HQ
  iintro ⟨HWq, HQ⟩
  iapply Hk
  isplitl [HQ]; · iexact HQ
  isplitl [HWq]; · iexact HWq
  iexact Hr

/-- A block whose part is sent away: its attention, and its part rounded. -/
theorem wp_part (b : Fin 4) (S : Finset (Fin 4)) (hb : b ∈ S) (mm : Memref sig .tc .vmem S256x1024 .bf16) (hm : mm.IsWhole)
    (hw : ∀ (g : Buf (Elt F) (mm.view.loc (c : Thread nD τ))) (w : Vec F S256x1024 .bf16),
      mm.view.read (Elt F) ((mm.access r00).write (Elt F) g w Finset.univ) = w)
    (hs : mm.view.set = Finset.univ) (Kt : sProp 𝕄) :
    iprop(tools m c S ∗ anyB c mm ∗ ((tools m c S ∗ owns (c : Thread nD τ) mm fullShare (SD m c b)) -∗ Kt))
      ⊢ Wp c (heads (attnHead (blk b))) fun _ => Wp c (attnProj (blk b)) fun _ => Wp c (whenFirst (blk b).w) fun _ =>
          Wp c (packPart (blk b) mm hm) fun _ => Kt := by
  unfold tools anyB
  rw [hs]
  iintro ⟨⟨⟨%f, %hf, HQ⟩, HWq, HWo, HK, HV, HC, HP⟩, ⟨%g, Hm⟩, Hk⟩
  iapply (wp_attn c b (QB m c) S hb (KB m c) (VB m c) (k0_pay47 (woIn m c)) f hf)
  isplitl [HQ HK HV HWo]
  · isplitl [HQ]; · iexact HQ
    isplitl [HK]; · iexact HK
    isplitl [HV]; · iexact HV
    iexact HWo
  isplitl [HC]; · iexact HC
  isplitl [HP]; · iexact HP
  iintro ⟨⟨HQ, HK, HV, HWo⟩, HC, ⟨%p, %hp, HP⟩⟩
  iapply (wp_packPart c b mm hm hw hs (PT m c b) p hp g)
  isplitl [HP]; · iexact HP
  isplitl [Hm]; · iexact Hm
  iintro ⟨HP, Hm⟩
  iapply Hk
  isplitr [Hm]
  · isplitl [HQ]
    · iexists f
      isplitr; · ipureintro; exact hf
      iexact HQ
    isplitl [HWq]; · iexact HWq
    isplitl [HWo]; · iexact HWo
    isplitl [HK]; · iexact HK
    isplitl [HV]; · iexact HV
    isplitl [HC]; · iexact HC
    iexists p; iexact HP
  · iexact Hm

/-! ## What a device is given and what it leaves -/

/-- Its places at its cells. -/
def ats : sProp 𝕄 := bigSep Finset.univ fun k : Fin 17 => at_ c k 0

/-- The rights to make its payments. -/
def pays : sProp 𝕄 :=
  iprop((tok (nxt c, 0) 0 false ∗ tok (prv c, 0) 0 true ∗ tok (c, 1) 0 false ∗ tok (c, 2) 0 false
      ∗ tok (nxt c, 3) 0 false ∗ tok (nxt c, 4) 0 false ∗ tok (c, 5) 0 false ∗ tok (prv c, 6) 0 false
      ∗ tok (c, 11) 0 false ∗ tok (c, 12) 0 false ∗ tok (c, 13) 0 false
      ∗ tok (prv c, 14) 0 false ∗ tok (nxt c, 15) 0 false ∗ tok (opp c, 16) 0 false)
    ∗ (start c 0 0 ∗ start c 1 0) ∗ start c 0 1 ∗ start c 1 1 ∗ start c 0 2 ∗ start c 1 2 ∗ start c 0 3 ∗ start c 1 3)

/-- What others owe it. -/
def creds : sProp 𝕄 :=
  iprop(cred (tallyAt (kcell (c, 0)) () 2) ∗ cred (tallyAt (kcell (c, 3)) () N) ∗ cred (tallyAt (kcell (c, 4)) () N)
    ∗ cred (tallyAt (kcell (c, 6)) () N) ∗ cred (tallyAt (kcell (c, 14)) () N) ∗ cred (tallyAt (kcell (c, 15)) () N)
    ∗ cred (tallyAt (kcell (c, 16)) () N))

/-- A buffer held whole at contents of no interest. -/
abbrev some' (b : Ref sig .tc) : sProp 𝕄 :=
  iprop(∃ f : Buf (Elt F) ((c : Thread nD τ).loc b), (((c : Thread nD τ).loc b) ↦{fullShare} f))

/-- Its own buffers. -/
def scr : sProp 𝕄 :=
  iprop(some' c cc0_scratch0 ∗ some' c cc0_scratch1 ∗ some' c cc0_scratch2 ∗ some' c cc0_scratch3 ∗ some' c cc0_scratch4 ∗ some' c cc0_scratch5 ∗ some' c cc0_scratch6 ∗ some' c cc0_scratch7 ∗ some' c cc0_scratch8 ∗ some' c cc0_scratch9 ∗ some' c cc0_scratch10 ∗ some' c cc0_scratch11 ∗ some' c cc0_scratch12 ∗ some' c cc0_scratch13 ∗ some' c cc0_scratch14 ∗ some' c cc0_scratch15 ∗ some' c cc0_scratch16 ∗ some' c cc0_scratch17)

/-- The keys and values it reads. -/
def ins : sProp 𝕄 :=
  iprop(at' c mKin fullShare (m (mKin.view.loc (c : Thread nD τ))) ∗ at' c mVin fullShare (m (mVin.view.loc (c : Thread nD τ))))

theorem bigSep_fin17 (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

/-- Every cell closed: its counter is back at zero. -/
theorem close_all : iprop(ctx m K ∗ bigSep Finset.univ fun k : Fin 17 => at_ c k (fin k))
    ⊢ (|={Set.univ}=> bigSep Finset.univ fun k : Fin 17 => semVal (kcell (c, k)) 0 : sProp 𝕄) := by
  refine (sep_mono_left (BI.bigSep_of_persistent (Finset.univ : Finset (Fin 17)) (ctx m K))).trans ?_
  rw [← bigSep_sep']
  refine (bigSep_mono fun k _ => ?_).trans (bigSep_fupd _ _)
  show iprop(ctx m K ∗ at_ c k (fin k)) ⊢ (|={Set.univ}=> semVal (kcell (c, k)) 0 : sProp 𝕄)
  iintro ⟨#C, Hat⟩
  ihave #Hi := (ctx_inv m K (c, k)) $$ C
  iapply (Rounds.cell_close ER (Rd m) (Set.mem_univ (K (c, k))) (fun h => h) (R := fin k) (fun r h => Rd_later m c k r h))
  isplitr; · iexact Hi
  iexact Hat

theorem wfin {α : Type} (a : α) (Q : α → sProp 𝕄) : (|={Set.univ}=> Q a) ⊢ Wp c (.ret a) Q := by
  show _ ⊢ wp _ _ _ _ _
  rw [wp_ret]

theorem above (k : Fin 17) (l : List (Dev nD × Fin 17)) (h : (l.map fun x => x.2).all (fun j => decide (lvl k < lvl j)) = true) :
    ∀ x ∈ l, lvl k < lvl x.2 := fun x hx => by
  rw [List.all_eq_true] at h
  exact of_decide_eq_true (h x.2 (List.mem_map_of_mem hx))

end

end Cert.Proof.K
-- ==== Proof.Body.lean ====
module

public import proofs.«01_k».proof.Proof.Parts

/-!
  The body of one device, from what it is given at launch to what it leaves.
-/

@[expose] public section

set_option synthInstance.maxSize 4096
set_option maxRecDepth 16384

noncomputable section

namespace Cert.Proof.K

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

section
variable (m : (ℓ : Loc nD τ sig) → Buf (Elt F) ℓ) (K : Dev nD × Fin 17 → ℕ) (c : Dev nD)

theorem rdw (b : Ref sig .tc) (g : b.ty.Contents (Elt F)) : (Memref.whole b).view.read (Elt F) g = g := by
  simp only [Memref.view_whole, View.read_whole]

theorem pay_eq_emp {P Q : sProp 𝕄} (h : P = Q) : P = iprop(Q ∗ emp) := h.trans (equiv_iff.mp BI.sep_emp).symm

theorem pay_bar_true : pay m (prv c) 0 0 true = iprop(anyB c (commAt 0) ∗ anyB c (commAt 1) ∗ anyB c mRr) := by
  show iprop(anyB (nxt (prv c)) (commAt 0) ∗ anyB (nxt (prv c)) (commAt 1) ∗ anyB (nxt (prv c)) mRr) = _
  rw [nxt_prv]
theorem pay_bar_false : pay m (nxt c) 0 0 false = iprop(anyB c mLcomm ∗ anyB c mLr) := by
  show iprop(anyB (prv (nxt c)) mLcomm ∗ anyB (prv (nxt c)) mLr) = _
  rw [prv_nxt]
theorem pay3 : pay m (nxt c) 3 0 false = iprop(owns (nxt c : Thread nD τ) (commAt 0) fullShare (XB m c) ∗ anyB c mDr) := by
  show iprop(owns (nxt c : Thread nD τ) (commAt 0) fullShare (XB m (prv (nxt c))) ∗ anyB (prv (nxt c)) mDr) = _
  rw [prv_nxt]
theorem pay4 : pay m (nxt c) 4 0 false
    = iprop(owns (nxt c : Thread nD τ) (commAt 1) fullShare (XB m (prv c)) ∗ anyB (prv c) mDr) := by
  show iprop(owns (nxt c : Thread nD τ) (commAt 1) fullShare (XB m (opp (nxt c))) ∗ anyB (opp (nxt c)) mDr) = _
  rw [opp_nxt]
theorem pay6 : pay m (prv c) 6 0 false = owns (prv c : Thread nD τ) mLcomm fullShare (XB m c) := by
  show owns (prv c : Thread nD τ) mLcomm fullShare (XB m (nxt (prv c))) = _
  rw [nxt_prv]
theorem pay14 : pay m (prv c) 14 0 false = owns (prv c : Thread nD τ) mLr fullShare (SD m c (prv c)) := by
  show owns (prv c : Thread nD τ) mLr fullShare (SD m (nxt (prv c)) (prv c)) = _
  rw [nxt_prv]
theorem pay15 : pay m (nxt c) 15 0 false = owns (nxt c : Thread nD τ) mRr fullShare (SD m c (nxt c)) := by
  show owns (nxt c : Thread nD τ) mRr fullShare (SD m (prv (nxt c)) (nxt c)) = _
  rw [prv_nxt]
theorem pay16 : pay m (opp c) 16 0 false = owns (opp c : Thread nD τ) mDr fullShare (SD m c (opp c)) := by
  show owns (opp c : Thread nD τ) mDr fullShare (SD m (opp (opp c)) (opp c)) = _
  rw [opp_opp]

/-- What the body is given: what it knows, its places, its rights and credits, its debts, its buffers and inputs. -/
def bodyPre : sProp 𝕄 :=
  iprop(ctx m K ∗ ats c ∗ pays c ∗ creds c ∗ ow c (dues c) ∗ scr c ∗ ins m c
    ∗ at' c (Memref.whole cc0_stg0_0) fullShare (xIn m c) ∗ at' c (Memref.whole cc0_stg1_0) fullShare (wqIn m c)
    ∗ at' c (Memref.whole cc0_stg2_0) fullShare (woIn m c) ∗ some' c cc0_stg3_0)

/-- What the body leaves: its cells at zero, its buffers and inputs, no debt, and its block of the result. -/
def bodyPost : sProp 𝕄 :=
  iprop((bigSep Finset.univ fun k : Fin 17 => semVal (kcell (c, k)) 0) ∗ scr c ∗ ins m c ∗ ow c []
    ∗ at' c (Memref.whole cc0_stg0_0) fullShare (xIn m c) ∗ at' c (Memref.whole cc0_stg1_0) fullShare (wqIn m c)
    ∗ at' c (Memref.whole cc0_stg2_0) fullShare (woIn m c) ∗ at' c (Memref.whole cc0_stg3_0) fullShare (OUT m c))

set_option maxHeartbeats 4000000 in
/-- The body of one device. -/
theorem wp_body (h5 : (Memref.whole cc0_stg3_0).IsWhole) (Kt : PUnit → sProp 𝕄) :
    iprop(bodyPre m K c ∗ (bodyPost m c -∗ Kt ⟨⟩))
      ⊢ Wp c (bodyAt (Memref.whole cc0_stg0_0) (Memref.whole cc0_stg1_0) (Memref.whole cc0_stg2_0) (Memref.whole cc0_stg3_0) h5 c) Kt := by
  have e2 : blkAt c 2 = blk (prv c) := blkAt_eq c 2
  have e0 : blkAt c 0 = blk (nxt c) := blkAt_eq c 0
  have e1 : blkAt c 1 = blk (opp c) := blkAt_eq c 1
  unfold bodyAt
  rw [blkMe_eq, e2, e0, e1]
  simp only [wbind]
  unfold bodyPre ats pays creds scr ins
  rw [bigSep_fin17]
  iintro ⟨⟨#C, ⟨A0, A1, A2, A3, A4, A5, A6, A7, A8, A9, A10, A11, A12, A13, A14, A15, A16⟩,
    ⟨⟨Tf, Tt, T1, T2, T3, T4, T5, T6, T11, T12, T13, T14, T15, T16⟩, ⟨U0, U1⟩, V2, V3, V4, V5, V6, V7⟩,
    ⟨C0, C3, C4, C6, C14, C15, C16⟩, HO,
    ⟨⟨%fx, Bx⟩, ⟨%fcomm, Bcomm⟩, ⟨%fl, Bl⟩, ⟨%fq, Bq⟩, ⟨%fks, Bks⟩, ⟨%fvs, Bvs⟩, ⟨%fkb, Bkb⟩, ⟨%fvb, Bvb⟩, ⟨%fwq, Bwq⟩, ⟨%fwo, Bwo⟩,
      ⟨%fctx, Bctx⟩, ⟨%fpart, Bpart⟩, ⟨%flb, Blb⟩, ⟨%frb, Brb⟩, ⟨%fdb, Bdb⟩, ⟨%flr, Blr⟩, ⟨%frr, Brr⟩, ⟨%fdr, Bdr⟩⟩,
    ⟨HK, HV⟩, S0, S1, S2, ⟨%fo, S3⟩⟩, Hk⟩
  ihave U0 := (show start c 0 0 ⊢ iprop(tok (c, kOf 0) 0 false ∗ tok (c, vOf 0) 0 false) from BI.Entails.refl _) $$ U0
  ihave U1 := (show start c 1 0 ⊢ iprop(tok (c, kOf 1) 0 false ∗ tok (c, vOf 1) 0 false) from BI.Entails.refl _) $$ U1
  icases U0 with ⟨U0k, U0v⟩
  icases U1 with ⟨U1k, U1v⟩
  -- the two slots of the keys and values
  ihave Bks := (ks_split c fks) $$ Bks
  ihave Bvs := (vs_split c fvs) $$ Bvs
  icases Bks with ⟨Bk0, Bk1⟩
  icases Bvs with ⟨Bv0, Bv1⟩
  ihave HK := (share_split _ _ _) $$ HK
  ihave HV := (share_split _ _ _) $$ HV
  icases HK with ⟨HK0, HK1⟩
  icases HV with ⟨HV0, HV1⟩
  ihave #R7 := (ctx_reached m K (c, kOf 0)) $$ C
  ihave #R8 := (ctx_reached m K (c, kOf 1)) $$ C
  ihave #R9 := (ctx_reached m K (c, vOf 0)) $$ C
  ihave #R10 := (ctx_reached m K (c, vOf 1)) $$ C
  iapply (wp_startKV m K c 0 0 (by omega) 0 rfl)
  isplitr; · iexact C
  isplitl [Bk0 Bv0 HK0 HV0]
  · unfold idle
    isplitl [Bk0]; · iexact Bk0
    isplitl [Bv0]; · iexact Bv0
    isplitl [HK0]; · iexact HK0
    iexact HV0
  isplitl [U0k]; · iexact U0k
  isplitl [U0v]; · iexact U0v
  isplitr; · iexact R7
  isplitr; · iexact R9
  iintro Y0
  iapply (wp_startKV m K c 1 0 (by omega) 1 rfl)
  isplitr; · iexact C
  isplitl [Bk1 Bv1 HK1 HV1]
  · unfold idle
    isplitl [Bk1]; · iexact Bk1
    isplitl [Bv1]; · iexact Bv1
    isplitl [HK1]; · iexact HK1
    iexact HV1
  isplitl [U1k]; · iexact U1k
  isplitl [U1v]; · iexact U1v
  isplitr; · iexact R8
  isplitr; · iexact R10
  iintro Y1
  iapply (wp_prologue c (xIn m c) (wqIn m c) (woIn m c) fx fwq fwo)
  isplitl [S0]; · iexact S0
  isplitl [S1]; · iexact S1
  isplitl [S2]; · iexact S2
  isplitl [Bx]; · iexact Bx
  isplitl [Bwq]; · iexact Bwq
  isplitl [Bwo]; · iexact Bwo
  iintro ⟨S0, S1, S2, Bx, Bwq, Bwo⟩
  -- the handshake
  ihave Bcomm := (comm_split c fcomm) $$ Bcomm
  icases Bcomm with ⟨Bc0, Bc1⟩
  ihave Bl := (whole_any c cc0_scratch2 fl) $$ Bl
  ihave Blr := (whole_any c cc0_scratch15 flr) $$ Blr
  ihave Brr := (whole_any c cc0_scratch16 frr) $$ Brr
  ihave Bdr := (whole_any c cc0_scratch17 fdr) $$ Bdr
  iapply (wp_signal_to m K c (prv c) _ (dev1_eq c) true [(nxt c, 0), (nxt c, 3), (prv c, 6), (nxt c, 4), (prv c, 14), (nxt c, 15), (opp c, 16)])
  isplitr; · iexact C
  isplitl [HO]; · iexact HO
  isplitl [Tt]; · iexact Tt
  isplitl [Bc0 Bc1 Brr]
  · iapply (Entails.of_eq (pay_bar_true m c).symm)
    isplitl [Bc0]; · iexact Bc0
    isplitl [Bc1]; · iexact Bc1
    iexact Brr
  iintro HO
  iapply (wp_signal_to m K c (nxt c) _ (dev2_eq c) false [(nxt c, 3), (prv c, 6), (nxt c, 4), (prv c, 14), (nxt c, 15), (opp c, 16)])
  isplitr; · iexact C
  isplitl [HO]; · iexact HO
  isplitl [Tf]; · iexact Tf
  isplitl [Bl Blr]
  · iapply (Entails.of_eq (pay_bar_false m c).symm)
    isplitl [Bl]; · iexact Bl
    iexact Blr
  iintro HO
  iapply (wp_wait_both m K c [(nxt c, 3), (prv c, 6), (nxt c, 4), (prv c, 14), (nxt c, 15), (opp c, 16)] (above 0 [(nxt c, 3), (prv c, 6), (nxt c, 4), (prv c, 14), (nxt c, 15), (opp c, 16)] rfl))
  isplitr; · iexact C
  isplitl [C0]; · iexact C0
  isplitl [HO]; · iexact HO
  isplitl [A0]; · iexact A0
  iintro ⟨HO, A0, Pf, Pt⟩
  ihave Pf := (show pay m c 0 0 false ⊢ iprop(anyB (prv c) mLcomm ∗ anyB (prv c) mLr) from BI.Entails.refl _) $$ Pf
  ihave Pt := (show pay m c 0 0 true ⊢ iprop(anyB (nxt c) (commAt 0) ∗ anyB (nxt c) (commAt 1) ∗ anyB (nxt c) mRr) from BI.Entails.refl _) $$ Pt
  icases Pf with ⟨Nl, Nlr⟩
  icases Pt with ⟨Nc0, Nc1, Nrr⟩
  -- the block sent both ways
  ihave Bx := (whole_owns c cc0_scratch0 fullShare _) $$ Bx
  ihave Bx := (owns_split c mXb fullShare _) $$ Bx
  icases Bx with ⟨X1, X2⟩
  ihave X2 := (owns_split c mXb fullShare.right _) $$ X2
  icases X2 with ⟨X2, X3⟩
  iapply (wp_sendTo m K c (nxt c) _ (dev3_eq c) 1 3 mXb (commAt 0) wXb (wordComm 0) (sem2 cc0_scratch18 0) (sem2 cc0_scratch19 0) rfl rfl rfl rfl rfl rfl rfl fullShare.left (XB m c) (anyB c mDr) rfl
    (pay3 m c) [(prv c, 6), (nxt c, 4), (prv c, 14), (nxt c, 15), (opp c, 16)])
  isplitr; · iexact C
  isplitl [X1]; · iexact X1
  isplitl [Nc0]; · iexact Nc0
  isplitl [Bdr]; · iexact Bdr
  isplitl [HO]; · iexact HO
  isplitl [T1]; · iexact T1
  isplitl [T3]; · iexact T3
  iintro ⟨D1, HO⟩
  iapply (wp_sendTo m K c (prv c) _ (dev4_eq c) 5 6 mXb mLcomm wXb wLcomm cc0_scratch20.sem cc0_scratch21.sem rfl rfl rfl rfl rfl rfl rfl fullShare.right.left (XB m c) iprop(emp) rfl
    (pay_eq_emp (pay6 m c)) [(nxt c, 4), (prv c, 14), (nxt c, 15), (opp c, 16)])
  isplitr; · iexact C
  isplitl [X2]; · iexact X2
  isplitl [Nl]; · iexact Nl
  isplitr
  · iempintro
  isplitl [HO]; · iexact HO
  isplitl [T5]; · iexact T5
  isplitl [T6]; · iexact T6
  iintro ⟨D5, HO⟩
  -- the device's own queries, and the keys and values of its heads
  iapply (wp_loadX c mXb fullShare.right.right (fun g => (Memref.readAt_unit_zero (Elt F) cc0_scratch0 hz2 _ g).trans (rdw cc0_scratch0 g).symm) (View.set_whole _) (XB m c))
  isplitl [X3]; · iexact X3
  iintro X3
  iapply (wp_storeQ c c (QB m c) ∅ (XB m c) (k0_pay46 (wqIn m c)) fq (fun b hb => absurd hb (Finset.notMem_empty b)) rfl)
  isplitl [Bwq]; · iexact Bwq
  isplitl [Bq]; · iexact Bq
  iintro ⟨Bwq, Bq⟩
  iapply (wp_allKV m K c [(nxt c, 4), (prv c, 14), (nxt c, 15), (opp c, 16)] (above 7 [(nxt c, 4), (prv c, 14), (nxt c, 15), (opp c, 16)] rfl))
  isplitr; · iexact C
  isplitl [Y0 A7 A9]
  · unfold ready
    isplitl [Y0]; · iexact Y0
    isplitl [A7]; · iexact A7
    iexact A9
  isplitl [Y1 A8 A10]
  · unfold ready
    isplitl [Y1]; · iexact Y1
    isplitl [A8]; · iexact A8
    iexact A10
  isplitl [V2 V3 V4 V5 V6 V7]
  · isplitl [V2]; · iexact V2
    isplitl [V3]; · iexact V3
    isplitl [V4]; · iexact V4
    isplitl [V5]; · iexact V5
    isplitl [V6]; · iexact V6
    iexact V7
  isplitl [HO]; · iexact HO
  isplitl [Bkb Bvb]
  · unfold have_
    iexists fkb, fvb
    isplitr
    · ipureintro; exact ⟨fun h hh => absurd hh (Nat.not_lt_zero _), fun h hh => absurd hh (Nat.not_lt_zero _)⟩
    isplitl [Bkb] <;> iassumption
  iintro ⟨Y0, Y1, ⟨A7, A9, A8, A10⟩, HO, Bkb, Bvb⟩
  ihave TL := (Entails.of_eq (tools_eq m c (insert c ∅)).symm) $$ [Bq Bwq Bwo Bkb Bvb Bctx Bpart]
  · isplitl [Bq]; · iexact Bq
    isplitl [Bwq]; · iexact Bwq
    isplitl [Bwo]; · iexact Bwo
    isplitl [Bkb]; · iexact Bkb
    isplitl [Bvb]; · iexact Bvb
    isplitl [Bctx]; · iexists fctx; iexact Bctx
    iexists fpart; iexact Bpart
  -- the block from the left, sent on to the right
  iapply (wp_waitFor m K c 3 (sem2 cc0_scratch19 0) mXb (commAt 0) wXb (wordComm 0) rfl rfl rfl rfl [(nxt c, 4), (prv c, 14), (nxt c, 15), (opp c, 16)] (above 3 [(nxt c, 4), (prv c, 14), (nxt c, 15), (opp c, 16)] rfl))
  isplitr; · iexact C
  isplitl [C3]; · iexact C3
  isplitl [HO]; · iexact HO
  isplitl [A3]; · iexact A3
  iintro ⟨HO, A3, P3⟩
  ihave P3 := (show pay m c 3 0 false ⊢ iprop(owns (c : Thread nD τ) (commAt 0) fullShare (XB m (prv c)) ∗ anyB (prv c) mDr) from BI.Entails.refl _) $$ P3
  icases P3 with ⟨Q0, Ndr⟩
  ihave Q0 := (owns_split c (commAt 0) fullShare _) $$ Q0
  icases Q0 with ⟨Q1, Q2⟩
  iapply (wp_sendTo m K c (nxt c) _ (dev5_eq c) 2 4 (commAt 0) (commAt 1) (wordComm 0) (wordComm 1) (sem2 cc0_scratch18 1) (sem2 cc0_scratch19 1) rfl rfl rfl rfl rfl rfl rfl fullShare.left (XB m (prv c)) (anyB (prv c) mDr) rfl
    (pay4 m c) [(prv c, 14), (nxt c, 15), (opp c, 16)])
  isplitr; · iexact C
  isplitl [Q1]; · iexact Q1
  isplitl [Nc1]; · iexact Nc1
  isplitl [Ndr]; · iexact Ndr
  isplitl [HO]; · iexact HO
  isplitl [T2]; · iexact T2
  isplitl [T4]; · iexact T4
  iintro ⟨D2, HO⟩
  iapply (wp_loadComm c 0 fullShare.right (XB m (prv c)))
  isplitl [Q2]; · iexact Q2
  iintro Q2
  iapply (wp_query m c (prv c) (insert c ∅))
  isplitl [TL]; · iexact TL
  iintro TL
  ihave Blb' := (whole_any c cc0_scratch12 flb) $$ Blb
  iapply (wp_part m c (prv c) (insert (prv c) (insert c ∅)) (Finset.mem_insert_self _ _) mLb (Memref.isWhole_whole cc0_scratch12) (fun g w => (rdw cc0_scratch12 _).trans (Memref.write_access_unit_zero_univ (Elt F) cc0_scratch12 hz2 _ g w)) (View.set_whole _))
  isplitl [TL]; · iexact TL
  isplitl [Blb']; · iexact Blb'
  iintro ⟨TL, Blb⟩
  iapply (wp_sendTo m K c (prv c) _ (dev6_eq c) 11 14 mLb mLr wLb wLr (sem3 cc0_scratch24 0) (sem3 cc0_scratch25 0) rfl rfl rfl rfl rfl rfl rfl fullShare (SD m c (prv c)) iprop(emp) rfl
    (pay_eq_emp (pay14 m c)) [(nxt c, 15), (opp c, 16)])
  isplitr; · iexact C
  isplitl [Blb]; · iexact Blb
  isplitl [Nlr]; · iexact Nlr
  isplitr
  · iempintro
  isplitl [HO]; · iexact HO
  isplitl [T11]; · iexact T11
  isplitl [T14]; · iexact T14
  iintro ⟨D11, HO⟩
  -- the block from the right
  iapply (wp_waitFor m K c 6 cc0_scratch21.sem mXb mLcomm wXb wLcomm rfl rfl rfl rfl [(nxt c, 15), (opp c, 16)] (above 6 [(nxt c, 15), (opp c, 16)] rfl))
  isplitr; · iexact C
  isplitl [C6]; · iexact C6
  isplitl [HO]; · iexact HO
  isplitl [A6]; · iexact A6
  iintro ⟨HO, A6, P6⟩
  ihave P6 := (show pay m c 6 0 false ⊢ owns (c : Thread nD τ) mLcomm fullShare (XB m (nxt c)) from BI.Entails.refl _) $$ P6
  iapply (wp_loadX c mLcomm fullShare (fun g => (Memref.readAt_unit_zero (Elt F) cc0_scratch2 hz2 _ g).trans (rdw cc0_scratch2 g).symm) (View.set_whole _) (XB m (nxt c)))
  isplitl [P6]; · iexact P6
  iintro P6
  iapply (wp_query m c (nxt c) (insert (prv c) (insert c ∅)))
  isplitl [TL]; · iexact TL
  iintro TL
  ihave Brb' := (whole_any c cc0_scratch13 frb) $$ Brb
  iapply (wp_part m c (nxt c) (insert (nxt c) (insert (prv c) (insert c ∅))) (Finset.mem_insert_self _ _) mRb (Memref.isWhole_whole cc0_scratch13) (fun g w => (rdw cc0_scratch13 _).trans (Memref.write_access_unit_zero_univ (Elt F) cc0_scratch13 hz2 _ g w)) (View.set_whole _))
  isplitl [TL]; · iexact TL
  isplitl [Brb']; · iexact Brb'
  iintro ⟨TL, Brb⟩
  iapply (wp_sendTo m K c (nxt c) _ (dev7_eq c) 12 15 mRb mRr wRb wRr (sem3 cc0_scratch24 1) (sem3 cc0_scratch25 1) rfl rfl rfl rfl rfl rfl rfl fullShare (SD m c (nxt c)) iprop(emp) rfl
    (pay_eq_emp (pay15 m c)) [(opp c, 16)])
  isplitr; · iexact C
  isplitl [Brb]; · iexact Brb
  isplitl [Nrr]; · iexact Nrr
  isplitr
  · iempintro
  isplitl [HO]; · iexact HO
  isplitl [T12]; · iexact T12
  isplitl [T15]; · iexact T15
  iintro ⟨D12, HO⟩
  -- the block from the device two places away
  iapply (wp_waitFor m K c 4 (sem2 cc0_scratch19 1) (commAt 0) (commAt 1) (wordComm 0) (wordComm 1) rfl rfl rfl rfl [(opp c, 16)] (above 4 [(opp c, 16)] rfl))
  isplitr; · iexact C
  isplitl [C4]; · iexact C4
  isplitl [HO]; · iexact HO
  isplitl [A4]; · iexact A4
  iintro ⟨HO, A4, P4⟩
  ihave P4 := (show pay m c 4 0 false ⊢ iprop(owns (c : Thread nD τ) (commAt 1) fullShare (XB m (opp c)) ∗ anyB (opp c) mDr) from BI.Entails.refl _) $$ P4
  icases P4 with ⟨P4, Ndr⟩
  iapply (wp_loadComm c 1 fullShare (XB m (opp c)))
  isplitl [P4]; · iexact P4
  iintro P4
  iapply (wp_query m c (opp c) (insert (nxt c) (insert (prv c) (insert c ∅))))
  isplitl [TL]; · iexact TL
  iintro TL
  ihave Bdb' := (whole_any c cc0_scratch14 fdb) $$ Bdb
  iapply (wp_part m c (opp c) (insert (opp c) (insert (nxt c) (insert (prv c) (insert c ∅)))) (Finset.mem_insert_self _ _) mDb (Memref.isWhole_whole cc0_scratch14) (fun g w => (rdw cc0_scratch14 _).trans (Memref.write_access_unit_zero_univ (Elt F) cc0_scratch14 hz2 _ g w)) (View.set_whole _))
  isplitl [TL]; · iexact TL
  isplitl [Bdb']; · iexact Bdb'
  iintro ⟨TL, Bdb⟩
  iapply (wp_sendTo m K c (opp c) _ (dev8_eq c) 13 16 mDb mDr wDb wDr (sem3 cc0_scratch24 2) (sem3 cc0_scratch25 2) rfl rfl rfl rfl rfl rfl rfl fullShare (SD m c (opp c)) iprop(emp) rfl
    (pay_eq_emp (pay16 m c)) [])
  isplitr; · iexact C
  isplitl [Bdb]; · iexact Bdb
  isplitl [Ndr]; · iexact Ndr
  isplitr
  · iempintro
  isplitl [HO]; · iexact HO
  isplitl [T13]; · iexact T13
  isplitl [T16]; · iexact T16
  iintro ⟨D13, HO⟩
  -- the device's own block, and the sum
  unfold tools
  icases TL with ⟨⟨%f, %hf, HQ⟩, HWq, HWo, HKb, HVb, HC, HP⟩
  iapply (wp_attn c c (QB m c) _ (Finset.mem_insert_of_mem (Finset.mem_insert_of_mem (Finset.mem_insert_of_mem (Finset.mem_insert_self _ _)))) (KB m c) (VB m c) (k0_pay47 (woIn m c)) f hf)
  isplitl [HQ HKb HVb HWo]
  · isplitl [HQ]; · iexact HQ
    isplitl [HKb]; · iexact HKb
    isplitl [HVb]; · iexact HVb
    iexact HWo
  isplitl [HC]; · iexact HC
  isplitl [HP]; · iexact HP
  iintro ⟨⟨HQ, HKb, HVb, HWo⟩, ⟨%gc, HC⟩, ⟨%p, %hp, HP⟩⟩
  iapply (wp_waitFor m K c 14 (sem3 cc0_scratch25 0) mLb mLr wLb wLr rfl rfl rfl rfl [] (above 14 [] rfl))
  isplitr; · iexact C
  isplitl [C14]; · iexact C14
  isplitl [HO]; · iexact HO
  isplitl [A14]; · iexact A14
  iintro ⟨HO, A14, P14⟩
  ihave P14 := (show pay m c 14 0 false ⊢ owns (c : Thread nD τ) mLr fullShare (SD m (nxt c) c) from BI.Entails.refl _) $$ P14
  ihave P14 := (owns_whole c cc0_scratch15 fullShare _) $$ P14
  iapply (wp_waitFor m K c 15 (sem3 cc0_scratch25 1) mRb mRr wRb wRr rfl rfl rfl rfl [] (above 15 [] rfl))
  isplitr; · iexact C
  isplitl [C15]; · iexact C15
  isplitl [HO]; · iexact HO
  isplitl [A15]; · iexact A15
  iintro ⟨HO, A15, P15⟩
  ihave P15 := (show pay m c 15 0 false ⊢ owns (c : Thread nD τ) mRr fullShare (SD m (prv c) c) from BI.Entails.refl _) $$ P15
  ihave P15 := (owns_whole c cc0_scratch16 fullShare _) $$ P15
  iapply (wp_waitFor m K c 16 (sem3 cc0_scratch25 2) mDb mDr wDb wDr rfl rfl rfl rfl [] (above 16 [] rfl))
  isplitr; · iexact C
  isplitl [C16]; · iexact C16
  isplitl [HO]; · iexact HO
  isplitl [A16]; · iexact A16
  iintro ⟨HO, A16, P16⟩
  ihave P16 := (show pay m c 16 0 false ⊢ owns (c : Thread nD τ) mDr fullShare (SD m (opp c) c) from BI.Entails.refl _) $$ P16
  ihave P16 := (owns_whole c cc0_scratch17 fullShare _) $$ P16
  iapply (wp_finish c c p (PT m c c) hp (SD m (nxt c) c) (SD m (prv c) c) (SD m (opp c) c) fo h5 (blkMe_eq c))
  isplitl [HP]; · iexact HP
  isplitl [P14]; · iexact P14
  isplitl [P15]; · iexact P15
  isplitl [P16]; · iexact P16
  isplitl [S3]; · iexact S3
  iintro ⟨HP, P14, P15, P16, S3⟩
  -- the departures
  iapply (wp_waitFor m K c 1 (sem2 cc0_scratch18 0) (commAt 0) mXb (wordComm 0) wXb rfl rfl rfl rfl [] (above 1 [] rfl))
  isplitr; · iexact C
  isplitl [D1]; · iexact D1
  isplitl [HO]; · iexact HO
  isplitl [A1]; · iexact A1
  iintro ⟨HO, A1, P1⟩
  iapply (wp_waitFor m K c 5 cc0_scratch20.sem mLcomm mXb wLcomm wXb rfl rfl rfl rfl [] (above 5 [] rfl))
  isplitr; · iexact C
  isplitl [D5]; · iexact D5
  isplitl [HO]; · iexact HO
  isplitl [A5]; · iexact A5
  iintro ⟨HO, A5, P5⟩
  iapply (wp_waitFor m K c 2 (sem2 cc0_scratch18 1) (commAt 1) (commAt 0) (wordComm 1) (wordComm 0) rfl rfl rfl rfl [] (above 2 [] rfl))
  isplitr; · iexact C
  isplitl [D2]; · iexact D2
  isplitl [HO]; · iexact HO
  isplitl [A2]; · iexact A2
  iintro ⟨HO, A2, P2⟩
  iapply (wp_waitFor m K c 11 (sem3 cc0_scratch24 0) mLr mLb wLr wLb rfl rfl rfl rfl [] (above 11 [] rfl))
  isplitr; · iexact C
  isplitl [D11]; · iexact D11
  isplitl [HO]; · iexact HO
  isplitl [A11]; · iexact A11
  iintro ⟨HO, A11, P11⟩
  iapply (wp_waitFor m K c 12 (sem3 cc0_scratch24 1) mRr mRb wRr wRb rfl rfl rfl rfl [] (above 12 [] rfl))
  isplitr; · iexact C
  isplitl [D12]; · iexact D12
  isplitl [HO]; · iexact HO
  isplitl [A12]; · iexact A12
  iintro ⟨HO, A12, P12⟩
  iapply (wp_waitFor m K c 13 (sem3 cc0_scratch24 2) mDr mDb wDr wDb rfl rfl rfl rfl [] (above 13 [] rfl))
  isplitr; · iexact C
  isplitl [D13]; · iexact D13
  isplitl [HO]; · iexact HO
  isplitl [A13]; · iexact A13
  iintro ⟨HO, A13, P13⟩
  ihave P1 := (show pay m c 1 0 false ⊢ owns (c : Thread nD τ) mXb fullShare.left (XB m c) from BI.Entails.refl _) $$ P1
  ihave P5 := (show pay m c 5 0 false ⊢ owns (c : Thread nD τ) mXb fullShare.right.left (XB m c) from BI.Entails.refl _) $$ P5
  ihave P2 := (show pay m c 2 0 false ⊢ owns (c : Thread nD τ) (commAt 0) fullShare.left (XB m (prv c)) from BI.Entails.refl _) $$ P2
  ihave P11 := (show pay m c 11 0 false ⊢ owns (c : Thread nD τ) mLb fullShare (SD m c (prv c)) from BI.Entails.refl _) $$ P11
  ihave P12 := (show pay m c 12 0 false ⊢ owns (c : Thread nD τ) mRb fullShare (SD m c (nxt c)) from BI.Entails.refl _) $$ P12
  ihave P13 := (show pay m c 13 0 false ⊢ owns (c : Thread nD τ) mDb fullShare (SD m c (opp c)) from BI.Entails.refl _) $$ P13
  -- the buffers put together again
  ihave X2 := (owns_join c mXb fullShare.right (XB m c) (XB m c)) $$ [P5 X3]
  · isplitl [P5] <;> iassumption
  ihave Bx := (owns_join c mXb fullShare (XB m c) (XB m c)) $$ [P1 X2]
  · isplitl [P1] <;> iassumption
  ihave Bx := (owns_whole c cc0_scratch0 fullShare _) $$ Bx
  ihave Q0 := (owns_join c (commAt 0) fullShare (XB m (prv c)) (XB m (prv c))) $$ [P2 Q2]
  · isplitl [P2] <;> iassumption
  ihave Q0 := (owns_any c (commAt 0) _) $$ Q0
  ihave P4 := (owns_any c (commAt 1) _) $$ P4
  ihave Bcomm := (comm_join c) $$ [Q0 P4]
  · isplitl [Q0] <;> iassumption
  ihave Bl := (owns_whole c cc0_scratch2 fullShare _) $$ P6
  ihave Blb := (owns_whole c cc0_scratch12 fullShare _) $$ P11
  ihave Brb := (owns_whole c cc0_scratch13 fullShare _) $$ P12
  ihave Bdb := (owns_whole c cc0_scratch14 fullShare _) $$ P13
  unfold idle
  icases Y0 with ⟨Bk0, Bv0, HK0, HV0⟩
  icases Y1 with ⟨Bk1, Bv1, HK1, HV1⟩
  ihave Bks := (ks_join c) $$ [Bk0 Bk1]
  · isplitl [Bk0] <;> iassumption
  ihave Bvs := (vs_join c) $$ [Bv0 Bv1]
  · isplitl [Bv0] <;> iassumption
  ihave HK := (share_join (mKin.view.loc (c : Thread nD τ)) fullShare (m (mKin.view.loc (c : Thread nD τ)))) $$ [HK0 HK1]
  · isplitl [HK0]; · iexact HK0
    iexact HK1
  ihave HV := (share_join (mVin.view.loc (c : Thread nD τ)) fullShare (m (mVin.view.loc (c : Thread nD τ)))) $$ [HV0 HV1]
  · isplitl [HV0]; · iexact HV0
    iexact HV1
  ihave Hat := (show _ ⊢ (bigSep Finset.univ fun k : Fin 17 => at_ c k (fin k) : sProp 𝕄) from Entails.of_eq (bigSep_fin17 (fun k : Fin 17 => at_ c k (fin k))).symm) $$ [A0 A1 A2 A3 A4 A5 A6 A7 A8 A9 A10 A11 A12 A13 A14 A15 A16]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    iexact A16
  iapply (wfin c)
  imod (close_all m K c) $$ [Hat] with Hz
  · isplitr; · iexact C
    iexact Hat
  imodintro
  iapply Hk
  unfold bodyPost scr ins
  isplitl [Hz]; · iexact Hz
  isplitl [Bx Bcomm Bl HQ Bks Bvs HKb HVb HWq HWo HC HP Blb Brb Bdb P14 P15 P16]
  · isplitl [Bx]; · iexists _; iexact Bx
    isplitl [Bcomm]; · iexact Bcomm
    isplitl [Bl]; · iexists _; iexact Bl
    isplitl [HQ]; · iexists _; iexact HQ
    isplitl [Bks]; · iexact Bks
    isplitl [Bvs]; · iexact Bvs
    isplitl [HKb]; · iexists _; iexact HKb
    isplitl [HVb]; · iexists _; iexact HVb
    isplitl [HWq]; · iexists _; iexact HWq
    isplitl [HWo]; · iexists _; iexact HWo
    isplitl [HC]; · iexists _; iexact HC
    isplitl [HP]; · iexists _; iexact HP
    isplitl [Blb]; · iexists _; iexact Blb
    isplitl [Brb]; · iexists _; iexact Brb
    isplitl [Bdb]; · iexists _; iexact Bdb
    isplitl [P14]; · iexists _; iexact P14
    isplitl [P15]; · iexists _; iexact P15
    iexists _; iexact P16
  isplitl [HK HV]
  · isplitl [HK]; · iexact HK
    iexact HV
  isplitl [HO]; · iexact HO
  isplitl [S0]; · iexact S0
  isplitl [S1]; · iexact S1
  isplitl [S2]; · iexact S2
  iexact S3

end

end Cert.Proof.K
-- ==== Proof.Printed.lean ====
module

public import proofs.«01_k».proof.Proof.Program

/-! The printed body is the sequence of named pieces. -/

@[expose] public section

set_option synthInstance.maxSize 4096

noncomputable section

namespace Cert.Proof.K

open Idealize.ShloMosaic Idealize.SL.Sem
open Cert.KernelIdeal Cert.KernelIdeal.Gen

variable {F : FTy → Type} [FloatOps F] [Named F]

/-- The kernel's body reads its device and runs the named pieces. -/
def body (m0 : Memref sig .tc .vmem S256x1024 .f32) (m1 m4 : Memref sig .tc .vmem S1024x1024 .f32)
    (m5 : Memref sig .tc .vmem S256x1024 .f32) (h5 : m5.IsWhole) : P (F := F) PUnit :=
  .op .deviceId fun d => bodyAt m0 m1 m4 m5 h5 d

set_option maxRecDepth 1048576 in
/-- The end of the first block, and the wait for the next one's rows. -/
theorem part46_eq
    (m0 : Memref sig .tc .vmem S256x1024 .f32) (h0 : m0.IsWhole) (m1 m4 : Memref sig .tc .vmem S1024x1024 .f32)
    (h1 : m1.IsWhole) (h4 : m4.IsWhole) (m5 : Memref sig .tc .vmem S256x1024 .f32) (h5 : m5.IsWhole)
    (d : Dev nD) (v2 v24 v411 v428 : BitVec 32) (x : Vec F S256x1024 .bf16) :
    k0_part46 (F := F) m0 h0 m1 h1 (Memref.whole main_arg2) (Memref.isWhole_whole _) (Memref.whole main_arg3) (Memref.isWhole_whole _) m4 h4 m5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 d v2 v24 v411 v428 x
      = (do
        attnTail (blkAt d 2) x
        whenFirst v411
        packPart (blkAt d 2) mLb (Memref.isWhole_whole cc0_scratch12)
        sendTo ⟨k0_dev6 d, Facts₀.k0_dev6_lt d⟩ mLb mLr wLb wLr (sem3 cc0_scratch24 0) (sem3 cc0_scratch25 0)
        waitFor cc0_scratch21.sem mXb mLcomm wXb wLcomm
        let s := Scalar.select (Scalar.cmpi .eq 4#32 0#32) 1#32 4#32
        let r := Scalar.remsi (Scalar.addi v2 1#32) s
        pure ⟨s, r, Scalar.cmpi .ne r 0#32, Scalar.cmpi .slt r 0#32, 0#32⟩
        : P (F := F) (Σ' (_ : BitVec 32) (_ : BitVec 32) (_ : BitVec 1) (_ : BitVec 1), BitVec 32)) := by
  simp only [whenFirst_bind]
  rfl

set_option maxRecDepth 1048576 in
/-- The end of the second block. -/
theorem part57_eq
    (m0 : Memref sig .tc .vmem S256x1024 .f32) (h0 : m0.IsWhole) (m1 m4 : Memref sig .tc .vmem S1024x1024 .f32)
    (h1 : m1.IsWhole) (h4 : m4.IsWhole) (m5 : Memref sig .tc .vmem S256x1024 .f32) (h5 : m5.IsWhole)
    (d : Dev nD) (v13 v852 v868 : BitVec 32) (x : FVec F S256x128 .f32) :
    k0_part57 (F := F) m0 h0 m1 h1 (Memref.whole main_arg2) (Memref.isWhole_whole _) (Memref.whole main_arg3) (Memref.isWhole_whole _) m4 h4 m5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 d v13 v852 v868 x
      = (do
        let _ : Vec F S256x128 .bf16 ← Prog.lift (.load mCtx (Rect.unit (s := S256x1024) ![0, 896] S256x128.size inb_S256x1024_S256x128_0_896).toLoadRect (View.loadsAt_vmem h_S256x128))
        Prog.lift (.store mCtx (Rect.unit (s := S256x1024) ![0, 896] S256x128.size inb_S256x1024_S256x128_0_896) (k0_pay155 x) Finset.univ (View.stores_vmem h_S256x128 ((Memref.isWhole_whole cc0_scratch10).storeExact_slice rfl _ packedbf16_S256x1024_S256x128_0_896) (fun _ => rfl)) (.inl rfl))
        attnProj (blkAt d 0)
        whenFirst v852
        packPart (blkAt d 0) mRb (Memref.isWhole_whole cc0_scratch13)
        sendTo ⟨k0_dev7 d, Facts₀.k0_dev7_lt d⟩ mRb mRr wRb wRr (sem3 cc0_scratch24 1) (sem3 cc0_scratch25 1)
        pure ⟨⟩
        : P (F := F) PUnit) := by
  simp only [whenFirst_bind]
  rfl

set_option maxRecDepth 1048576 in
/-- The end of the third block. -/
theorem part68_eq
    (m0 : Memref sig .tc .vmem S256x1024 .f32) (h0 : m0.IsWhole) (m1 m4 : Memref sig .tc .vmem S1024x1024 .f32)
    (h1 : m1.IsWhole) (h4 : m4.IsWhole) (m5 : Memref sig .tc .vmem S256x1024 .f32) (h5 : m5.IsWhole)
    (d : Dev nD) (v1298 v1314 v1315 : BitVec 32) (a : FVec F S256x1 .f32) (b : FVec F S256x512 .f32) (c : FVec F S256x128 .f32) :
    k0_part68 (F := F) m0 h0 m1 h1 (Memref.whole main_arg2) (Memref.isWhole_whole _) (Memref.whole main_arg3) (Memref.isWhole_whole _) m4 h4 m5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 d v1298 v1314 v1315 a b c
      = (do
        let vw : Vec F S1x512x128 .bf16 ← Prog.lift (.load mVb (Rect.unit (s := S8x4096x128) ((blkAt d 1).oK 7) S1x512x128.size ((blkAt d 1).hK 7)).toLoadRect (View.loadsAt_vmem h_S1x512x128))
        let vp : Vec F S1x128x128 .bf16 ← Prog.lift (.load mVb (Rect.unit (s := S8x4096x128) ![7, 0, 0] S1x128x128.size inb_S8x4096x128_S1x128x128_7_0_0).toLoadRect (View.loadsAt_vmem h_S1x128x128))
        let _ : Vec F S256x128 .bf16 ← Prog.lift (.load mCtx (Rect.unit (s := S256x1024) ![0, 896] S256x128.size inb_S256x1024_S256x128_0_896).toLoadRect (View.loadsAt_vmem h_S256x128))
        Prog.lift (.store mCtx (Rect.unit (s := S256x1024) ![0, 896] S256x128.size inb_S256x1024_S256x128_0_896) (k0_pay206 a b c vw vp) Finset.univ (View.stores_vmem h_S256x128 ((Memref.isWhole_whole cc0_scratch10).storeExact_slice rfl _ packedbf16_S256x1024_S256x128_0_896) (fun _ => rfl)) (.inl rfl))
        attnProj (blkAt d 1)
        whenFirst v1298
        loadPart (blkAt d 1)
        : P (F := F) (Vec F S256x1024 .f32)) := by
  simp only [whenFirst_bind]
  rfl

set_option maxRecDepth 1048576 in
/-- The end of the device's own block, and the parts received. -/
theorem part79_eq
    (m0 : Memref sig .tc .vmem S256x1024 .f32) (h0 : m0.IsWhole) (m1 m4 : Memref sig .tc .vmem S1024x1024 .f32)
    (h1 : m1.IsWhole) (h4 : m4.IsWhole) (m5 : Memref sig .tc .vmem S256x1024 .f32) (h5 : m5.IsWhole)
    (d : Dev nD) (v2 v13 v24 v87 v1731 : BitVec 32) :
    k0_part79 (F := F) m0 h0 m1 h1 (Memref.whole main_arg2) (Memref.isWhole_whole _) (Memref.whole main_arg3) (Memref.isWhole_whole _) m4 h4 m5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 d v2 v13 v24 v87 v1731
      = (do
        attnProj (blkMe d)
        whenFirst v2
        waitFor (sem3 cc0_scratch25 0) mLb mLr wLb wLr
        waitFor (sem3 cc0_scratch25 1) mRb mRr wRb wRr
        waitFor (sem3 cc0_scratch25 2) mDb mDr wDb wDr
        let x ← loadPart (blkMe d)
        let l ← loadX mLr
        pure (k0_pay255 x l)
        : P (F := F) (FVec F S256x1024 .f32)) := by
  simp only [whenFirst_bind]
  rfl

set_option maxRecDepth 1048576 in
set_option maxHeartbeats 4000000 in
theorem cc0_body_eq (m0 : Memref sig .tc .vmem S256x1024 .f32) (h0 : m0.IsWhole) (m1 m4 : Memref sig .tc .vmem S1024x1024 .f32)
    (h1 : m1.IsWhole) (h4 : m4.IsWhole) (m5 : Memref sig .tc .vmem S256x1024 .f32) (h5 : m5.IsWhole) :
    cc0_body m0 h0 m1 h1 (Memref.whole main_arg2) (Memref.isWhole_whole _) (Memref.whole main_arg3) (Memref.isWhole_whole _) m4 h4 m5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25
      = body (F := F) m0 m1 m4 m5 h5 := by
  simp only [cc0_body, k0_part81_eq_skeleton, k0_part81_skel, part46_eq, part57_eq, part68_eq, part79_eq, bind_assoc, pure_bind]
  rfl

end Cert.Proof.K
-- ==== Proof.Obligation.lean ====
module

public import proofs.«01_k».proof.Proof.Body
public import proofs.«01_k».proof.Proof.Printed
public import Idealize.ShloMosaic.Lib.Pipeline.CollectiveSegs

/-!
  The launch: what each device starts from, dealt out of the launch's resources, and the run of the four devices.
-/

@[expose] public section

set_option synthInstance.maxSize 4096
set_option maxRecDepth 16384

noncomputable section

namespace Cert.Proof.K

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ UU ℕ

section
variable (m : (ℓ : Loc nD τ sig) → Buf (Elt F) ℓ) (ρ : Dev nD → PrngReg)

/-! ## The pipeline's proof data -/

/-- What a device's body starts from, beside its buffers. -/
def given (c : Dev nD) : sProp 𝕄 :=
  iprop((∃ K, ctx m K ∗ ats c ∗ pays c) ∗ creds c ∗ ins m c)

/-- Before the body. -/
def Φ₀ (c : Dev nD) : sProp 𝕄 := iprop(given m c ∗ scr c)
/-- After it. -/
def Φ₁ (c : Dev nD) : sProp 𝕄 :=
  iprop((bigSep Finset.univ fun k : Fin 17 => semVal (kcell (c, k)) 0) ∗ scr c ∗ ins m c)

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wqIn m c
    | ⟨2, _⟩ => woIn m c
    | ⟨3, _⟩ => OUT m c
  Φ t := match t with
    | ⟨0, _⟩ => Φ₀ m c
    | ⟨_ + 1, _⟩ => Φ₁ m c
  q _ := fullShare
  owed t := match t with
    | ⟨0, _⟩ => debt (dues c)
    | ⟨_ + 1, _⟩ => 0

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body. -/
def obPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
/-- What it takes back. -/
def obPost (c : Dev nD) : sProp 𝕄 :=
  iprop(Φ₁ m c ∗ (dats m 0 c).owesAt () t0_0.succ
    ∗ stg c cc0_stg0_0 (xIn m c) ∗ stg c cc0_stg1_0 (wqIn m c) ∗ stg c cc0_stg2_0 (woIn m c) ∗ stg c cc0_stg3_0 (OUT m c))

/-- The call's body, from what a device holds at its start to what it holds at its end. -/
theorem wp_cc0 (c : Dev nD) (h0 : (Memref.whole cc0_stg0_0).IsWhole) (h1 : (Memref.whole cc0_stg1_0).IsWhole)
    (h4 : (Memref.whole cc0_stg2_0).IsWhole) (h5 : (Memref.whole cc0_stg3_0).IsWhole) :
    obPre m c ⊢ Wp c (Cert.Proof.K.body (Memref.whole cc0_stg0_0) (Memref.whole cc0_stg1_0) (Memref.whole cc0_stg2_0) (Memref.whole cc0_stg3_0) h5)
      (fun _ => obPost m c) := by
  unfold Cert.Proof.K.body
  show _ ⊢ wp _ _ _ _ _
  simp only [wp_deviceId]
  unfold obPre Φ₀ given
  iintro ⟨⟨⟨⟨%K, C, Hat, Hp⟩, Hc, Hi⟩, Hs⟩, Ho, ⟨%d0, %g0, %hg0, H0⟩, ⟨%d1, %g1, %hg1, H1⟩, ⟨%d2, %g2, %hg2, H2⟩, ⟨%d3, %g3, %hg3, H3⟩⟩
  have hx : g0 = xIn m c := by rw [hg0]; unfold Dat.before; rw [if_pos (fetch_0 t0_0)]; rfl
  have hq : g1 = wqIn m c := by rw [hg1]; unfold Dat.before; rw [if_pos (fetch_1 t0_0)]; rfl
  have ho : g2 = woIn m c := by rw [hg2]; unfold Dat.before; rw [if_pos (fetch_2 t0_0)]; rfl
  subst hx; subst hq; subst ho
  unfold Dat.owesAt Pipeline.owesWithin
  icases Ho with ⟨%W, %hW, HO⟩
  iapply (wp_body m K c h5)
  unfold bodyPre
  isplitr []
  · isplitl [C]; · iexact C
    isplitl [Hat]; · iexact Hat
    isplitl [Hp]; · iexact Hp
    isplitl [Hc]; · iexact Hc
    isplitl [HO]; · unfold ow; iexists W; iexact HO
    isplitl [Hs]; · iexact Hs
    isplitl [Hi]; · iexact Hi
    isplitl [H0]; · iexact H0
    isplitl [H1]; · iexact H1
    isplitl [H2]; · iexact H2
    iexists g3; iexact H3
  · unfold bodyPost obPost Φ₁ ow Dat.owesAt Pipeline.owesWithin
    iintro ⟨Hz, Hs, Hi, ⟨%W', HO⟩, H0, H1, H2, H3⟩
    isplitl [Hz Hs Hi]
    · isplitl [Hz]; · iexact Hz
      isplitl [Hs]; · iexact Hs
      iexact Hi
    isplitl [HO]
    · iexists W'
      isplitr; · ipureintro; exact fun _ _ => Or.inl trivial
      iexact HO
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    iexists _; isplitr; · (ipureintro; rfl)
    iexact H3

/-- The pipeline's obligation on each device. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  have h := wp_cc0 m c (Memref.isWhole_whole _) (Memref.isWhole_whole _) (Memref.isWhole_whole _) (Memref.isWhole_whole _)
  rw [← cc0_body_eq (Memref.whole cc0_stg0_0) (Memref.isWhole_whole _) (Memref.whole cc0_stg1_0) (Memref.whole cc0_stg2_0) (Memref.isWhole_whole _) (Memref.isWhole_whole _) (Memref.whole cc0_stg3_0) (Memref.isWhole_whole _)] at h
  exact h

end

end Cert.Proof.K
-- ==== Proof.Launch.lean ====
module

public import proofs.«01_k».proof.Proof.Obligation

/-!
  The launch: every device's cells opened and its rights dealt round the ring, and the run of the four devices.
-/

@[expose] public section

set_option synthInstance.maxSize 4096
set_option maxRecDepth 16384

noncomputable section

namespace Cert.Proof.K

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ UU ℕ

/-! ## The cells and the rights -/

/-- The device `k` places on, as a bijection. -/
def shE (k : Fin 4) : Dev nD ≃ Dev nD :=
  Equiv.ofBijective (sh k.val) (by revert k; decide)

/-- The kernel's own semaphores: all but the barrier's. -/
abbrev osem (k : Fin 16) : SemLoc sig := csem k.succ

theorem ownSemFacts : Pipeline.OwnSemFacts cfg0.spec osem := by decide

def theCells : Finset (GSem nD τ sig) := Finset.univ.map ⟨kcell, kcell_inj⟩

/-- The cell of a device's `j`-th right. -/
def tk (j : Fin 30) : Fin 17 :=
  match j.val with
  | 0 => 0 | 1 => 0 | 2 => 1 | 3 => 2 | 4 => 3 | 5 => 4 | 6 => 5 | 7 => 6
  | 8 => 11 | 9 => 12 | 10 => 13 | 11 => 14 | 12 => 15 | 13 => 16
  | n => if n % 4 = 2 then 7 else if n % 4 = 3 then 9 else if n % 4 = 0 then 8 else 10
/-- Its round. -/
def tr (j : Fin 30) : ℕ := if j.val < 14 then 0 else (j.val - 14) / 4
/-- Its payer's mark. -/
def td (j : Fin 30) : Bool := decide (j.val = 1)
/-- How far on the device lies that its holder pays. -/
def rot (j : Fin 30) : Fin 4 :=
  match j.val with
  | 0 => 1 | 1 => 3 | 4 => 1 | 5 => 1 | 7 => 3 | 11 => 3 | 12 => 1 | 13 => 2 | _ => 0

def tokOf (cj : Dev nD × Fin 30) : GSem nD τ sig × ℕ × Bool := (kcell (cj.1, tk cj.2), tr cj.2, td cj.2)

theorem tok_codes : Function.Injective fun j : Fin 30 => (tk j, tr j, td j) := by decide

theorem tokOf_inj : Function.Injective tokOf := fun a b h => by
  have hk : (a.1, tk a.2) = (b.1, tk b.2) := kcell_inj (congrArg (fun x : GSem nD τ sig × ℕ × Bool => x.1) h)
  have h1 : tr a.2 = tr b.2 := congrArg (fun x : GSem nD τ sig × ℕ × Bool => x.2.1) h
  have h2 : td a.2 = td b.2 := congrArg (fun x : GSem nD τ sig × ℕ × Bool => x.2.2) h
  have h3 : tk a.2 = tk b.2 := congrArg (fun x : Dev nD × Fin 17 => x.2) hk
  exact Prod.ext (congrArg (fun x : Dev nD × Fin 17 => x.1) hk) (tok_codes (show (_, _, _) = (_, _, _) by rw [h1, h2, h3]))

def theToks : Finset (GSem nD τ sig × ℕ × Bool) := Finset.univ.map ⟨tokOf, tokOf_inj⟩

def u₀ : UU :=
  (initOf (Pipeline.cells cfgs cellOf_inj) (Pipeline.launchToks cfgs cellOf_inj), initOf theCells theToks)

section
variable (m : (ℓ : Loc nD τ sig) → Buf (Elt F) ℓ) (ρ : Dev nD → PrngReg)

/-- The rights a device mints, and those it holds. -/
def minted (c : Dev nD) : sProp 𝕄 := bigSep Finset.univ fun j : Fin 30 => tok (c, tk j) (tr j) (td j)
def held (c : Dev nD) : sProp 𝕄 := bigSep Finset.univ fun j : Fin 30 => tok (sh (rot j).val c, tk j) (tr j) (td j)

/-- What the launch element deals a device. -/
def G (c : Dev nD) : sProp 𝕄 :=
  iprop((bigSep Finset.univ fun k : Fin 17 => roundState ER (Rd m) (kcell (c, k)) 0)
    ∗ (bigSep Finset.univ fun k : Fin 17 => iprop(at_ c k 0 ∗ reached ER (kcell (c, k)) 0)) ∗ minted c)

/-- The cells' invariants and marks. -/
def records (K : Dev nD × Fin 17 → ℕ) : sProp 𝕄 :=
  iprop((bigSep Finset.univ fun ck => cellInv ER (Rd m) (K ck) (kcell ck))
    ∗ (bigSep Finset.univ fun ck : Dev nD × Fin 17 => reached ER (kcell ck) 0))

instance records_persistent (K : Dev nD × Fin 17 → ℕ) : BI.Persistent (records (F := F) m K) := by unfold records; infer_instance

/-- What a device starts from once the cells are open. -/
def G' (c : Dev nD) : sProp 𝕄 := iprop(∃ K, records m K ∗ ats c ∗ pays c)

theorem sh_zero (c : Dev nD) : sh 0 c = c := by revert c; decide

/-- The rights held are the payments a device makes. -/
theorem held_pays (c : Dev nD) : (held c : sProp 𝕄) ⊢ pays c := by
  unfold held
  rw [bigSep_univ_eq_bigSepL [0, 1, 2, 3, 4, 5, 6, 7, 8, 9, 10, 11, 12, 13, 14, 15, 16, 17, 18, 19, 20, 21, 22, 23, 24, 25, 26, 27, 28, 29] (by decide) (by decide)]
  have z := sh_zero c
  show iprop(tok (nxt c, 0) 0 false ∗ tok (prv c, 0) 0 true ∗ tok (sh 0 c, 1) 0 false ∗ tok (sh 0 c, 2) 0 false
      ∗ tok (nxt c, 3) 0 false ∗ tok (nxt c, 4) 0 false ∗ tok (sh 0 c, 5) 0 false ∗ tok (prv c, 6) 0 false
      ∗ tok (sh 0 c, 11) 0 false ∗ tok (sh 0 c, 12) 0 false ∗ tok (sh 0 c, 13) 0 false
      ∗ tok (prv c, 14) 0 false ∗ tok (nxt c, 15) 0 false ∗ tok (opp c, 16) 0 false
      ∗ tok (sh 0 c, 7) 0 false ∗ tok (sh 0 c, 9) 0 false ∗ tok (sh 0 c, 8) 0 false ∗ tok (sh 0 c, 10) 0 false
      ∗ tok (sh 0 c, 7) 1 false ∗ tok (sh 0 c, 9) 1 false ∗ tok (sh 0 c, 8) 1 false ∗ tok (sh 0 c, 10) 1 false
      ∗ tok (sh 0 c, 7) 2 false ∗ tok (sh 0 c, 9) 2 false ∗ tok (sh 0 c, 8) 2 false ∗ tok (sh 0 c, 10) 2 false
      ∗ tok (sh 0 c, 7) 3 false ∗ tok (sh 0 c, 9) 3 false ∗ tok (sh 0 c, 8) 3 false ∗ tok (sh 0 c, 10) 3 false) ⊢ (_ : sProp 𝕄)
  rw [z]
  unfold pays
  iintro ⟨T0, T1, T2, T3, T4, T5, T6, T7, T8, T9, T10, T11, T12, T13, T14, T15, T16, T17, T18, T19, T20, T21, T22, T23, T24, T25, T26, T27, T28, T29⟩
  isplitl [T0 T1 T2 T3 T4 T5 T6 T7 T8 T9 T10 T11 T12 T13]
  · isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    iexact T13
  isplitl [T14 T15 T16 T17]
  · isplitl [T14 T15]
    · iapply (show iprop(tok (c, 7) 0 false ∗ tok (c, 9) 0 false) ⊢ (start c 0 0 : sProp 𝕄) from BI.Entails.refl _)
      isplitl [T14] <;> iassumption
    iapply (show iprop(tok (c, 8) 0 false ∗ tok (c, 10) 0 false) ⊢ (start c 1 0 : sProp 𝕄) from BI.Entails.refl _)
    isplitl [T16] <;> iassumption
  isplitl [T18 T19]
  · iapply (show iprop(tok (c, 7) 1 false ∗ tok (c, 9) 1 false) ⊢ (start c 0 1 : sProp 𝕄) from BI.Entails.refl _)
    isplitl [T18] <;> iassumption
  isplitl [T20 T21]
  · iapply (show iprop(tok (c, 8) 1 false ∗ tok (c, 10) 1 false) ⊢ (start c 1 1 : sProp 𝕄) from BI.Entails.refl _)
    isplitl [T20] <;> iassumption
  isplitl [T22 T23]
  · iapply (show iprop(tok (c, 7) 2 false ∗ tok (c, 9) 2 false) ⊢ (start c 0 2 : sProp 𝕄) from BI.Entails.refl _)
    isplitl [T22] <;> iassumption
  isplitl [T24 T25]
  · iapply (show iprop(tok (c, 8) 2 false ∗ tok (c, 10) 2 false) ⊢ (start c 1 2 : sProp 𝕄) from BI.Entails.refl _)
    isplitl [T24] <;> iassumption
  isplitl [T26 T27]
  · iapply (show iprop(tok (c, 7) 3 false ∗ tok (c, 9) 3 false) ⊢ (start c 0 3 : sProp 𝕄) from BI.Entails.refl _)
    isplitl [T26] <;> iassumption
  iapply (show iprop(tok (c, 8) 3 false ∗ tok (c, 10) 3 false) ⊢ (start c 1 3 : sProp 𝕄) from BI.Entails.refl _)
  isplitl [T28] <;> iassumption

/-- Each right goes to the device that pays it. -/
def dealE : Dev nD × Fin 30 ≃ Dev nD × Fin 30 :=
  (Equiv.prodComm _ _).trans ((Equiv.prodShear (Equiv.refl (Fin 30)) fun j => shE (rot j)).trans (Equiv.prodComm _ _))

/-- The rights dealt round the ring. -/
theorem deal : (bigSep Finset.univ fun c : Dev nD => (minted c : sProp 𝕄)) ⊢ bigSep Finset.univ fun c : Dev nD => pays c := by
  refine BI.Entails.trans ?_ (bigSep_mono fun c _ => held_pays c)
  unfold minted held
  rw [← bigSep_univ_prod (fun cj : Dev nD × Fin 30 => (tok (cj.1, tk cj.2) (tr cj.2) (td cj.2) : sProp 𝕄)),
    ← bigSep_univ_prod (fun cj : Dev nD × Fin 30 => (tok (sh (rot cj.2).val cj.1, tk cj.2) (tr cj.2) (td cj.2) : sProp 𝕄))]
  exact Entails.of_eq (bigSep_univ_equiv dealE fun cj : Dev nD × Fin 30 => (tok (cj.1, tk cj.2) (tr cj.2) (td cj.2) : sProp 𝕄))

/-- All that the devices share is given out at the launch. -/
theorem fund_all : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : Fin 17 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => minted c := by
    unfold theToks; rw [bigSep_map, bigSep_univ_prod]; rfl
  iintro HX
  imod (Rounds.fund ER (Rd m) theCells theToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The counters of a device's own semaphores and of the barrier's are those of its seventeen cells. -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0 ∗ semVal (kcell (c, 13)) 0 ∗ semVal (kcell (c, 14)) 0 ∗ semVal (kcell (c, 15)) 0 ∗ semVal (kcell (c, 16)) 0) := by
  rw [Pipeline.ownSems0_eq_of_list c osem [0, 1, 2, 3, 4, 5, 6, 7, 8, 9, 10, 11, 12, 13, 14, 15] (by decide) (by decide)]; rfl
theorem unscopedSems0_eq (c : Dev nD) : (unscopedSems0 c : sProp 𝕄) = semVal (kcell (c, 0)) 0 := by
  unfold unscopedSems0; rw [bigSep_eq_bigSepL_of_eq [csem 0] (by decide) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 17 => semVal (kcell (c, k)) 0 : sProp 𝕄) := by
  rw [ownSems0_eq, unscopedSems0_eq, bigSep_fin17]

/-- A device's semaphores become cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(at_ c k 0 ∗ reached ER (kcell (c, k)) 0)) ∗ minted c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 17 => semVal (kcell (c, k)) 0) ∗ bigSep Finset.univ fun k : Fin 17 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Fin 17 → ℕ) (c : Dev nD) : iprop(records m K ∗ ats c ∗ pays c) ⊢ G' m c := by
  unfold G'
  iintro H
  iexists K
  iexact H

/-- The tokens minted by all devices are dealt to the devices that use them. -/
theorem regroup :
    (bigSep Finset.univ fun c : Dev nD => iprop((bigSep Finset.univ fun k => iprop(∃ κ : ℕ, cellInv ER (Rd m) κ (kcell (c, k))))
          ∗ (bigSep Finset.univ fun k => iprop(at_ c k 0 ∗ reached ER (kcell (c, k)) 0)) ∗ minted c) : sProp 𝕄)
      ⊢ bigSep Finset.univ (G' m) := by
  rw [bigSep_sep', bigSep_sep', ← bigSep_univ_prod (fun ck : Dev nD × Fin 17 => iprop(∃ κ : ℕ, cellInv ER (Rd m) κ (kcell ck))),
    bigSep_congr (s := Finset.univ) (fun (c : Dev nD) _ => bigSep_sep' Finset.univ (fun k : Fin 17 => (at_ c k 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (Rd m) κ (kcell ck) : sProp 𝕄))) $$ HI
  icases HK with ⟨%K, #HI⟩
  ihave Htk := (deal (F := F)) $$ Htok
  iapply (bigSep_with_persistent (R := records m K) fun c _ => G'_intro m K c)
  isplitr
  · unfold records; isplitl; · iexact HI
    iexact HR
  · iapply (Entails.of_eq (bigSep_sep' Finset.univ (fun c : Dev nD => (ats c : sProp 𝕄)) pays).symm)
    isplitl [Hat]; · unfold ats; iexact Hat
    iexact Htk

/-- Every device's semaphores at once, opened and dealt. -/
theorem open_all : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

abbrev O₀ (c : Dev nD) : CellTallies nD τ sig Unit := debt (dues c)

theorem credit_at (c : Dev nD) (k : Fin 17) :
    tallyOn (kcell (c, k)) (launchCredit (Pipeline.owing O₀) 0 (kcell (c, k)))
      = (tallyAt (kcell (c, k)) () ((if k = 0 then 2 else if k = 3 ∨ k = 4 ∨ k = 6 ∨ k = 14 ∨ k = 15 ∨ k = 16 then 1 else 0) * amt k)
        : CellTallies nD τ sig Unit) := by
  unfold tallyAt; refine congrArg _ (Finsupp.ext fun u => ?_); cases u
  rw [Pipeline.launchCredit_owing, Finsupp.single_eq_same, Finset.sum_congr rfl fun d _ => debt_at (dues d) (c, k), ← Finset.sum_mul, dues_count]

theorem creds_intro (c : Dev nD) : (Pipeline.launchCred O₀ c : sProp 𝕄) ⊢ creds c := by
  unfold Pipeline.launchCred
  refine (BI.bigSep_subset (Finset.subset_univ (Finset.univ.map ⟨csem, csem_inj⟩))).trans ?_
  rw [BI.bigSep_map]
  refine (Entails.of_eq (bigSep_congr fun k _ => congrArg cred (credit_at c k))).trans ?_
  rw [bigSep_fin17]
  unfold creds
  iintro ⟨C0, -, -, C3, C4, -, C6, -, -, -, -, -, -, -, C14, C15, C16⟩
  isplitl [C0]
  · iapply (Entails.of_eq (show (cred (tallyAt (kcell (c, 0)) () (2 * amt 0)) : sProp 𝕄) = cred (tallyAt (kcell (c, 0)) () 2) by rw [show amt 0 = 1 from rfl]))
    iexact C0
  isplitl [C3]
  · iapply (Entails.of_eq (show (cred (tallyAt (kcell (c, 3)) () (1 * amt 3)) : sProp 𝕄) = cred (tallyAt (kcell (c, 3)) () N) by rw [Nat.one_mul, show amt 3 = N from rfl]))
    iexact C3
  isplitl [C4]
  · iapply (Entails.of_eq (show (cred (tallyAt (kcell (c, 4)) () (1 * amt 4)) : sProp 𝕄) = cred (tallyAt (kcell (c, 4)) () N) by rw [Nat.one_mul, show amt 4 = N from rfl]))
    iexact C4
  isplitl [C6]
  · iapply (Entails.of_eq (show (cred (tallyAt (kcell (c, 6)) () (1 * amt 6)) : sProp 𝕄) = cred (tallyAt (kcell (c, 6)) () N) by rw [Nat.one_mul, show amt 6 = N from rfl]))
    iexact C6
  isplitl [C14]
  · iapply (Entails.of_eq (show (cred (tallyAt (kcell (c, 14)) () (1 * amt 14)) : sProp 𝕄) = cred (tallyAt (kcell (c, 14)) () N) by rw [Nat.one_mul, show amt 14 = N from rfl]))
    iexact C14
  isplitl [C15]
  · iapply (Entails.of_eq (show (cred (tallyAt (kcell (c, 15)) () (1 * amt 15)) : sProp 𝕄) = cred (tallyAt (kcell (c, 15)) () N) by rw [Nat.one_mul, show amt 15 = N from rfl]))
    iexact C15
  iapply (Entails.of_eq (show (cred (tallyAt (kcell (c, 16)) () (1 * amt 16)) : sProp 𝕄) = cred (tallyAt (kcell (c, 16)) () N) by rw [Nat.one_mul, show amt 16 = N from rfl]))
  iexact C16

/-! ## The conditions of the launch -/

theorem share_eq (c : Dev nD) (w : Fin cfg0.W) : (dats m 0 c).share w = fullShare := by unfold Dat.share; split <;> rfl

theorem ins_eq (c : Dev nD) :
    (Pipeline.unscopedRestP Pipeline.Prefetch.none cfg0.spec c (fun b => m ((c : Thread nD τ).loc b)) : sProp 𝕄) = ins m c := by
  rw [Pipeline.unscopedRestP_eq_of_list (win := cfg0.spec) (c := c) Pipeline.Prefetch.none (fun b => m ((c : Thread nD τ).loc b)) [main_arg2, main_arg3] (by decide) (by decide)]
  rfl

/-- What the launch hands a device is what its body is given. -/
theorem start_intro (c : Dev nD) :
    iprop(Pipeline.unscopedRestP Pipeline.Prefetch.none cfg0.spec c (fun b => m ((c : Thread nD τ).loc b)) ∗ levAts LS lv
        ∗ Pipeline.launchCred O₀ c ∗ prngReg c (ρ c) ∗ G' m c)
      ⊢ |={Set.univ}=> iprop(given m c ∗ emp) := by
  rw [ins_eq]
  iintro ⟨Hi, #Hlev, Hcr, -, HG⟩
  ihave Hc := (creds_intro (F := F) c) $$ Hcr
  imodintro
  unfold given G' records ctx
  icases HG with ⟨%K, ⟨#H1, #H2⟩, Hat, Hp⟩
  isplitl
  · isplitl [Hat Hp]
    · iexists K
      isplitr
      · isplitr; · iexact H1
        isplitr; · iexact H2
        iexact Hlev
      isplitl [Hat] <;> iassumption
    isplitl [Hc] <;> iassumption
  · iempintro

/-- What a device is given, with its scratch, is what its body starts from. -/
theorem phi0_intro (c : Dev nD) :
    iprop(given m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (show (Pipeline.scopedRest cfg0.spec c : sProp 𝕄) ⊢ scr c from Entails.of_eq (scopedRest0_eq c))
  iexact Hr

/-- What a device keeps to the end. -/
def kept (c : Dev nD) : sProp 𝕄 := iprop(unscopedSems0 c ∗ ins m c)

/-- What a device holds after its body is what it keeps, its zero semaphores and its scratch. -/
theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl]
  unfold Φ₁ kept
  rw [← sems0_eq]
  iintro ⟨⟨Hu, Ho⟩, Hs, Hi⟩
  isplitl [Hu Hi]
  · isplitl [Hu] <;> iassumption
  isplitl [Ho]; · iexact Ho
  iapply (show (scr c : sProp 𝕄) ⊢ Pipeline.scopedRest cfg0.spec c from Entails.of_eq (scopedRest0_eq c).symm)
  iexact Hs

theorem dues_lvl (c : Dev nD) : ∀ x ∈ dues c, 0 < lvl x.2 := by revert c; decide

/-- Every wait is allowed by what is owed. -/
theorem waits (c : Dev nD) : (levAts LS lv : sProp 𝕄) ⊢ Pipeline.cellsWaits cfgs (dats m) () 0 c :=
  Pipeline.cellsWaits_intro cfgs (dats m) () 0 c fun w s t => by
    have hz : lv ((c : Thread nD τ), .dma (((cfgs 0).win w).sem s)) () = 0 := by
      have hk : kind (.dma (((cfgs 0).win w).sem s)) = none := by fin_cases w <;> fin_cases s <;> decide
      show (match kind (.dma (((cfgs 0).win w).sem s)) with | some k => lvl k | none => 0) = 0
      rw [hk]
    obtain ⟨_ | n, ht⟩ := t
    · exact mayWait c _ (dues c) fun x hx => by rw [hz]; exact dues_lvl c x hx
    · exact mayWait c _ [] fun x hx => absurd hx List.not_mem_nil

/-! ## The run -/

def finalA (c : Dev nD) (w : Fin cfg0.W) : Buf (Elt F) ((cfg0.win w).arr.view.loc (c : Thread nD τ)) := (dats m 0 c).arrAt w cfg0.N

/-- What the launch states of the final memory. -/
def QC (s : MemSt nD τ sig (Elt F)) : Prop :=
  ∀ c : Dev nD, (∀ w : Fin cfg0.W, s.mem ((cfg0.win w).arr.view.loc (c : Thread nD τ)) = finalA m c w)
    ∧ s.mem ((c : Thread nD τ).loc main_arg2) = m ((c : Thread nD τ).loc main_arg2)
    ∧ s.mem ((c : Thread nD τ).loc main_arg3) = m ((c : Thread nD τ).loc main_arg3)

/-- A buffer held to the end is read off the final memory. -/
theorem read_held (c : Dev nD) (s : Phys nD τ sig (Elt F)) :
    iprop(ins m c ∗ SI s) ⊢ (iprop(⌜s.mem.mem ((c : Thread nD τ).loc main_arg2) = m ((c : Thread nD τ).loc main_arg2)
      ∧ s.mem.mem ((c : Thread nD τ).loc main_arg3) = m ((c : Thread nD τ).loc main_arg3)⌝ ∗ SI s) : sProp 𝕄) := by
  unfold ins
  iintro ⟨⟨H2, H3⟩, HS⟩
  icombine HS H2 gives %h2
  icombine HS H3 gives %h3
  isplitr
  · ipureintro
    exact ⟨funext fun i => h2 i (Finset.mem_univ i), funext fun i => h3 i (Finset.mem_univ i)⟩
  · iexact HS

/-- At the end the unscoped semaphores are 0, and the keys and values are as they were. -/
theorem end_read (c : Dev nD) (s' : Phys nD τ sig (Elt F)) :
    iprop(kept m c ∗ emp ∗ SI s') ⊢ (|={Set.univ}=> iprop(⌜(∀ sm : SemLoc sig, sm.isScoped .tc = false → s'.mem.sem ((c.tc : Thread nD τ), sm) = 0)
      ∧ s'.mem.mem ((c : Thread nD τ).loc main_arg2) = m ((c : Thread nD τ).loc main_arg2)
      ∧ s'.mem.mem ((c : Thread nD τ).loc main_arg3) = m ((c : Thread nD τ).loc main_arg3)⌝ ∗ SI s') : sProp 𝕄) := by
  unfold kept
  iintro ⟨⟨Hu, Hi⟩, -, HS⟩
  ihave HR := (read_held m c s') $$ [Hi HS]
  · isplitl [Hi] <;> iassumption
  icases HR with ⟨%hm, HS⟩
  imod (Pipeline.unscopedSems0_read (X := (unscopedSems0 c : sProp 𝕄)) (c := c) fupd_intro s') $$ [Hu HS] with ⟨%hs, HS⟩
  · isplitl [Hu] <;> iassumption
  imodintro
  isplitr
  · ipureintro; exact ⟨hs, hm⟩
  · iexact HS

abbrev s₀ : MemSt nD τ sig (Elt F) := ⟨m, fun _ => 0, ρ⟩

/-- From any memory with zero counters every weakly fair execution of the four devices ends, the windows' arrays at what
    the launch computes, the keys and values as they were, and every counter at zero. -/
theorem run_main : θ_run defs (onTc (τ := τ) (main (F := F))) (s₀ m ρ) (fun r => QC m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := LS) (lv := lv) (hL := fun g h => if_neg h) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := open_all m)
    (hA := fun _ _ => rfl) (hpf := fun _ k => k.elim0)
    (X := given m) (Y := kept m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := end_read m)
    (hQ := fun _ h hs => ⟨fun c => ⟨fun w => (h c).1 w, (h c).2.2.2⟩, sem_eq_zero hs fun c => (h c).2.2.1⟩)

end

end Cert.Proof.K
-- ==== Proof.Result.lean ====
module

public import proofs.«01_k».proof.Proof.Launch
public import Idealize.ShloMosaic.Lib.Pipeline.Value

/-!
  What the four devices' run leaves: each result block, and the arguments as they were.
-/

@[expose] public section

set_option synthInstance.maxSize 4096
set_option maxRecDepth 16384

noncomputable section

namespace Cert.Proof.K

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ UU ℕ

section
variable (m : (ℓ : Loc nD τ sig) → Buf (Elt F) ℓ) (ρ : Dev nD → PrngReg)

/-- The result's one block is the whole array. -/
theorem emb_out (x : S256x1024.Idx) : ((cfg0.win (3 : Fin 4)).blk t0_0).view.emb x = x := by
  funext a
  refine Fin.ext ?_
  match a with
  | ⟨0, _⟩ => show 0 * 256 + 1 * (x 0).val = (x 0).val; omega
  | ⟨1, _⟩ => show 0 * 1024 + 1 * (x 1).val = (x 1).val; omega

/-- The staged block of the input is the whole of it. -/
theorem emb_x (x : S256x1024.Idx) : (win0_0.blk (0 : Fin 1)).view.emb x = x := by
  funext a
  refine Fin.ext ?_
  match a with
  | ⟨0, _⟩ => show 0 * 256 + 1 * (x 0).val = (x 0).val; omega
  | ⟨1, _⟩ => show 0 * 1024 + 1 * (x 1).val = (x 1).val; omega

/-- The staged block of the query weights is the whole of them. -/
theorem emb_wq (x : S1024x1024.Idx) : (win0_1.blk (0 : Fin 1)).view.emb x = x := by
  funext a
  refine Fin.ext ?_
  match a with
  | ⟨0, _⟩ => show 0 * 1024 + 1 * (x 0).val = (x 0).val; omega
  | ⟨1, _⟩ => show 0 * 1024 + 1 * (x 1).val = (x 1).val; omega

/-- The staged block of the output weights is the whole of them. -/
theorem emb_wo (x : S1024x1024.Idx) : (win0_2.blk (0 : Fin 1)).view.emb x = x := by
  funext a
  refine Fin.ext ?_
  match a with
  | ⟨0, _⟩ => show 0 * 1024 + 1 * (x 0).val = (x 0).val; omega
  | ⟨1, _⟩ => show 0 * 1024 + 1 * (x 1).val = (x 1).val; omega

/-- A staged argument is the argument. -/
theorem xIn_eq (c : Dev nD) : xIn m c = m ((c : Thread nD τ).loc main_arg0) := funext fun x => congrArg (m ((c : Thread nD τ).loc main_arg0)) (emb_x x)
/-- The staged query weights are the argument. -/
theorem wqIn_eq (c : Dev nD) : wqIn m c = m ((c : Thread nD τ).loc main_arg1) := funext fun x => congrArg (m ((c : Thread nD τ).loc main_arg1)) (emb_wq x)
/-- The staged output weights are the argument. -/
theorem woIn_eq (c : Dev nD) : woIn m c = m ((c : Thread nD τ).loc main_arg4) := funext fun x => congrArg (m ((c : Thread nD τ).loc main_arg4)) (emb_wo x)

/-- The result array ends holding the device's block. -/
theorem finalA_out (c : Dev nD) : finalA m c (3 : Fin 4) = OUT m c := by
  unfold finalA
  refine Dat.arrAt_eq_of_cover (dats m 0 c) (3 : Fin 4) (OUT m c) (fun t _ => ?_) (fun i => ?_)
  · rw [fin_N0 t]
    exact funext fun x => (congrArg (OUT m c) (emb_out x)).symm
  · refine ⟨t0_0, rfl, ?_⟩
    rw [← emb_out i]
    exact Finset.mem_map_of_mem _ (Finset.mem_univ _)

/-- The run of the four devices: each result block as computed, the arguments unchanged, every counter at zero. -/
theorem run_all : θ_run defs (onTc (τ := τ) (main (F := F))) ⟨m, fun _ => 0, ρ⟩ (fun r => (∀ c : Dev nD,
      r.2.mem ((c.tc : Thread nD τ).loc main_v1) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).1 (3 : Fin 4)).trans (finalA_out m c),
      ((h.1 c).1 (0 : Fin 4)).trans ((dats m 0 c).arrAt_in (0 : Fin 4) rfl _),
      ((h.1 c).1 (1 : Fin 4)).trans ((dats m 0 c).arrAt_in (1 : Fin 4) rfl _),
      (h.1 c).2.1, (h.1 c).2.2,
      ((h.1 c).1 (2 : Fin 4)).trans ((dats m 0 c).arrAt_in (2 : Fin 4) rfl _)⟩, h.2⟩) (run_main m ρ)

/-- The same run, of which only the arguments and the counters are kept. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2, h.2⟩) (run_all m ρ)

end

end Cert.Proof.K
-- ==== Proof.Frames.lean ====
module

public import proofs.«01_k».proof.Defs
public import proofs.«01_k».proof.Proof.Result
public import proofs.«01_k».proof.Proof.Gen.Kernel
public import proofs.«01_k».proof.Proof.Gen.KernelIdeal
public import proofs.«01_k».proof.Proof.Gen.ReferenceIdeal.Run
public import Idealize.ShloMosaic.Adequacy
public import Idealize.ShloMosaic.Init
public import Idealize.ShloMosaic.Lib.Quiescent

/-!
  The runs claimed: the kernel as printed, the kernel with its constant named, and the reference.
-/

@[expose] public section

noncomputable section

namespace Cert.Proof

open Idealize.ShloMosaic Idealize.SL.Sem

/-- The kernel with its constant named runs. -/
theorem frame_ideal : Cert.quiescent_KernelIdeal (hKernelIdeal := Cert.KernelIdeal.Gen.facts) := fun m g _ => K.run_args (F := Ideal) m g

/-- The reference runs. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- At the machine's own numbers a named constant is read as its printed pattern. -/
@[reducible] def namedBits : Named Bits where
  named _ _ {φ} bits := Scalar.ofBits φ bits

attribute [local instance] Cert.Kernel.Gen.facts Cert.KernelIdeal.Gen.facts

set_option maxRecDepth 65536 in
/-- So read, the two printed bodies are one. -/
theorem defs_same : (@Cert.Kernel.defs₀ Bits _ _) = (@Cert.KernelIdeal.defs₀ Bits _ namedBits _) := by
  refine congrArg (Defs.onTc (Λ := Cert.Kernel.Λ₀)) ?_
  funext l a
  obtain ⟨l, hl⟩ := l
  obtain rfl : l = 0 := by
    have : l < 1 := hl
    omega
  rfl

/-- The kernel as printed runs. -/
theorem frame_kernel : Cert.quiescent_Kernel (hKernel := Cert.Kernel.Gen.facts) := by
  intro m g _
  have h := @K.run_args Bits _ namedBits m g
  unfold Cert.Kernel.defs
  rw [defs_same]
  exact h

/-- The constant named is the value its table gives it. -/
theorem named_preserved : Cert.preserves_Kernel_KernelIdeal :=
  IdealRules.named_const.statement Cert.KernelIdeal.κ "mask" .f32 0xCE6E6B28#32 ⊥ rfl

end Cert.Proof

end
-- ==== Proof.Softmax.lean ====
module

public import Idealize.ShloMosaic.PureOps.Ideal.Laws
public import Idealize.ShloMosaic.Lib.IdealHost

/-!
  Attention of one row over a set of keys, at the extended reals: the weights `exp (s k − M) / Σ exp (s k − M)`, `M` the
  largest score of the set. It is what remains both of a sum over all keys whose masked scores are −∞, and of two sums,
  over a window of keys and over the first keys, each with its own mask added to the scores.
-/

@[expose] public section

noncomputable section

namespace Cert.Proof.Softmax

open Idealize.ShloMosaic
open scoped BigOperators

/-- An extended real that is a real number. -/
def IsReal (x : EReal) : Prop := ∃ r : ℝ, x = (r : EReal)

/-- Zero is a real number. -/
theorem IsReal.zero : IsReal 0 := ⟨0, rfl⟩

/-- A sum of two real numbers is one. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two real numbers is one. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is one. -/
theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- What is neither infinity is a real number. -/
theorem isReal_of_abs_lt {x : EReal} (h : max x (-x) < ⊤) : IsReal x := by
  induction x with
  | bot => simp at h
  | top => simp at h
  | coe r => exact ⟨r, rfl⟩

/-- A sum times a real number that is not negative. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

variable {C : Type} (S : Finset C) (s v : C → EReal)

/-- The weight of a key, before it is divided by the sum of the weights. -/
def wt (k : C) : EReal := Ideal.exp (s k - S.sup s)

/-- The sum of the weights. -/
def den : EReal := ∑ k ∈ S, wt S s k

/-- The row's attention over the keys of `S`. -/
def att : EReal := (∑ k ∈ S, wt S s k * v k) * (den S s)⁻¹

variable {S s}

/-- The largest of some real numbers is one. -/
theorem sup_real (hS : S.Nonempty) (hs : ∀ k ∈ S, IsReal (s k)) : IsReal (S.sup s) := by
  obtain ⟨k, hk, e⟩ := Finset.exists_mem_eq_sup S hS s
  rw [e]
  exact hs k hk

/-- A weight is a positive real number. -/
theorem wt_pos (hs : ∀ k ∈ S, IsReal (s k)) {k : C} (hk : k ∈ S) : ∃ r : ℝ, 0 < r ∧ wt S s k = (r : EReal) := by
  obtain ⟨M, hM⟩ := sup_real ⟨k, hk⟩ hs
  obtain ⟨a, ha⟩ := hs k hk
  refine ⟨Real.exp (a - M), Real.exp_pos _, ?_⟩
  unfold wt
  rw [hM, ha, ← EReal.coe_sub]
  rfl

/-- So is their sum. -/
theorem den_pos (hS : S.Nonempty) (hs : ∀ k ∈ S, IsReal (s k)) : ∃ r : ℝ, 0 < r ∧ den S s = (r : EReal) := by
  classical
  have key : ∀ T : Finset C, T ⊆ S → ∃ r : ℝ, 0 ≤ r ∧ (T.Nonempty → 0 < r) ∧ ∑ k ∈ T, wt S s k = (r : EReal) := by
    intro T
    induction T using Finset.induction_on with
    | empty => exact fun _ => ⟨0, le_refl _, fun h => absurd h (by simp), by simp⟩
    | insert a T ha ih =>
      intro hT
      obtain ⟨r, h0, _, e⟩ := ih fun x hx => hT (Finset.mem_insert_of_mem hx)
      obtain ⟨q, hq, e'⟩ := wt_pos hs (hT (Finset.mem_insert_self a T))
      refine ⟨q + r, by linarith, fun _ => by linarith, ?_⟩
      rw [Finset.sum_insert ha, e, e', EReal.coe_add]
  obtain ⟨r, _, h, e⟩ := key S (Finset.Subset.refl S)
  exact ⟨r, h hS, e⟩

/-- Division by the sum of the weights. -/
theorem div_den (hS : S.Nonempty) (hs : ∀ k ∈ S, IsReal (s k)) (x : EReal) : Ideal.div x (den S s) = x * (den S s)⁻¹ := by
  obtain ⟨r, hr, e⟩ := den_pos hS hs
  rw [Ideal.div, if_neg]
  rw [e]
  exact_mod_cast hr.ne'

/-! ## All keys, masked with −∞ -/

/-- A fold of the maximum from −∞ is the supremum. -/
theorem fold_max (T : Finset C) (t : C → EReal) : T.fold max ⊥ t = T.sup t := rfl

section Masked
variable (s)
variable [Fintype C] (p : C → Prop) [DecidablePred p]

/-- The largest of the masked scores is the largest of those kept. -/
theorem sup_masked : (Finset.univ : Finset C).sup (fun k => if p k then s k else ⊥) = (Finset.univ.filter p).sup s := by
  apply le_antisymm
  · refine Finset.sup_le fun k _ => ?_
    by_cases h : p k
    · rw [if_pos h]; exact Finset.le_sup (f := s) (Finset.mem_filter.mpr ⟨Finset.mem_univ k, h⟩)
    · rw [if_neg h]; exact bot_le
  · refine Finset.sup_le fun k hk => ?_
    have h := (Finset.mem_filter.mp hk).2
    have := Finset.le_sup (f := fun k => if p k then s k else ⊥) (Finset.mem_univ k)
    simpa [h] using this

/-- A masked key's weight is zero. -/
theorem exp_masked (M : EReal) (k : C) :
    Ideal.exp ((if p k then s k else ⊥) - M) = if p k then Ideal.exp (s k - M) else 0 := by
  by_cases h : p k
  · rw [if_pos h, if_pos h]
  · rw [if_neg h, if_neg h, EReal.bot_sub]; rfl

/-- A sum weighted by masked exponentials is a sum over the scores kept. -/
theorem sum_masked (M : EReal) (g : C → EReal) :
    ∑ k, (Ideal.exp ((if p k then s k else ⊥) - M)) * g k = ∑ k ∈ Finset.univ.filter p, Ideal.exp (s k - M) * g k := by
  rw [Finset.sum_filter]
  refine Finset.sum_congr rfl fun k _ => ?_
  rw [exp_masked]
  by_cases h : p k
  · rw [if_pos h, if_pos h]
  · rw [if_neg h, if_neg h, zero_mul]

/-- The sum of the masked exponentials is the sum over the scores kept. -/
theorem den_masked (M : EReal) :
    ∑ k, (Ideal.exp ((if p k then s k else ⊥) - M)) = ∑ k ∈ Finset.univ.filter p, Ideal.exp (s k - M) := by
  simpa using sum_masked s p M (fun _ => 1)

/-- The weights of all keys, each divided by their sum, masked scores being −∞, and then the sum of the values so weighted. -/
theorem att_masked (hS : (Finset.univ.filter p).Nonempty) (hs : ∀ k, IsReal (s k)) {M D : EReal}
    (hM : M = (Finset.univ : Finset C).sup (fun k => if p k then s k else ⊥))
    (hD : D = ∑ k, Ideal.exp ((if p k then s k else ⊥) - M)) :
    ∑ k, v k * Ideal.div (Ideal.exp ((if p k then s k else ⊥) - M)) D = att (Finset.univ.filter p) s v := by
  have hM' : M = (Finset.univ.filter p).sup s := hM.trans (sup_masked s p)
  have hD' : D = den (Finset.univ.filter p) s := by
    rw [hD, den_masked, hM']; rfl
  obtain ⟨r, hr, e⟩ := den_pos hS fun k _ => hs k
  have hc : (0 : ℝ) ≤ r⁻¹ := inv_nonneg.mpr hr.le
  unfold att
  rw [e, ← EReal.coe_inv, sum_mul_coe _ _ hc, Finset.sum_filter]
  refine Finset.sum_congr rfl fun k _ => ?_
  rw [hD', div_den hS (fun k _ => hs k), e, ← EReal.coe_inv, exp_masked, hM']
  by_cases h : p k
  · rw [if_pos h, if_pos h, ← mul_assoc, mul_comm (v k)]; rfl
  · rw [if_neg h, if_neg h, zero_mul, mul_zero]

end Masked

/-! ## A window of keys and the first keys -/

section Two
variable {A B : Type} [Fintype A] [Fintype B] [DecidableEq C] (a : A → C) (b : B → C)
  (pa : A → Prop) [DecidablePred pa] (pb : B → Prop) [DecidablePred pb]

/-- Two families of keys, each key of `S` met once. -/
structure Covers (S : Finset C) : Prop where
  inj_a : Function.Injective a
  inj_b : Function.Injective b
  apart : ∀ x y, pa x → pb y → a x ≠ b y
  mem : ∀ k, k ∈ S ↔ (∃ x, pa x ∧ a x = k) ∨ ∃ y, pb y ∧ b y = k

variable {a b pa pb}

/-- The set is the union of its two pieces. -/
theorem Covers.eq {S : Finset C} (h : Covers a b pa pb S) :
    S = (Finset.univ.filter pa).image a ∪ (Finset.univ.filter pb).image b := by
  ext k
  simp [h.mem k]

/-- A sum over the set, piece by piece. -/
theorem Covers.sum {S : Finset C} (h : Covers a b pa pb S) (f : C → EReal) :
    ∑ k ∈ S, f k = ∑ x ∈ Finset.univ.filter pa, f (a x) + ∑ y ∈ Finset.univ.filter pb, f (b y) := by
  rw [h.eq, Finset.sum_union, Finset.sum_image h.inj_a.injOn, Finset.sum_image h.inj_b.injOn]
  rw [Finset.disjoint_left]
  intro k hk hk'
  simp only [Finset.mem_image, Finset.mem_filter, Finset.mem_univ, true_and] at hk hk'
  obtain ⟨x, hx, rfl⟩ := hk
  obtain ⟨y, hy, e⟩ := hk'
  exact h.apart x y hx hy e.symm

/-- A largest element over the set, piece by piece. -/
theorem Covers.sup {S : Finset C} (h : Covers a b pa pb S) (s : C → EReal) :
    S.sup s = max ((Finset.univ.filter pa).sup fun x => s (a x)) ((Finset.univ.filter pb).sup fun y => s (b y)) := by
  rw [h.eq, Finset.sup_union, Finset.sup_image, Finset.sup_image]
  rfl

/-- Both families' weights, taken with the largest score of both, sum to the sum of the weights. -/
theorem den_two {S : Finset C} (h : Covers a b pa pb S) (s : C → EReal) {M : EReal}
    (hM : M = max ((Finset.univ : Finset A).sup fun x => if pa x then s (a x) else ⊥)
      ((Finset.univ : Finset B).sup fun y => if pb y then s (b y) else ⊥)) :
    (∑ x, Ideal.exp ((if pa x then s (a x) else ⊥) - M)) + (∑ y, Ideal.exp ((if pb y then s (b y) else ⊥) - M)) = den S s := by
  rw [sup_masked (fun x => s (a x)) pa, sup_masked (fun y => s (b y)) pb, ← h.sup] at hM
  rw [den_masked (fun x => s (a x)) pa, den_masked (fun y => s (b y)) pb, hM]
  exact (h.sum fun k => Ideal.exp (s k - S.sup s)).symm

/-- The weighted values of both families, times what is kept over the sum of the weights. -/
theorem att_two {S : Finset C} (h : Covers a b pa pb S) (hS : S.Nonempty) (s v : C → EReal) (hs : ∀ k ∈ S, IsReal (s k))
    {M D keep : EReal}
    (hM : M = max ((Finset.univ : Finset A).sup fun x => if pa x then s (a x) else ⊥)
      ((Finset.univ : Finset B).sup fun y => if pb y then s (b y) else ⊥))
    (hD : D = (∑ x, Ideal.exp ((if pa x then s (a x) else ⊥) - M)) + (∑ y, Ideal.exp ((if pb y then s (b y) else ⊥) - M))) :
    ((∑ x, Ideal.exp ((if pa x then s (a x) else ⊥) - M) * v (a x)) +
        (∑ y, Ideal.exp ((if pb y then s (b y) else ⊥) - M) * v (b y))) * Ideal.div keep D = keep * att S s v := by
  have hD' : D = den S s := hD.trans (den_two h s hM)
  rw [sup_masked (fun x => s (a x)) pa, sup_masked (fun y => s (b y)) pb, ← h.sup] at hM
  rw [sum_masked (fun x => s (a x)) pa, sum_masked (fun y => s (b y)) pb, hM, hD', div_den hS hs]
  unfold att
  rw [← mul_assoc, ← mul_assoc, mul_comm keep]
  exact congrArg (fun t => t * keep * (den S s)⁻¹) (h.sum fun k => wt S s k * v k).symm

end Two

/-- All keys, unmasked. -/
theorem att_all [Fintype C] [Nonempty C] (s v : C → EReal) (hs : ∀ k, IsReal (s k)) {M : EReal}
    (hM : M = (Finset.univ : Finset C).sup s) :
    Ideal.div (∑ k, Ideal.exp (s k - M) * v k) (∑ k, Ideal.exp (s k - M)) = att Finset.univ s v := by
  have e := div_den (S := (Finset.univ : Finset C)) (s := s) Finset.univ_nonempty (fun k _ => hs k)
    (∑ k, Ideal.exp (s k - M) * v k)
  subst hM
  exact e

end Cert.Proof.Softmax

end
-- ==== Proof.Masks.lean ====
module

public import proofs.«01_k».proof.Proof.Values
public import proofs.«01_k».proof.Proof.Softmax
public import Idealize.ShloMosaic.Lib.WordArith
public import Idealize.ShloMosaic.Lib.WordCmp

/-!
  Which keys a row looks at: the words of the masks as statements about row and key numbers, and that a block's window
  of keys together with the first keys meets each key a row looks at once.
-/

@[expose] public section

noncomputable section

namespace Cert.Proof.K

open Idealize.ShloMosaic Idealize.ShloMosaic.ValueIdx
open Cert.Proof.Softmax
open Cert.KernelIdeal Cert.KernelIdeal.Gen

/-- A key within 128 of a row. -/
def Near (n k : ℕ) : Prop := n ≤ k + 128 ∧ k ≤ n + 128

instance (n k : ℕ) : Decidable (Near n k) := inferInstanceAs (Decidable (_ ∧ _))

/-- The word that says so. -/
theorem near_word {n k : ℕ} (hn : n < 2 ^ 20) (hk : k < 2 ^ 20) :
    IntOp.cmpi .sle (IntOp.absi (IntOp.subi (BitVec.ofNat 32 n) (BitVec.ofNat 32 k))) 128#32
      = BitVec.ofBool (decide (Near n k)) := by
  have en : (BitVec.ofNat 32 n).toInt = n := WordArith.toInt_ofNat_small n (by omega)
  have ek : (BitVec.ofNat 32 k).toInt = k := WordArith.toInt_ofNat_small k (by omega)
  have e : (IntOp.subi (BitVec.ofNat 32 n) (BitVec.ofNat 32 k)).toInt = (n : ℤ) - k := by
    rw [WordArith.toInt_subi_of_nonneg _ _ (by omega) (by omega), en, ek]
  generalize IntOp.subi (BitVec.ofNat 32 n) (BitVec.ofNat 32 k) = x at e
  have e128 : (128#32 : BitVec 32).toInt = 128 := by decide
  have ha : (IntOp.absi x).toInt = |(n : ℤ) - k| := by
    unfold IntOp.absi
    rw [BitVec.msb_eq_toInt, e]
    by_cases h : (n : ℤ) - k < 0
    · have hm : x ≠ BitVec.intMin 32 := by
        intro hx
        rw [hx] at e
        have : (BitVec.intMin 32).toInt = -2147483648 := by decide
        omega
      simp only [h, decide_true, if_true]
      rw [BitVec.toInt_neg_of_ne_intMin hm, e, abs_of_neg h]
    · simp only [h, decide_false]
      rw [abs_of_nonneg (by omega)]
      exact e
  rw [WordCmp.cmpi_sle_eq, ha, e128]
  congr 1
  apply decide_eq_decide.mpr
  unfold Near
  rw [abs_le]
  omega

/-- Words of numbers add as the numbers do. -/
theorem word_add (a b : ℕ) : IntOp.addi (BitVec.ofNat 32 a) (BitVec.ofNat 32 b) = BitVec.ofNat 32 (a + b) :=
  (BitVec.ofNat_add a b).symm

/-- The first row of a block, as a word. -/
theorem word_block (b : Fin 4) : Scalar.muli (BitVec.ofNat 32 b.val) 256#32 = BitVec.ofNat 32 (256 * b.val) := by
  revert b; decide

/-- The first key of a block's window, as a word. -/
theorem word_ws (b : Fin 4) : wsOf (BitVec.ofNat 32 b.val) = BitVec.ofNat 32 (ws b) := by
  revert b; decide

/-- Whether a block's window starts at the first key. -/
theorem word_ws_eq (b : Fin 4) : Scalar.cmpi .eq (BitVec.ofNat 32 (ws b)) 0#32 = BitVec.ofBool (decide (ws b = 0)) := by
  revert b; decide

/-- Whether a block's window starts past the first key. -/
theorem word_ws_pos (b : Fin 4) : Scalar.cmpi .sgt (BitVec.ofNat 32 (ws b)) 0#32 = BitVec.ofBool (decide (0 < ws b)) := by
  revert b; decide

/-- Whether a small number is less than 32, as words compare. -/
theorem word_lt {a : ℕ} (h : a < 2 ^ 20) : IntOp.cmpi .slt (BitVec.ofNat 32 a) 32#32 = BitVec.ofBool (decide (a < 32)) :=
  WordCmp.cmpi_slt_ofNat (w := 32) (a := a) (b := 32) (by omega) (by omega)

/-- Whether a small number is at least 32, as words compare. -/
theorem word_ge {a : ℕ} (h : a < 2 ^ 20) : IntOp.cmpi .sge (BitVec.ofNat 32 a) 32#32 = BitVec.ofBool (decide (32 ≤ a)) :=
  WordCmp.cmpi_sge_ofNat (w := 32) (a := a) (b := 32) (by omega) (by omega)

/-- The key of the window that row `r` of block `b` looks at. -/
def InWin (b : Fin 4) (r : Fin 256) (x : Fin 512) : Prop :=
  Near (256 * b.val + r.val) (ws b + x.val) ∨ (ws b + x.val < 32 ∧ ws b = 0)

instance (b : Fin 4) (r : Fin 256) : DecidablePred (InWin b r) := fun _ => inferInstanceAs (Decidable (_ ∨ _))

/-- The keys among the first 128 that a row of block `b` looks at apart from its window. -/
def InPre (b : Fin 4) (y : Fin 128) : Prop := y.val < 32 ∧ 0 < ws b

instance (b : Fin 4) : DecidablePred (InPre b) := fun _ => inferInstanceAs (Decidable (_ ∧ _))

/-- The keys that row `n` looks at, the global rows apart. -/
def Keys (n : ℕ) : Finset (Fin 4096) := Finset.univ.filter fun k => Near n k.val ∨ k.val < 32

/-- A key's number in the window, among all keys. -/
def winKey (b : Fin 4) (x : Fin 512) : Fin 4096 := ⟨ws b + x.val, by have := x.isLt; have := b.isLt; unfold ws; omega⟩

/-- A key's number in the first 128, among all keys. -/
def preKey (y : Fin 128) : Fin 4096 := ⟨y.val, by have := y.isLt; omega⟩

/-- Window and first keys cover the keys a row looks at. -/
theorem covers (b : Fin 4) (r : Fin 256) : Covers (winKey b) preKey (InWin b r) (InPre b) (Keys (256 * b.val + r.val)) where
  inj_a x y h := Fin.ext (by have := congrArg Fin.val h; simp only [winKey] at this; omega)
  inj_b x y h := Fin.ext (by have := congrArg Fin.val h; simpa only [preKey] using this)
  apart x y hx hy h := by
    have h1 := congrArg Fin.val h
    have := b.isLt
    simp only [winKey, preKey, InWin, InPre, Near, ws] at h1 hx hy
    omega
  mem k := by
    have hb := b.isLt
    have hr := r.isLt
    have hk := k.isLt
    simp only [Keys, Finset.mem_filter, Finset.mem_univ, true_and]
    constructor
    · intro h
      by_cases hw : ws b ≤ k.val ∧ k.val < ws b + 512 ∧ (Near (256 * b.val + r.val) k.val ∨ ws b = 0)
      · left
        refine ⟨⟨k.val - ws b, by omega⟩, ?_, Fin.ext ?_⟩
        · simp only [InWin]
          rw [show ws b + (k.val - ws b) = k.val by omega]
          unfold Near at h hw ⊢
          omega
        · simp only [winKey]; omega
      · right
        refine ⟨⟨k.val, ?_⟩, ?_, rfl⟩
        · simp only [ws, Near] at h hw; omega
        · simp only [InPre, ws, Near] at h hw ⊢; omega
    · rintro (⟨x, hx, rfl⟩ | ⟨y, hy, rfl⟩)
      · show Near _ (ws b + x.val) ∨ ws b + x.val < 32
        rcases hx with h | h
        · exact .inl h
        · exact .inr h.1
      · exact .inr hy.1

/-- Every row looks at some key. -/
theorem Keys_nonempty (n : ℕ) : (Keys n).Nonempty :=
  ⟨⟨0, by omega⟩, Finset.mem_filter.mpr ⟨Finset.mem_univ _, .inr (by show 0 < 32; omega)⟩⟩

end Cert.Proof.K

end
-- ==== Proof.Reads.lean ====
module

public import proofs.«01_k».proof.Proof.Softmax
public import Idealize.ShloMosaic.Lib.MatmulPlain
public import Idealize.ShloMosaic.Lib.ValueLayout
public import Idealize.ShloMosaic.Lib.ValueLayoutCasts
public import Idealize.ShloMosaic.PureOps.Ideal.Laws

/-!
  The operations on matrices read at a row and a column, over the extended reals: products, the largest element and the
  sum of a row, and a column repeated along its rows.
-/

@[expose] public section

noncomputable section

namespace Cert.Proof.Reads

open Idealize.ShloMosaic Idealize.ShloMosaic.ValueIdx
open scoped BigOperators

/-- A product into zero. -/
theorem mm_plain {M K N : ℕ} {φ₁ φ₂ : FTy} (l : FVec Ideal ⟨2, ![M, K]⟩ φ₁) (r : FVec Ideal ⟨2, ![K, N]⟩ φ₂) (a : Fin M)
    (b : Fin N) :
    matmul (DotDims.plain M K N) none l r (constant ⟨2, ![M, N]⟩ .f32 0x00000000#32) (ix2 a b)
      = ∑ k : Fin K, l (ix2 a k) * r (ix2 k b) := by
  refine (Ideal.matmul_plain_apply none l r _ a b).trans ?_
  rw [constant_apply, Ideal.ofBits_zero_f32, zero_add]

/-- A product with a transposed right operand, into zero. -/
theorem mm_trans {M K N : ℕ} {φ₁ φ₂ : FTy} (l : FVec Ideal ⟨2, ![M, K]⟩ φ₁) (r : FVec Ideal ⟨2, ![N, K]⟩ φ₂) (a : Fin M)
    (b : Fin N) :
    matmul (DotDims.transposedRhs M K N) none l r (constant ⟨2, ![M, N]⟩ .f32 0x00000000#32) (ix2 a b)
      = ∑ k : Fin K, l (ix2 a k) * r (ix2 b k) := by
  refine (Ideal.matmul_transposedRhs_apply none l r _ a b).trans ?_
  rw [constant_apply, Ideal.ofBits_zero_f32, zero_add]

/-- A row and a coordinate along it. -/
theorem lift_row {M N : ℕ} (h : Shape.Reduces ⟨2, ![M, N]⟩ [1] ⟨1, ![M]⟩) (a : Fin M) (k : Fin N) :
    h.lift (ix1 a) k = ix2 a k := by
  funext d
  apply Fin.ext
  match d with
  | ⟨0, _⟩ => rfl
  | ⟨1, _⟩ => rfl

/-- The largest element of a row. -/
theorem row_max {M N : ℕ} (x : FVec Ideal ⟨2, ![M, N]⟩ .f32) (h : Shape.Reduces ⟨2, ![M, N]⟩ [1] ⟨1, ![M]⟩)
    (hφ : FKind.Formats .f32) (hacc : (0xFF800000#32 : BitVec 32) = FKind.maximumf.neutral .f32 hφ) (a : Fin M) :
    multiReduction .maximumf [1] ⟨1, ![M]⟩ x 0xFF800000#32 h hφ hacc (ix1 a)
      = (Finset.univ : Finset (Fin N)).sup fun k => x (ix2 a k) := by
  rw [Ideal.multiReduction_maximumf_single]
  have e : (FloatOps.ofBits (F := Ideal) .f32 0xFF800000#32 : EReal) = ⊥ := by
    show Ideal.ofBits .f32 0xFF800000#32 = ⊥
    simp [Ideal.ofBits, Ideal.ieee]
  rw [e]
  have e' : (x ∘ h.lift (ix1 a)) = fun k : Fin N => x (ix2 a k) := funext fun k => congrArg x (lift_row h a k)
  rw [e']
  rfl

/-- The sum of a row. -/
theorem row_sum {M N : ℕ} (x : FVec Ideal ⟨2, ![M, N]⟩ .f32) (h : Shape.Reduces ⟨2, ![M, N]⟩ [1] ⟨1, ![M]⟩)
    (hφ : FKind.Formats .f32) (hacc : (0x00000000#32 : BitVec 32) = FKind.add.neutral .f32 hφ) (a : Fin M) :
    multiReduction .add [1] ⟨1, ![M]⟩ x 0x00000000#32 h hφ hacc (ix1 a) = ∑ k : Fin N, x (ix2 a k) := by
  rw [Ideal.multiReduction_add_single]
  exact Finset.sum_congr rfl fun k _ => congrArg x (lift_row h a k)

/-- A column repeated along its rows. -/
theorem col_apply {α : Type} {M N : ℕ} (v : (⟨2, ![M, 1]⟩ : Shape).Idx → α)
    (h : (⟨2, ![M, 1]⟩ : Shape).Broadcasts ⟨2, ![M, N]⟩) (hM : M ≠ 1) (a : Fin M) (b : Fin N) :
    broadcastTo ⟨2, ![M, N]⟩ v h (ix2 a b) = v (ix2 a 0) := by
  refine broadcastTo_apply v h (ix2 a b) (ix2 a 0) fun d => ?_
  match d with
  | ⟨0, _⟩ => exact (if_neg hM).symm
  | ⟨1, _⟩ => exact (if_pos rfl).symm

end Cert.Proof.Reads

end
-- ==== Proof.KernelValue.lean ====
module

public import proofs.«01_k».proof.Proof.Masks
public import proofs.«01_k».proof.Proof.Reads
public import Idealize.ShloMosaic.PureOps.IdealRules

/-!
  The kernel's values over the extended reals, at a row and a column: a head's context is the attention of the row over
  the keys it looks at, and 0 in the global rows; what the global rows get instead is their attention over all keys.
-/

@[expose] public section

set_option synthInstance.maxSize 4096
set_option maxRecDepth 16384

noncomputable section

namespace Cert.Proof.K

open Idealize.ShloMosaic Idealize.ShloMosaic.ValueIdx
open Cert.Proof.Softmax Cert.Proof.Reads
open Cert.KernelIdeal Cert.KernelIdeal.Gen
open scoped BigOperators

/-- A choice by a decided condition. -/
theorem select_ofBool {α : Type} (p : Prop) [Decidable p] (x y : α) :
    Scalar.select (BitVec.ofBool (decide p)) x y = if p then x else y := by
  by_cases h : p
  · rw [if_pos h, decide_eq_true h]; rfl
  · rw [if_neg h, decide_eq_false h]; rfl

/-- The named constant is minus infinity. -/
theorem mask_bot : (Named.named (F := Ideal) κ "mask" (φ := .f32) 0xCE6E6B28#32 : EReal) = ⊥ :=
  IdealRules.named_const.ideal_named_scalar _ _ _ _ rfl

/-- The zero pattern is 0. -/
theorem zero_word : (Scalar.ofBits (F := Ideal) .f32 0x00000000#32 : EReal) = 0 := Ideal.ofBits_zero_f32

/-- What is added to a score of the window. -/
theorem vBias_apply (b : Fin 4) (r : Fin 256) (x : Fin 512) :
    vBias (F := Ideal) (BitVec.ofNat 32 b.val) (ix2 r x) = if InWin b r x then (0 : EReal) else ⊥ := by
  have hr := r.isLt
  have hx := x.isLt
  have hb := b.isLt
  have e0 : iota .tc S256x512 32 [0] iota_S256x512_d0_w32 (ix2 r x) = BitVec.ofNat 32 r.val := iota_single_apply ..
  have e1 : iota .tc S256x512 32 [1] iota_S256x512_d1_w32 (ix2 r x) = BitVec.ofNat 32 x.val := iota_single_apply ..
  show Scalar.select (IntOp.ori (IntOp.cmpi .sle (IntOp.absi (IntOp.subi
      (IntOp.addi (iota .tc S256x512 32 [0] iota_S256x512_d0_w32 (ix2 r x)) (Scalar.muli (BitVec.ofNat 32 b.val) 256#32))
      (IntOp.addi (iota .tc S256x512 32 [1] iota_S256x512_d1_w32 (ix2 r x)) (wsOf (BitVec.ofNat 32 b.val))))) 128#32)
      (IntOp.andi (IntOp.cmpi .slt (IntOp.addi (iota .tc S256x512 32 [1] iota_S256x512_d1_w32 (ix2 r x))
        (wsOf (BitVec.ofNat 32 b.val))) 32#32) (Scalar.cmpi .eq (wsOf (BitVec.ofNat 32 b.val)) 0#32)))
      (Scalar.ofBits (F := Ideal) .f32 0x00000000#32) (Named.named (F := Ideal) κ "mask" (φ := .f32) 0xCE6E6B28#32) = _
  rw [e0, e1, word_block, word_ws, word_ws_eq, word_add, word_add, near_word (by omega) (by unfold ws; omega),
    word_lt (by unfold ws; omega), WordCmp.andi_ofBool, WordCmp.ori_ofBool, ← Bool.decide_and, ← Bool.decide_or,
    select_ofBool, mask_bot, zero_word]
  refine if_congr ?_ rfl rfl
  unfold InWin
  rw [Nat.add_comm r.val, Nat.add_comm x.val]

/-- What is added to a score of the first keys. -/
theorem vPbias_apply (b : Fin 4) (r : Fin 256) (y : Fin 128) :
    vPbias (F := Ideal) (BitVec.ofNat 32 b.val) (ix2 r y) = if InPre b y then (0 : EReal) else ⊥ := by
  have hy := y.isLt
  have e1 : iota .tc S256x128 32 [1] iota_S256x128_d1_w32 (ix2 r y) = BitVec.ofNat 32 y.val := iota_single_apply ..
  show Scalar.select (IntOp.andi (IntOp.cmpi .slt (iota .tc S256x128 32 [1] iota_S256x128_d1_w32 (ix2 r y)) 32#32)
      (Scalar.cmpi .sgt (wsOf (BitVec.ofNat 32 b.val)) 0#32))
      (Scalar.ofBits (F := Ideal) .f32 0x00000000#32) (Named.named (F := Ideal) κ "mask" (φ := .f32) 0xCE6E6B28#32) = _
  rw [e1, word_ws, word_ws_pos, word_lt (by omega), WordCmp.andi_ofBool, ← Bool.decide_and, select_ofBool, mask_bot, zero_word]
  rfl

/-- 1 in the rows that are not global. -/
theorem vKeep_apply (b : Fin 4) (r : Fin 256) :
    vKeep (F := Ideal) (BitVec.ofNat 32 b.val) (ix2 r 0) = if 32 ≤ 256 * b.val + r.val then (1 : EReal) else 0 := by
  have hr := r.isLt
  have hb := b.isLt
  have e0 : iota .tc S256x1 32 [0] iota_S256x1_d0_w32 (ix2 r 0) = BitVec.ofNat 32 r.val := iota_single_apply ..
  show ((((IntOp.cmpi .sge (IntOp.addi (iota .tc S256x1 32 [0] iota_S256x1_d0_w32 (ix2 r 0))
      (Scalar.muli (BitVec.ofNat 32 b.val) 256#32)) 32#32).setWidth 32).toInt : ℝ) : EReal) = _
  rw [e0, word_block, word_add, word_ge (by omega), Nat.add_comm r.val]
  by_cases h : 32 ≤ 256 * b.val + r.val
  · rw [if_pos h, decide_eq_true h]
    have : ((BitVec.ofBool true).setWidth 32 : BitVec 32).toInt = 1 := by decide
    rw [this]; norm_num
  · rw [if_neg h, decide_eq_false h]
    have : ((BitVec.ofBool false).setWidth 32 : BitVec 32).toInt = 0 := by decide
    rw [this]; norm_num

/-- A masked score. -/
theorem add_mask (p : Prop) [Decidable p] (s : EReal) : s + (if p then 0 else ⊥) = if p then s else ⊥ := by
  by_cases h : p
  · rw [if_pos h, if_pos h, add_zero]
  · rw [if_neg h, if_neg h, EReal.add_bot]

/-- A score of the window, minus infinity where the mask clears it. -/
theorem vSw_apply (b : Fin 4) (q : Vec Ideal S256x128 .bf16) (kw : Vec Ideal S1x512x128 .bf16) (r : Fin 256) (x : Fin 512) :
    vSw (BitVec.ofNat 32 b.val) q kw (ix2 r x)
      = if InWin b r x then (∑ j : Fin 128, q (ix2 r j) * kw (ix3 0 x j) : EReal) else ⊥ := by
  have e := mm_trans (φ₁ := .bf16) (φ₂ := .bf16) q (shapeCast S512x128 kw shapeCasts_S1x512x128_S512x128) r x
  refine Eq.trans (congrArg₂ (fun s t : EReal => s + t) e (vBias_apply b r x)) ?_
  rw [add_mask]
  refine if_congr Iff.rfl (Finset.sum_congr rfl fun j _ => ?_) rfl
  exact congrArg (fun t => q (ix2 r j) * t) (shapeCast_1ab_ab_apply kw _ x j)

/-- A score of the first keys, minus infinity where the mask clears it. -/
theorem vSp_apply (b : Fin 4) (q : Vec Ideal S256x128 .bf16) (kp : Vec Ideal S1x128x128 .bf16) (r : Fin 256) (y : Fin 128) :
    vSp (BitVec.ofNat 32 b.val) q kp (ix2 r y)
      = if InPre b y then (∑ j : Fin 128, q (ix2 r j) * kp (ix3 0 y j) : EReal) else ⊥ := by
  have e := mm_trans (φ₁ := .bf16) (φ₂ := .bf16) q (shapeCast S128x128 kp shapeCasts_S1x128x128_S128x128) r y
  refine Eq.trans (congrArg₂ (fun s t : EReal => s + t) e (vPbias_apply b r y)) ?_
  rw [add_mask]
  refine if_congr Iff.rfl (Finset.sum_congr rfl fun j _ => ?_) rfl
  exact congrArg (fun t => q (ix2 r j) * t) (shapeCast_1ab_ab_apply kp _ y j)

section Weights
variable (sw : FVec Ideal S256x512 .f32) (sp : FVec Ideal S256x128 .f32) (r : Fin 256)

/-- The largest score of a row over the window and the first keys. -/
theorem vMax_apply : vMax sw sp (ix2 r 0)
    = max ((Finset.univ : Finset (Fin 512)).sup fun x => (sw (ix2 r x) : EReal)) ((Finset.univ : Finset (Fin 128)).sup fun y => (sp (ix2 r y) : EReal)) :=
  congrArg₂ (fun s t : EReal => max s t)
    ((shapeCast_a_a1_apply _ _ r 0).trans (row_max sw _ _ _ r)) ((shapeCast_a_a1_apply _ _ r 0).trans (row_max sp _ _ _ r))

/-- The exponential of a score of the window. -/
theorem vEw_apply (x : Fin 512) : vEw sw sp (ix2 r x) = Ideal.exp (sw (ix2 r x) - vMax sw sp (ix2 r 0)) :=
  congrArg (fun t : EReal => Ideal.exp (sw (ix2 r x) - t)) (col_apply (vMax sw sp) broadcasts_S256x1_S256x512 (by decide) r x)

/-- The exponential of a score of the first keys. -/
theorem vEp_apply (y : Fin 128) : vEp sw sp (ix2 r y) = Ideal.exp (sp (ix2 r y) - vMax sw sp (ix2 r 0)) :=
  congrArg (fun t : EReal => Ideal.exp (sp (ix2 r y) - t)) (col_apply (vMax sw sp) broadcasts_S256x1_S256x128 (by decide) r y)

/-- The sum of the exponentials of a row. -/
theorem vDen_apply : vDen sw sp (ix2 r 0)
    = (∑ x : Fin 512, vEw sw sp (ix2 r x) : EReal) + (∑ y : Fin 128, vEp sw sp (ix2 r y) : EReal) :=
  congrArg₂ (fun s t : EReal => s + t)
    ((shapeCast_a_a1_apply _ _ r 0).trans (row_sum (vEw sw sp) _ _ _ r))
    ((shapeCast_a_a1_apply _ _ r 0).trans (row_sum (vEp sw sp) _ _ _ r))

/-- A head's context in its operands. -/
theorem vCtx_apply (w : BitVec 32) (vw : Vec Ideal S1x512x128 .bf16) (vp : Vec Ideal S1x128x128 .bf16) (d : Fin 128) :
    vCtx w sw sp vw vp (ix2 r d)
      = ((∑ x : Fin 512, vEw sw sp (ix2 r x) * vw (ix3 0 x d) : EReal) + (∑ y : Fin 128, vEp sw sp (ix2 r y) * vp (ix3 0 y d) : EReal))
        * Ideal.div (vKeep (F := Ideal) w (ix2 r 0)) (vDen sw sp (ix2 r 0)) := by
  unfold vCtx
  rw [shapeCast_self]
  have e1 := mm_plain (φ₁ := .bf16) (φ₂ := .bf16) (truncf .bf16 (vEw sw sp) bitsLt_bf16_f32)
    (shapeCast S512x128 vw shapeCasts_S1x512x128_S512x128) r d
  have e2 := mm_plain (φ₁ := .bf16) (φ₂ := .bf16) (truncf .bf16 (vEp sw sp) bitsLt_bf16_f32)
    (shapeCast S128x128 vp shapeCasts_S1x128x128_S128x128) r d
  have e3 := col_apply (divf (vKeep (F := Ideal) w) (vDen sw sp)) broadcasts_S256x1_S256x128 (by decide) r d
  refine Eq.trans (congrArg₂ (fun s t : EReal => s * t) (congrArg₂ (fun s t : EReal => s + t) e1 e2) e3) ?_
  refine congrArg₂ (fun s t : EReal => s * t) (congrArg₂ (fun s t : EReal => s + t) ?_ ?_) rfl
  · exact Finset.sum_congr rfl fun x _ => congrArg (fun t => vEw sw sp (ix2 r x) * t) (shapeCast_1ab_ab_apply vw _ x d)
  · exact Finset.sum_congr rfl fun y _ => congrArg (fun t => vEp sw sp (ix2 r y) * t) (shapeCast_1ab_ab_apply vp _ y d)

end Weights

/-- A column of head `h`. -/
def hcol (h : Fin 8) (j : Fin 128) : Fin 1024 := ⟨128 * h.val + j.val, by have := h.isLt; have := j.isLt; omega⟩

/-- Where a column of a head is in a block. -/
theorem rC_ix (h : Fin 8) (r : Fin 256) (j : Fin 128) : (rC h).idx (ix2 r j) = ix2 r (hcol h j) := by
  funext a
  apply Fin.ext
  rw [unit_val]
  match a with
  | ⟨0, _⟩ => exact Nat.zero_add _
  | ⟨1, _⟩ => rfl

/-- Where a key of the window is among all keys. -/
theorem rK_ix (b : Fin 4) (h : Fin 8) (x : Fin 512) (j : Fin 128) : (rK b h).idx (ix3 0 x j) = ix3 h (winKey b x) j := by
  funext a
  apply Fin.ext
  rw [unit_val]
  match a with
  | ⟨0, _⟩ => rfl
  | ⟨1, _⟩ => rfl
  | ⟨2, _⟩ => exact Nat.zero_add _

/-- Where one of the first keys is among all keys. -/
theorem rP_ix (h : Fin 8) (y : Fin 128) (j : Fin 128) : (rP h).idx (ix3 0 y j) = ix3 h (preKey y) j := by
  funext a
  apply Fin.ext
  rw [unit_val]
  match a with
  | ⟨0, _⟩ => rfl
  | ⟨1, _⟩ => exact Nat.zero_add _
  | ⟨2, _⟩ => exact Nat.zero_add _

/-- Where a key is in the array of all heads. -/
theorem rA_ix (h : Fin 8) (k : Fin 4096) (j : Fin 128) : (rA h).idx (ix3 0 k j) = ix3 h k j := by
  funext a
  apply Fin.ext
  rw [unit_val]
  match a with
  | ⟨0, _⟩ => rfl
  | ⟨1, _⟩ => exact Nat.zero_add _
  | ⟨2, _⟩ => exact Nat.zero_add _

section Head
variable (Q : Vec Ideal S256x1024 .bf16) (K V : Vec Ideal S8x4096x128 .bf16)

/-- The score of key `k` for row `r` of a block, in head `h`. -/
def score (h : Fin 8) (r : Fin 256) (k : Fin 4096) : EReal := ∑ j : Fin 128, Q (ix2 r (hcol h j)) * K (ix3 h k j)

/-- The values of head `h` in column `d`. -/
def valueAt (h : Fin 8) (d : Fin 128) (k : Fin 4096) : EReal := V (ix3 h k d)

/-- A head's context in a block: the row's attention over the keys it looks at, 0 in the global rows. -/
theorem headCtx_apply (b : Fin 4) (h : Fin 8) (r : Fin 256) (d : Fin 128) (hs : ∀ k, IsReal (score Q K h r k)) :
    headCtx b Q K V h (ix2 r d)
      = (if 32 ≤ 256 * b.val + r.val then (1 : EReal) else 0) * att (Keys (256 * b.val + r.val)) (score Q K h r) (valueAt V h d) := by
  have hw : ∀ x : Fin 512, vSw (F := Ideal) (BitVec.ofNat 32 b.val) (fun j => Q ((rC h).idx j)) (fun j => K ((rK b h).idx j)) (ix2 r x)
      = if InWin b r x then score Q K h r (winKey b x) else ⊥ := fun x => by
    rw [vSw_apply]
    refine if_congr Iff.rfl (Finset.sum_congr rfl fun j _ => ?_) rfl
    rw [rC_ix, rK_ix]
  have hp : ∀ y : Fin 128, vSp (F := Ideal) (BitVec.ofNat 32 b.val) (fun j => Q ((rC h).idx j)) (fun j => K ((rP h).idx j)) (ix2 r y)
      = if InPre b y then score Q K h r (preKey y) else ⊥ := fun y => by
    rw [vSp_apply]
    refine if_congr Iff.rfl (Finset.sum_congr rfl fun j _ => ?_) rfl
    rw [rC_ix, rP_ix]
  unfold headCtx
  rw [vCtx_apply, vKeep_apply]
  have key := att_two (covers b r) (Keys_nonempty _) (score Q K h r) (valueAt V h d) (fun k _ => hs k)
    (keep := if 32 ≤ 256 * b.val + r.val then (1 : EReal) else 0) rfl rfl
  refine Eq.trans ?_ key
  have hM := vMax_apply
    (vSw (F := Ideal) (BitVec.ofNat 32 b.val) (fun j => Q ((rC h).idx j)) (fun j => K ((rK b h).idx j)))
    (vSp (F := Ideal) (BitVec.ofNat 32 b.val) (fun j => Q ((rC h).idx j)) (fun j => K ((rP h).idx j))) r
  rw [funext hw, funext hp] at hM
  have he := fun x => vEw_apply
    (vSw (F := Ideal) (BitVec.ofNat 32 b.val) (fun j => Q ((rC h).idx j)) (fun j => K ((rK b h).idx j)))
    (vSp (F := Ideal) (BitVec.ofNat 32 b.val) (fun j => Q ((rC h).idx j)) (fun j => K ((rP h).idx j))) r x
  have he' := fun y => vEp_apply
    (vSw (F := Ideal) (BitVec.ofNat 32 b.val) (fun j => Q ((rC h).idx j)) (fun j => K ((rK b h).idx j)))
    (vSp (F := Ideal) (BitVec.ofNat 32 b.val) (fun j => Q ((rC h).idx j)) (fun j => K ((rP h).idx j))) r y
  rw [hM] at he he'
  refine congrArg₂ (fun s t : EReal => s * t) (congrArg₂ (fun s t : EReal => s + t) ?_ ?_)
    (congrArg (fun t : EReal => Ideal.div _ t) ((vDen_apply _ _ r).trans (congrArg₂ (fun s t : EReal => s + t) ?_ ?_)))
  · exact Finset.sum_congr rfl fun x _ => by rw [he x, hw x, rK_ix]; rfl
  · exact Finset.sum_congr rfl fun y _ => by rw [he' y, hp y, rP_ix]; rfl
  · exact Finset.sum_congr rfl fun x _ => by rw [he x, hw x]
  · exact Finset.sum_congr rfl fun y _ => by rw [he' y, hp y]

end Head

end Cert.Proof.K

end
-- ==== Proof.PartValue.lean ====
module

public import proofs.«01_k».proof.Proof.KernelValue

/-!
  A block of the partial result at a row and a column: the attention of the row in each head of the device, times the
  output weights. The global rows, whose context is 0, have it added from their own attention over all keys.
-/

@[expose] public section

set_option synthInstance.maxSize 4096
set_option maxRecDepth 16384

noncomputable section

namespace Cert.Proof.K

open Idealize.ShloMosaic Idealize.ShloMosaic.ValueIdx
open Cert.Proof.Softmax Cert.Proof.Reads
open Cert.KernelIdeal Cert.KernelIdeal.Gen
open scoped BigOperators

/-- A row of the global rows, within its block. -/
def gRow (r : Fin 32) : Fin 256 := ⟨r.val, by have := r.isLt; omega⟩

/-- Where a column of a head is in the global rows. -/
theorem rG'_ix (h : Fin 8) (r : Fin 32) (j : Fin 128) : (rG' h).idx (ix2 r j) = ix2 (gRow r) (hcol h j) := by
  funext a
  apply Fin.ext
  rw [unit_val]
  match a with
  | ⟨0, _⟩ => exact Nat.zero_add _
  | ⟨1, _⟩ => rfl

/-- Where a row of the output weights of a head is. -/
theorem rW_ix (h : Fin 8) (d : Fin 128) (o : Fin 1024) : (rW h).idx (ix2 d o) = ix2 (hcol h d) o := by
  funext a
  apply Fin.ext
  rw [unit_val]
  match a with
  | ⟨0, _⟩ => rfl
  | ⟨1, _⟩ => exact Nat.zero_add _

/-- Where a global row is in its block. -/
theorem rT'_ix (r : Fin 32) (o : Fin 1024) : rT'.idx (ix2 r o) = ix2 (gRow r) o := by
  funext a
  apply Fin.ext
  rw [unit_val]
  match a with
  | ⟨0, _⟩ => exact Nat.zero_add _
  | ⟨1, _⟩ => exact Nat.zero_add _

section Glob
variable (q : Vec Ideal S32x128 .bf16) (k v : Vec Ideal S1x4096x128 .bf16) (w : Vec Ideal S128x1024 .bf16) (r : Fin 32)

/-- A score of a global row. -/
theorem vSg_apply (x : Fin 4096) : vSg q k (ix2 r x) = (∑ j : Fin 128, q (ix2 r j) * k (ix3 0 x j) : EReal) := by
  refine (mm_trans (φ₁ := .bf16) (φ₂ := .bf16) q (shapeCast S4096x128 k shapeCasts_S1x4096x128_S4096x128) r x).trans ?_
  exact Finset.sum_congr rfl fun j _ => congrArg (fun t => q (ix2 r j) * t) (shapeCast_1ab_ab_apply k _ x j)

/-- The exponential of a score of a global row. -/
theorem vEg_apply (s : FVec Ideal S32x4096 .f32) (x : Fin 4096) :
    vEg s (ix2 r x) = Ideal.exp (s (ix2 r x) - (Finset.univ : Finset (Fin 4096)).sup fun y => (s (ix2 r y) : EReal)) := by
  refine congrArg (fun t : EReal => Ideal.exp (s (ix2 r x) - t)) ?_
  refine (col_apply _ broadcasts_S32x1_S32x4096 (by decide) r x).trans ?_
  exact (shapeCast_a_a1_apply _ _ r 0).trans (row_max s _ _ _ r)

/-- What a head adds to the global rows, in its operands. -/
theorem vG_apply (o : Fin 1024) :
    vG q k v w (ix2 r o) = (∑ d : Fin 128, Ideal.div (∑ x : Fin 4096, vEg (vSg q k) (ix2 r x) * v (ix3 0 x d))
      (∑ x : Fin 4096, vEg (vSg q k) (ix2 r x)) * w (ix2 d o) : EReal) := by
  refine (mm_plain (φ₁ := .bf16) (φ₂ := .bf16) _ w r o).trans ?_
  refine Finset.sum_congr rfl fun d _ => congrArg (fun t : EReal => t * w (ix2 d o)) ?_
  refine congrArg₂ Ideal.div ?_ ?_
  · refine (mm_plain (φ₁ := .bf16) (φ₂ := .bf16) _ _ r d).trans ?_
    exact Finset.sum_congr rfl fun x _ => congrArg (fun t => vEg (vSg q k) (ix2 r x) * t) (shapeCast_1ab_ab_apply v _ x d)
  · refine (col_apply _ broadcasts_S32x1_S32x128 (by decide) r d).trans ?_
    exact (shapeCast_a_a1_apply _ _ r 0).trans (row_sum (vEg (vSg q k)) _ _ _ r)

end Glob

/-- A sum over the columns of all heads, head by head. -/
theorem sum_heads (f : Fin 1024 → EReal) : ∑ i, f i = ∑ h : Fin 8, ∑ d : Fin 128, f (hcol h d) := by
  rw [← Fintype.sum_prod_type']
  refine (Equiv.sum_comp (finProdFinEquiv : Fin 8 × Fin 128 ≃ Fin (8 * 128)) f).symm.trans ?_
  refine Finset.sum_congr rfl fun p _ => congrArg f (Fin.ext ?_)
  show p.2.val + 128 * p.1.val = 128 * p.1.val + p.2.val
  exact Nat.add_comm _ _

/-- The keys that row `n` looks at: all of them in a global row. -/
def AllKeys (n : ℕ) : Finset (Fin 4096) := Finset.univ.filter fun k => Near n k.val ∨ (k.val < 32 ∨ n < 32)

/-- A global row looks at all keys. -/
theorem AllKeys_lo {n : ℕ} (h : n < 32) : AllKeys n = Finset.univ :=
  Finset.filter_true_of_mem fun _ _ => .inr (.inr h)

/-- Any other row looks at the keys near it and the first ones. -/
theorem AllKeys_hi {n : ℕ} (h : 32 ≤ n) : AllKeys n = Keys n :=
  Finset.filter_congr fun k _ => by
    constructor
    · rintro (a | a | a)
      · exact .inl a
      · exact .inr a
      · omega
    · rintro (a | a)
      · exact .inl a
      · exact .inr (.inl a)

section Part
variable (Q : Vec Ideal S256x1024 .bf16) (K V : Vec Ideal S8x4096x128 .bf16) (WO : Vec Ideal S1024x1024 .bf16)

/-- What a head adds to the global rows. -/
theorem globTerm_apply (h : Fin 8) (r : Fin 32) (o : Fin 1024) (hs : ∀ k, IsReal (score Q K h (gRow r) k)) :
    globTerm Q K V WO h (ix2 r o)
      = (∑ d : Fin 128, att Finset.univ (score Q K h (gRow r)) (valueAt V h d) * WO (ix2 (hcol h d) o) : EReal) := by
  have e : ∀ x : Fin 4096, vSg (F := Ideal) (fun j => Q ((rG' h).idx j)) (fun j => K ((rA h).idx j)) (ix2 r x)
      = score Q K h (gRow r) x := fun x => by
    rw [vSg_apply]
    exact Finset.sum_congr rfl fun j _ => by rw [rG'_ix, rA_ix]
  have e' : ∀ x : Fin 4096, vEg (F := Ideal) (vSg (fun j => Q ((rG' h).idx j)) (fun j => K ((rA h).idx j))) (ix2 r x)
      = Ideal.exp (score Q K h (gRow r) x - (Finset.univ : Finset (Fin 4096)).sup (score Q K h (gRow r))) := fun x => by
    rw [vEg_apply, funext e, e x]
  unfold globTerm
  rw [vG_apply]
  refine Finset.sum_congr rfl fun d _ => ?_
  rw [rW_ix]
  refine congrArg (fun t : EReal => t * WO (ix2 (hcol h d) o)) ?_
  rw [← att_all (score Q K h (gRow r)) (valueAt V h d) hs rfl]
  refine congrArg₂ Ideal.div (Finset.sum_congr rfl fun x _ => ?_) (Finset.sum_congr rfl fun x _ => e' x)
  rw [e' x, rA_ix]
  rfl

/-- What all heads add to the global rows. -/
theorem globSum_apply (r : Fin 32) (o : Fin 1024) (hs : ∀ h k, IsReal (score Q K h (gRow r) k)) :
    globSum Q K V WO (ix2 r o)
      = (∑ h : Fin 8, ∑ d : Fin 128, att Finset.univ (score Q K h (gRow r)) (valueAt V h d) * WO (ix2 (hcol h d) o) : EReal) := by
  rw [Fin.sum_univ_eight]
  simp only [← fun h => globTerm_apply Q K V WO h r o (hs h)]
  rfl

/-- The context at a row and a column of a head. -/
theorem ctxOf_apply (b : Fin 4) (h : Fin 8) (r : Fin 256) (d : Fin 128) (hs : ∀ k, IsReal (score Q K h r k)) :
    ctxOf b Q K V (ix2 r (hcol h d))
      = (if 32 ≤ 256 * b.val + r.val then (1 : EReal) else 0) * att (Keys (256 * b.val + r.val)) (score Q K h r) (valueAt V h d) := by
  have e1 : headOf (ix2 r (hcol h d)) = h := Fin.ext (by
    show (128 * h.val + d.val) / 128 = h.val
    have := d.isLt; omega)
  have e2 : inHead (ix2 r (hcol h d)) = ix2 r d := by
    funext a
    match a with
    | ⟨0, _⟩ => rfl
    | ⟨1, _⟩ => exact Fin.ext (by
        show (128 * h.val + d.val) % 128 = d.val
        have := d.isLt; omega)
  unfold ctxOf
  rw [e1, e2]
  exact headCtx_apply Q K V b h r d hs

/-- The contexts of all heads times the output weights. -/
theorem vPart_apply (b : Fin 4) (r : Fin 256) (o : Fin 1024) (hs : ∀ h k, IsReal (score Q K h r k)) :
    vPart (ctxOf b Q K V) WO (ix2 r o)
      = (∑ h : Fin 8, ∑ d : Fin 128, (if 32 ≤ 256 * b.val + r.val then (1 : EReal) else 0)
          * att (Keys (256 * b.val + r.val)) (score Q K h r) (valueAt V h d) * WO (ix2 (hcol h d) o) : EReal) := by
  unfold vPart
  rw [shapeCast_self]
  refine (mm_plain (φ₁ := .bf16) (φ₂ := .bf16) _ WO r o).trans ?_
  rw [sum_heads]
  exact Finset.sum_congr rfl fun h _ => Finset.sum_congr rfl fun d _ =>
    congrArg (fun t : EReal => t * WO (ix2 (hcol h d) o)) (ctxOf_apply Q K V b h r d (hs h))

/-- A block of the partial result: every head's attention over the keys that the row looks at, times the output weights. -/
theorem partOf_apply (b : Fin 4) (r : Fin 256) (o : Fin 1024) (hs : ∀ h k, IsReal (score Q K h r k)) :
    partOf b Q K V WO (ix2 r o)
      = (∑ h : Fin 8, ∑ d : Fin 128, att (AllKeys (256 * b.val + r.val)) (score Q K h r) (valueAt V h d)
          * WO (ix2 (hcol h d) o) : EReal) := by
  have hi : 32 ≤ 256 * b.val + r.val → vPart (ctxOf b Q K V) WO (ix2 r o)
      = (∑ h : Fin 8, ∑ d : Fin 128, att (AllKeys (256 * b.val + r.val)) (score Q K h r) (valueAt V h d)
          * WO (ix2 (hcol h d) o) : EReal) := fun hn => by
    rw [vPart_apply Q K V WO b r o hs, AllKeys_hi hn, if_pos hn]
    simp only [one_mul]
  unfold partOf
  by_cases hb : b = 0
  · subst hb
    rw [if_pos rfl]
    unfold withGlob
    by_cases hr : r.val < 32
    · rw [dif_pos (show ((ix2 r o : S256x1024.Idx) 0).val < 32 from hr)]
      refine (congrFun (shapeCast_self _ _) _).trans ?_
      have ei : (fun a => match a with | ⟨0, _⟩ => ⟨r.val, hr⟩ | ⟨1, _⟩ => o : S32x1024.Idx) = ix2 (⟨r.val, hr⟩ : Fin 32) o := by
        funext a
        match a with
        | ⟨0, _⟩ => rfl
        | ⟨1, _⟩ => rfl
      have eg : gRow ⟨r.val, hr⟩ = r := rfl
      have hz : vPart (ctxOf 0 Q K V) WO (ix2 r o) = (0 : EReal) := by
        rw [vPart_apply Q K V WO 0 r o hs, if_neg (by show ¬ 32 ≤ 256 * 0 + r.val; omega)]
        simp only [zero_mul, Finset.sum_const_zero]
      have hn : 256 * (0 : Fin 4).val + r.val < 32 := by show 256 * 0 + r.val < 32; omega
      rw [AllKeys_lo hn]
      refine Eq.trans ?_ (globSum_apply Q K V WO ⟨r.val, hr⟩ o hs)
      refine Eq.trans (congrArg₂ (fun s t : EReal => s + t) (x' := 0) (y' := globSum Q K V WO (ix2 (⟨r.val, hr⟩ : Fin 32) o)) ?_ ?_) (zero_add _)
      · exact (congrArg (vPart (ctxOf 0 Q K V) WO) ((congrArg rT'.idx ei).trans (rT'_ix ⟨r.val, hr⟩ o))).trans hz
      · exact congrArg (globSum Q K V WO) ei
    · rw [dif_neg (show ¬ ((ix2 r o : S256x1024.Idx) 0).val < 32 from hr)]
      exact hi (by show 32 ≤ 256 * 0 + r.val; omega)
  · rw [if_neg hb]
    refine hi ?_
    have : b.val ≠ 0 := fun h => hb (Fin.ext h)
    omega

end Part

end Cert.Proof.K

end
-- ==== Proof.KernelOut.lean ====
module

public import proofs.«01_k».proof.Proof.PartValue
public import proofs.«01_k».proof.Proof.Result

/-!
  The result in terms of the whole arrays: `devPart` is what the heads of one device contribute to a row and a column, and
  the block that a device ends with holds the sum of the four parts.
-/

@[expose] public section

set_option synthInstance.maxSize 4096
set_option maxRecDepth 16384

noncomputable section

namespace Cert.Proof.K

open Idealize.ShloMosaic Idealize.ShloMosaic.TcCoe Idealize.ShloMosaic.ValueIdx
open Cert.Proof.Softmax Cert.Proof.Reads
open Cert.KernelIdeal Cert.KernelIdeal.Gen
open scoped BigOperators

/-- Row `r` of block `b` among all rows. -/
def grow (b : Fin 4) (r : Fin 256) : Fin 1024 := ⟨256 * b.val + r.val, by have := b.isLt; have := r.isLt; omega⟩
/-- The `h`-th head of device `c` among all heads. -/
def ghead (c : Fin 4) (h : Fin 8) : Fin 32 := ⟨8 * c.val + h.val, by have := c.isLt; have := h.isLt; omega⟩
/-- Column `j` of head `H` among the columns of all heads. -/
def gcol (H : Fin 32) (j : Fin 128) : Fin 4096 := ⟨128 * H.val + j.val, by have := H.isLt; have := j.isLt; omega⟩
/-- What the scores are multiplied by. -/
def scale : EReal := Ideal.ofBits .f32 0x3DB504F3#32

section Whole
variable (X : FVec Ideal ⟨2, ![1024, 1024]⟩ .f32) (W : FVec Ideal ⟨2, ![1024, 4096]⟩ .f32)
  (K V : FVec Ideal ⟨4, ![1, 4096, 32, 128]⟩ .f32) (WO : FVec Ideal ⟨2, ![4096, 1024]⟩ .f32)

/-- A query. -/
def qry (n : Fin 1024) (H : Fin 32) (j : Fin 128) : EReal := ∑ i : Fin 1024, X (ix2 n i) * W (ix2 i (gcol H j))
/-- The score of a row and a key in a head. -/
def kscore (n : Fin 1024) (H : Fin 32) (k : Fin 4096) : EReal := ∑ j : Fin 128, qry X W n H j * scale * K (ix4 0 k H j)
/-- A column of a head's values. -/
def vals (H : Fin 32) (d : Fin 128) (k : Fin 4096) : EReal := V (ix4 0 k H d)
/-- What a head contributes to a row and a column of the result. -/
def headPart (n : Fin 1024) (H : Fin 32) (o : Fin 1024) : EReal :=
  ∑ d : Fin 128, att (AllKeys n.val) (kscore X W K n H) (vals V H d) * WO (ix2 (gcol H d) o)
/-- What the heads of device `c` contribute. -/
def devPart (n : Fin 1024) (c : Fin 4) (o : Fin 1024) : EReal := ∑ h : Fin 8, headPart X W K V WO n (ghead c h) o

end Whole

section Out
variable {X : FVec Ideal ⟨2, ![1024, 1024]⟩ .f32} {W : FVec Ideal ⟨2, ![1024, 4096]⟩ .f32}
  {K V : FVec Ideal ⟨4, ![1, 4096, 32, 128]⟩ .f32} {WO : FVec Ideal ⟨2, ![4096, 1024]⟩ .f32}
  {m : (ℓ : Loc nD τ sig) → Buf (Elt Ideal) ℓ}

/-- A query of a block: the scaled product of the row and the column of weights. -/
theorem QB_apply (hx : ∀ c r i, xIn m c (ix2 r i) = X (ix2 (grow c r) i))
    (hw : ∀ c i h j, wqIn m c (ix2 i (hcol h j)) = W (ix2 i (gcol (ghead c h) j)))
    (c b : Dev nD) (r : Fin 256) (h : Fin 8) (j : Fin 128) :
    QB m c b (ix2 r (hcol h j)) = (qry X W (grow b r) (ghead c h) j * scale : EReal) := by
  have e1 : XB m b = xIn m b := (shapeCast_self _ _).trans (shapeCast_self (xIn m b) _)
  have e2 : (k0_pay46 (wqIn m c) : Vec Ideal S1024x1024 .bf16) = wqIn m c := (shapeCast_self _ _).trans (shapeCast_self (wqIn m c) _)
  unfold QB
  rw [e1, e2]
  unfold vQ
  refine (congrFun (shapeCast_self _ _) _).trans ?_
  refine congrArg (fun t : EReal => t * scale) ((mm_plain (φ₁ := .bf16) (φ₂ := .bf16) (xIn m b) (wqIn m c) r (hcol h j)).trans ?_)
  exact Finset.sum_congr rfl fun i _ => congrArg₂ (fun s t : EReal => s * t) (hx b r i) (hw c i h j)

/-- The scores of a block are those of the whole arrays. -/
theorem score_eq (hx : ∀ c r i, xIn m c (ix2 r i) = X (ix2 (grow c r) i))
    (hw : ∀ c i h j, wqIn m c (ix2 i (hcol h j)) = W (ix2 i (gcol (ghead c h) j)))
    (hk : ∀ c h k j, kSlab m c h (ix2 k j) = K (ix4 0 k (ghead c h) j))
    (c b : Dev nD) (r : Fin 256) (h : Fin 8) :
    score (QB m c b) (KB m c) h r = kscore X W K (grow b r) (ghead c h) :=
  funext fun k => Finset.sum_congr rfl fun j _ => congrArg₂ (fun s t : EReal => s * t) (QB_apply hx hw c b r h j)
    ((congrArg (kSlab m c h) (by
      funext a
      match a with
      | ⟨0, _⟩ => rfl
      | ⟨1, _⟩ => rfl)).trans (hk c h k j))

/-- The values of a device's head are those of the whole array. -/
theorem value_eq (hv : ∀ c h k j, vSlab m c h (ix2 k j) = V (ix4 0 k (ghead c h) j)) (c : Dev nD) (h : Fin 8) (d : Fin 128) :
    valueAt (VB m c) h d = vals V (ghead c h) d :=
  funext fun k => (congrArg (vSlab m c h) (by
      funext a
      match a with
      | ⟨0, _⟩ => rfl
      | ⟨1, _⟩ => rfl)).trans (hv c h k d)

/-- A device's contribution to a block of the result. -/
theorem PT_apply (hx : ∀ c r i, xIn m c (ix2 r i) = X (ix2 (grow c r) i))
    (hw : ∀ c i h j, wqIn m c (ix2 i (hcol h j)) = W (ix2 i (gcol (ghead c h) j)))
    (hk : ∀ c h k j, kSlab m c h (ix2 k j) = K (ix4 0 k (ghead c h) j))
    (hv : ∀ c h k j, vSlab m c h (ix2 k j) = V (ix4 0 k (ghead c h) j))
    (ho : ∀ c h d o, woIn m c (ix2 (hcol h d) o) = WO (ix2 (gcol (ghead c h) d) o))
    (hs : ∀ n H k, IsReal (kscore X W K n H k)) (c b : Dev nD) (r : Fin 256) (o : Fin 1024) :
    PT m c b (ix2 r o) = devPart X W K V WO (grow b r) c o := by
  have e : (k0_pay47 (woIn m c) : Vec Ideal S1024x1024 .bf16) = woIn m c := (shapeCast_self _ _).trans (shapeCast_self (woIn m c) _)
  unfold PT
  rw [e]
  refine (partOf_apply (QB m c b) (KB m c) (VB m c) (woIn m c) b r o fun h k => ?_).trans ?_
  · rw [score_eq hx hw hk]
    exact hs _ _ k
  · refine Finset.sum_congr rfl fun h _ => Finset.sum_congr rfl fun d _ => ?_
    rw [score_eq hx hw hk, value_eq hv]
    exact congrArg (fun t : EReal => att (AllKeys (256 * b.val + r.val)) (kscore X W K (grow b r) (ghead c h)) (vals V (ghead c h) d) * t)
      (ho c h d o)

/-- The block that a device ends with. -/
theorem OUT_apply (hx : ∀ c r i, xIn m c (ix2 r i) = X (ix2 (grow c r) i))
    (hw : ∀ c i h j, wqIn m c (ix2 i (hcol h j)) = W (ix2 i (gcol (ghead c h) j)))
    (hk : ∀ c h k j, kSlab m c h (ix2 k j) = K (ix4 0 k (ghead c h) j))
    (hv : ∀ c h k j, vSlab m c h (ix2 k j) = V (ix4 0 k (ghead c h) j))
    (ho : ∀ c h d o, woIn m c (ix2 (hcol h d) o) = WO (ix2 (gcol (ghead c h) d) o))
    (hs : ∀ n H k, IsReal (kscore X W K n H k)) (c : Dev nD) (r : Fin 256) (o : Fin 1024) :
    OUT m c (ix2 r o) = ∑ d : Fin 4, devPart X W K V WO (grow c r) d o := by
  have p := fun d : Dev nD => PT_apply hx hw hk hv ho hs d c r o
  have s : ∀ d : Dev nD, SD m d c (ix2 r o) = devPart X W K V WO (grow c r) d o := fun d =>
    (congrFun (shapeCast_self _ _) _).trans (p d)
  refine Eq.trans (congrArg₂ (fun s t : EReal => s + t) (congrArg₂ (fun s t : EReal => s + t) (p c) (s (nxt c)))
    (congrArg₂ (fun s t : EReal => s + t) (s (prv c)) (s (opp c)))) ?_
  generalize devPart X W K V WO (grow c r) = f
  have cyc : ∀ (g : Fin 4 → EReal), (g c + g (nxt c)) + (g (prv c) + g (opp c)) = ∑ d : Fin 4, g d := by
    intro g
    rw [Fin.sum_univ_four]
    fin_cases c
    · show (g 0 + g 1) + (g 3 + g 2) = _
      abel
    · show (g 1 + g 2) + (g 0 + g 3) = _
      abel
    · show (g 2 + g 3) + (g 1 + g 0) = _
      abel
    · show (g 3 + g 0) + (g 2 + g 1) = _
      abel
  exact cyc fun d => f d o

end Out

/-- One head's part of the keys' or values' array. -/
theorem slab_apply (hc : S1x4096x1x128.ShapeCasts S4096x128) (f : Vec Ideal S1x4096x32x128 .f32) (c : Dev nD) (h : Fin 8) (k : Fin 4096) (j : Fin 128) :
    shapeCast S4096x128 (fun i => f ((Rect.unit (s := S1x4096x32x128) (k0_off1 c (BitVec.ofNat 32 h.val))
      S1x4096x1x128.size (k0_off1_inb c h)).idx i)) hc (ix2 k j)
      = f (ix4 0 k (ghead c h) j) := by
  refine (shapeCast_apply _ _ (ix2 k j) (ix4 0 k 0 j) ?_).trans (congrArg f ?_)
  · rw [Shape.rowMajor_val_four, Shape.rowMajor_val_two]
    show ((0 * 4096 + k.val) * 1 + 0) * 128 + j.val = k.val * 128 + j.val
    omega
  · funext a
    apply Fin.ext
    rw [unit_val]
    refine (congrArg (fun t : ℕ => t + _) (congrFun (k0_off1_eq c h) a)).trans ?_
    match a with
    | ⟨0, _⟩ => rfl
    | ⟨1, _⟩ => exact Nat.zero_add _
    | ⟨2, _⟩ => rfl
    | ⟨3, _⟩ => exact Nat.zero_add _

/-- The keys of a device's head, in the array of all keys. -/
theorem kSlab_apply (m : (ℓ : Loc nD τ sig) → Buf (Elt Ideal) ℓ) (c : Dev nD) (h : Fin 8) (k : Fin 4096) (j : Fin 128) :
    kSlab m c h (ix2 k j) = (m ((c : Thread nD τ).loc main_arg2) : Vec Ideal S1x4096x32x128 .f32) (ix4 0 k (ghead c h) j) :=
  slab_apply (show (Shape.ShapeCasts _ _) from Shape.Squeezes.numel_eq squeezes_S1x4096x1x128_S4096x128) (m ((c : Thread nD τ).loc main_arg2)) c h k j

/-- The values of a device's head, in the array of all values. -/
theorem vSlab_apply (m : (ℓ : Loc nD τ sig) → Buf (Elt Ideal) ℓ) (c : Dev nD) (h : Fin 8) (k : Fin 4096) (j : Fin 128) :
    vSlab m c h (ix2 k j) = (m ((c : Thread nD τ).loc main_arg3) : Vec Ideal S1x4096x32x128 .f32) (ix4 0 k (ghead c h) j) :=
  slab_apply (show (Shape.ShapeCasts _ _) from Shape.Squeezes.numel_eq squeezes_S1x4096x1x128_S4096x128) (m ((c : Thread nD τ).loc main_arg3)) c h k j

end Cert.Proof.K

end
-- ==== Proof.RefValue.lean ====
module

public import proofs.«01_k».proof.Proof.KernelOut
public import proofs.«01_k».proof.Proof.Gen.ReferenceIdeal.Run
public import Idealize.ShloMosaic.Lib.IdealHost
public import Idealize.ShloMosaic.Lib.StackMember

/-!
  The reference's result over the extended reals, at a row and a column: every head's attention of the row over the keys
  it looks at, times the output weights. Its pieces are named first: the mask, the scores, the weights, the context.
-/

@[expose] public section

set_option synthInstance.maxSize 4096
set_option maxRecDepth 16384

noncomputable section

namespace Cert.Proof.R

open Idealize.ShloMosaic Idealize.ShloMosaic.TcCoe Idealize.ShloMosaic.ValueIdx
open Cert.Proof.Softmax Cert.Proof.Reads
open Cert.ReferenceIdeal Cert.ReferenceIdeal.Gen
open Cert.Proof.K (Near near_word word_lt AllKeys gcol scale qry kscore vals headPart select_ofBool ghead devPart)
open scoped BigOperators

/-! ## The pieces -/

/-- The mask. -/
def rMask : S1024x4096.Idx → BitVec 1 :=
  ori (cmpi .sle (absi (subi (broadcastInDim S1024x4096 ![0, 1] bcast_S1024x1_S1024x4096_0_1 (broadcastInDim S1024x1 ![0] bcast_S1024_S1024x1_0 (iotaInDim S1024 32 0))) (broadcastInDim S1024x4096 ![0, 1] bcast_S1x4096_S1024x4096_0_1 (broadcastInDim S1x4096 ![1] bcast_S4096_S1x4096_1 (iotaInDim S4096 32 0))))) (broadcastInDim S1024x4096 ![] bcast_S_S1024x4096 (constantI S_ 32 128#32))) (ori (broadcastInDim S1024x4096 ![0, 1] bcast_S1x4096_S1024x4096_0_1 (cmpi .slt (broadcastInDim S1x4096 ![1] bcast_S4096_S1x4096_1 (iotaInDim S4096 32 0)) (broadcastInDim S1x4096 ![] bcast_S_S1x4096 (constantI S_ 32 32#32)))) (broadcastInDim S1024x4096 ![0, 1] bcast_S1024x1_S1024x4096_0_1 (cmpi .slt (broadcastInDim S1024x1 ![0] bcast_S1024_S1024x1_0 (iotaInDim S1024 32 0)) (broadcastInDim S1024x1 ![] bcast_S_S1024x1 (constantI S_ 32 32#32)))))

/-- The masked scores. -/
def rScores (X : FVec Ideal S1024x1024 .f32) (W : FVec Ideal S1024x4096 .f32) (K : FVec Ideal S1x4096x32x128 .f32) :
    FVec Ideal S1x32x1024x4096 .f32 :=
  select (broadcastInDim S1x32x1024x4096 ![0, 1, 2, 3] bcast_S1x1x1024x4096_S1x32x1024x4096_0_1_2_3 (broadcastInDim S1x1x1024x4096 ![2, 3] bcast_S1024x4096_S1x1x1024x4096_2_3 rMask)) (mulf (Host.dotGeneral dot_S1x1024x32x128_S1x4096x32x128_S1x32x1024x4096_3_3_1_1_02_02 none (shapeCast _ (Host.dotGeneral dot_S1024x1024_S1024x4096_S1024x4096_1_0_0_1_n_n none X W) shapeCasts_S1024x4096_S1x1024x32x128) K) (broadcastInDim S1x32x1024x4096 ![] bcast_S_S1x32x1024x4096 (constant S_ .f32 0x3DB504F3#32))) (broadcastInDim S1x32x1024x4096 ![] bcast_S_S1x32x1024x4096 (id (constant S_ .f32 0xFF800000#32)))

/-- The largest score of each row. -/
def rMax (s : FVec Ideal S1x32x1024x4096 .f32) : FVec Ideal S1x32x1024 .f32 :=
  Host.reduce FloatOps.maximumf s (constant S_ .f32 0xFF800000#32) reducesTo_S1x32x1024x4096_S1x32x1024_d3 h_S_

/-- The exponentials of the scores. -/
def rExp (s : FVec Ideal S1x32x1024x4096 .f32) : FVec Ideal S1x32x1024x4096 .f32 :=
  Host.exp (subf s (broadcastInDim S1x32x1024x4096 ![0, 1, 2, 3] bcast_S1x32x1024x1_S1x32x1024x4096_0_1_2_3 (broadcastInDim S1x32x1024x1 ![0, 1, 2] bcast_S1x32x1024_S1x32x1024x1_0_1_2 (rMax s))))

/-- Whether a row looks at any key. -/
def rKeep : S1x1x1024x1.Idx → BitVec 1 :=
  broadcastInDim S1x1x1024x1 ![2] bcast_S1024_S1x1x1024x1_2 (Host.reduce IntOp.ori rMask (constantI S_ 1 0#1) reducesTo_S1024x4096_S1024_d1 h_S_)

/-- The sum of the exponentials of each row. -/
def rDen (e : FVec Ideal S1x32x1024x4096 .f32) : FVec Ideal S1x32x1024x1 .f32 :=
  select (broadcastInDim S1x32x1024x1 ![0, 1, 2, 3] bcast_S1x1x1024x1_S1x32x1024x1_0_1_2_3 rKeep) (broadcastInDim S1x32x1024x1 ![0, 1, 2] bcast_S1x32x1024_S1x32x1024x1_0_1_2 (Host.reduceAdd e (constant S_ .f32 0x00000000#32) reducesTo_S1x32x1024x4096_S1x32x1024_d3 h_S_)) (broadcastInDim S1x32x1024x1 ![] bcast_S_S1x32x1024x1 (id (constant S_ .f32 0x3F800000#32)))

/-- The weights. -/
def rWeights (e : FVec Ideal S1x32x1024x4096 .f32) : FVec Ideal S1x32x1024x4096 .f32 :=
  select (broadcastInDim S1x32x1024x4096 ![0, 1, 2, 3] bcast_S1x1x1024x1_S1x32x1024x4096_0_1_2_3 rKeep) (Host.divf e (broadcastInDim S1x32x1024x4096 ![0, 1, 2, 3] bcast_S1x32x1024x1_S1x32x1024x4096_0_1_2_3 (rDen e))) (broadcastInDim S1x32x1024x4096 ![] bcast_S_S1x32x1024x4096 (id (constant S_ .f32 0x00000000#32)))

/-- The context. -/
def rCtx (V : FVec Ideal S1x4096x32x128 .f32) (w : FVec Ideal S1x32x1024x4096 .f32) : FVec Ideal S1024x4096 .f32 :=
  shapeCast _ (transpose S1x1024x32x128 [0, 3, 1, 2] (Host.dotGeneral dot_S1x4096x32x128_S1x32x1024x4096_S1x32x128x1024_1_3_3_2_02_01 none V w) transposes_S1x32x128x1024_S1x1024x32x128_0_3_1_2) shapeCasts_S1x1024x32x128_S1024x4096

/-- The reference's result, by its pieces. -/
theorem res_eq (m : (ℓ : Loc nD τ sig) → Buf (Elt Ideal) ℓ) (c : Dev nD) :
    Value.res_main_v42 m c
      = Host.dotGeneral (F := Ideal) (φ₁ := .f32) (φ₂ := .f32) dot_S1024x4096_S4096x1024_S1024x1024_1_0_0_1_n_n none
          (rCtx (m ((c.tc : Thread nD τ).loc main_arg3)) (rWeights (rExp (rScores (m ((c.tc : Thread nD τ).loc main_arg0))
            (m ((c.tc : Thread nD τ).loc main_arg1)) (m ((c.tc : Thread nD τ).loc main_arg2))))))
          (m ((c.tc : Thread nD τ).loc main_arg4)) := rfl

/-! ## The mask -/

/-- The mask keeps a key near the row, one of the first keys, and every key of a global row. -/
theorem rMask_apply (n : Fin 1024) (k : Fin 4096) :
    rMask (ix2 n k) = BitVec.ofBool (decide (Near n.val k.val ∨ (k.val < 32 ∨ n.val < 32))) := by
  have hn := n.isLt
  have hk := k.isLt
  have e0 : ∀ f : S1024x1.Idx → BitVec 32, broadcastInDim S1024x4096 ![0, 1] bcast_S1024x1_S1024x4096_0_1 f (ix2 n k) = f (ix2 n 0) :=
    fun f => broadcastInDim_apply _ _ f _ (ix2 n 0) fun a => match a with
      | ⟨0, _⟩ => rfl
      | ⟨1, _⟩ => rfl
  have e0' : ∀ f : S1024x1.Idx → BitVec 1, broadcastInDim S1024x4096 ![0, 1] bcast_S1024x1_S1024x4096_0_1 f (ix2 n k) = f (ix2 n 0) :=
    fun f => broadcastInDim_apply _ _ f _ (ix2 n 0) fun a => match a with
      | ⟨0, _⟩ => rfl
      | ⟨1, _⟩ => rfl
  have e1 : ∀ f : S1x4096.Idx → BitVec 32, broadcastInDim S1024x4096 ![0, 1] bcast_S1x4096_S1024x4096_0_1 f (ix2 n k) = f (ix2 0 k) :=
    fun f => broadcastInDim_apply _ _ f _ (ix2 0 k) fun a => match a with
      | ⟨0, _⟩ => rfl
      | ⟨1, _⟩ => rfl
  have e1' : ∀ f : S1x4096.Idx → BitVec 1, broadcastInDim S1024x4096 ![0, 1] bcast_S1x4096_S1024x4096_0_1 f (ix2 n k) = f (ix2 0 k) :=
    fun f => broadcastInDim_apply _ _ f _ (ix2 0 k) fun a => match a with
      | ⟨0, _⟩ => rfl
      | ⟨1, _⟩ => rfl
  have i0 : broadcastInDim S1024x1 ![0] bcast_S1024_S1024x1_0 (iotaInDim S1024 32 0) (ix2 n 0) = BitVec.ofNat 32 n.val :=
    broadcastInDim_apply _ _ _ _ (ix1 n) fun a => match a with
      | ⟨0, _⟩ => rfl
  have i1 : broadcastInDim S1x4096 ![1] bcast_S4096_S1x4096_1 (iotaInDim S4096 32 0) (ix2 0 k) = BitVec.ofNat 32 k.val :=
    broadcastInDim_apply _ _ _ _ (ix1 k) fun a => match a with
      | ⟨0, _⟩ => rfl
  refine Eq.trans (b := IntOp.ori (IntOp.cmpi .sle (IntOp.absi (IntOp.subi (BitVec.ofNat 32 n.val) (BitVec.ofNat 32 k.val))) 128#32)
      (IntOp.ori (IntOp.cmpi .slt (BitVec.ofNat 32 k.val) 32#32) (IntOp.cmpi .slt (BitVec.ofNat 32 n.val) 32#32))) ?_ ?_
  · refine congrArg₂ IntOp.ori ?_ (congrArg₂ IntOp.ori ?_ ?_)
    · exact congrArg₂ (fun a b => IntOp.cmpi .sle (IntOp.absi (IntOp.subi a b)) 128#32) ((e0 _).trans i0) ((e1 _).trans i1)
    · exact (e1' _).trans (congrArg (fun a => IntOp.cmpi .slt a 32#32) i1)
    · exact (e0' _).trans (congrArg (fun a => IntOp.cmpi .slt a 32#32) i0)
  · rw [near_word (by omega) (by omega), word_lt (by omega), word_lt (by omega), WordCmp.ori_ofBool, WordCmp.ori_ofBool,
      ← Bool.decide_or, ← Bool.decide_or]

/-- A disjunction over all keys that holds at the first key. -/
theorem fold_ori (f : Fin 4096 → BitVec 1) (h : f 0 = 1#1) : (Finset.univ : Finset (Fin 4096)).fold IntOp.ori 0#1 f = 1#1 := by
  have h1 : ∀ a : BitVec 1, IntOp.ori 1#1 a = 1#1 := by decide
  rw [← Finset.insert_erase (Finset.mem_univ (0 : Fin 4096)), Finset.fold_insert (Finset.notMem_erase _ _), h, h1]

/-- Every row looks at the first key, so every row is kept. -/
theorem rKeep_apply (n : Fin 1024) : rKeep (ix4 0 0 n 0) = 1#1 := by
  refine (broadcastInDim_apply _ _ _ _ (ix1 n) fun a => match a with
      | ⟨0, _⟩ => rfl).trans ?_
  have hr : Shape.Reduces S1024x4096 [1] S1024 := by decide
  refine (Host.reduce_eq_fold_single IntOp.ori rMask (constantI S_ 1 0#1) reducesTo_S1024x4096_S1024_d1 hr h_S_ (ix1 n)).trans ?_
  have e : rMask (ix2 n (0 : Fin 4096)) = 1#1 := by
    rw [rMask_apply, decide_eq_true (show _ from .inr (.inl (by show 0 < 32; omega)))]; rfl
  have l : hr.lift (ix1 n) (0 : Fin 4096) = ix2 n (0 : Fin 4096) := by
    funext d
    apply Fin.ext
    match d with
    | ⟨0, _⟩ => rfl
    | ⟨1, _⟩ => rfl
  exact fold_ori (rMask ∘ hr.lift (ix1 n)) ((congrArg rMask l).trans e)

/-! ## The products -/

/-- A product of queries and keys. -/
theorem dotScores (A : FVec Ideal S1x1024x32x128 .f32) (B : FVec Ideal S1x4096x32x128 .f32) (H : Fin 32) (n : Fin 1024) (k : Fin 4096) :
    Host.dotGeneral dot_S1x1024x32x128_S1x4096x32x128_S1x32x1024x4096_3_3_1_1_02_02 none A B (ix4 0 H n k)
      = (∑ j : Fin 128, A (ix4 0 n H j) * B (ix4 0 k H j) : EReal) := by
  show FloatOps.dotGeneral _ none _ A B (ix4 0 H n k) = _
  rw [Ideal.dotGeneral_apply, ← Equiv.sum_comp (contrEquiv1 dot_S1x1024x32x128_S1x4096x32x128_S1x32x1024x4096_3_3_1_1_02_02 128 rfl rfl).symm]
  refine Finset.sum_congr rfl fun j _ => ?_
  have cj := contrEquiv1_symm_val dot_S1x1024x32x128_S1x4096x32x128_S1x32x1024x4096_3_3_1_1_02_02 128 rfl rfl j
  refine congrArg₂ (fun s t : EReal => s * t) (congrArg A ?_) (congrArg B ?_)
  · funext a; apply Fin.ext
    match a with
    | ⟨0, _⟩ => simp [DotDims.lhsIdx, dot_S1x1024x32x128_S1x4096x32x128_S1x32x1024x4096_3_3_1_1_02_02]
    | ⟨1, _⟩ => simp [DotDims.lhsIdx, dot_S1x1024x32x128_S1x4096x32x128_S1x32x1024x4096_3_3_1_1_02_02]; rfl
    | ⟨2, _⟩ => simp [DotDims.lhsIdx, dot_S1x1024x32x128_S1x4096x32x128_S1x32x1024x4096_3_3_1_1_02_02]; rfl
    | ⟨3, _⟩ => simp [DotDims.lhsIdx, dot_S1x1024x32x128_S1x4096x32x128_S1x32x1024x4096_3_3_1_1_02_02]; exact cj
  · funext a; apply Fin.ext
    match a with
    | ⟨0, _⟩ => simp [DotDims.rhsIdx, dot_S1x1024x32x128_S1x4096x32x128_S1x32x1024x4096_3_3_1_1_02_02]
    | ⟨1, _⟩ => simp [DotDims.rhsIdx, dot_S1x1024x32x128_S1x4096x32x128_S1x32x1024x4096_3_3_1_1_02_02]; rfl
    | ⟨2, _⟩ => simp [DotDims.rhsIdx, dot_S1x1024x32x128_S1x4096x32x128_S1x32x1024x4096_3_3_1_1_02_02]; rfl
    | ⟨3, _⟩ => simp [DotDims.rhsIdx, dot_S1x1024x32x128_S1x4096x32x128_S1x32x1024x4096_3_3_1_1_02_02]; exact cj

/-- A product of values and weights. -/
theorem dotCtx (V : FVec Ideal S1x4096x32x128 .f32) (w : FVec Ideal S1x32x1024x4096 .f32) (H : Fin 32) (d : Fin 128) (n : Fin 1024) :
    Host.dotGeneral dot_S1x4096x32x128_S1x32x1024x4096_S1x32x128x1024_1_3_3_2_02_01 none V w (ix4 0 H d n)
      = (∑ k : Fin 4096, V (ix4 0 k H d) * w (ix4 0 H n k) : EReal) := by
  show FloatOps.dotGeneral _ none _ V w (ix4 0 H d n) = _
  rw [Ideal.dotGeneral_apply, ← Equiv.sum_comp (contrEquiv1 dot_S1x4096x32x128_S1x32x1024x4096_S1x32x128x1024_1_3_3_2_02_01 4096 rfl rfl).symm]
  refine Finset.sum_congr rfl fun k _ => ?_
  have ck := contrEquiv1_symm_val dot_S1x4096x32x128_S1x32x1024x4096_S1x32x128x1024_1_3_3_2_02_01 4096 rfl rfl k
  refine congrArg₂ (fun s t : EReal => s * t) (congrArg V ?_) (congrArg w ?_)
  · funext a; apply Fin.ext
    match a with
    | ⟨0, _⟩ => simp [DotDims.lhsIdx, dot_S1x4096x32x128_S1x32x1024x4096_S1x32x128x1024_1_3_3_2_02_01]
    | ⟨1, _⟩ => simp [DotDims.lhsIdx, dot_S1x4096x32x128_S1x32x1024x4096_S1x32x128x1024_1_3_3_2_02_01]; exact ck
    | ⟨2, _⟩ => simp [DotDims.lhsIdx, dot_S1x4096x32x128_S1x32x1024x4096_S1x32x128x1024_1_3_3_2_02_01]; rfl
    | ⟨3, _⟩ => simp [DotDims.lhsIdx, dot_S1x4096x32x128_S1x32x1024x4096_S1x32x128x1024_1_3_3_2_02_01]; rfl
  · funext a; apply Fin.ext
    match a with
    | ⟨0, _⟩ => simp [DotDims.rhsIdx, dot_S1x4096x32x128_S1x32x1024x4096_S1x32x128x1024_1_3_3_2_02_01]
    | ⟨1, _⟩ => simp [DotDims.rhsIdx, dot_S1x4096x32x128_S1x32x1024x4096_S1x32x128x1024_1_3_3_2_02_01]; rfl
    | ⟨2, _⟩ => simp [DotDims.rhsIdx, dot_S1x4096x32x128_S1x32x1024x4096_S1x32x128x1024_1_3_3_2_02_01]; rfl
    | ⟨3, _⟩ => simp [DotDims.rhsIdx, dot_S1x4096x32x128_S1x32x1024x4096_S1x32x128x1024_1_3_3_2_02_01]; exact ck

/-! ## The scores and the weights -/

/-- The factor of the scores is a nonnegative real. -/
theorem scale_real : ∃ r : ℝ, 0 ≤ r ∧ scale = (r : EReal) := by
  unfold scale
  simp only [Ideal.ofBits, Ideal.ieee]
  norm_num
  refine ⟨_, ?_, rfl⟩
  rw [if_neg (by decide)]
  positivity

/-- The pattern reads as minus infinity. -/
theorem bot_word : (FloatOps.ofBits (F := Ideal) .f32 0xFF800000#32 : EReal) = ⊥ := by
  show Ideal.ofBits .f32 0xFF800000#32 = ⊥
  simp [Ideal.ofBits, Ideal.ieee]

/-- A choice whose condition holds. -/
theorem select_one {s : Shape} {α : Type} {c : s.Idx → BitVec 1} {x y : s.Idx → α} {i : s.Idx} (h : c i = 1#1) :
    select c x y i = x i :=
  if_pos h

section Row
variable (X : FVec Ideal S1024x1024 .f32) (W : FVec Ideal S1024x4096 .f32) (K V : FVec Ideal S1x4096x32x128 .f32)
  (H : Fin 32) (n : Fin 1024)

/-- The keys that a row looks at. -/
def Looks (n : Fin 1024) (k : Fin 4096) : Prop := Near n.val k.val ∨ (k.val < 32 ∨ n.val < 32)

instance (n : Fin 1024) : DecidablePred (Looks n) := fun k =>
  inferInstanceAs (Decidable (Near n.val k.val ∨ (k.val < 32 ∨ n.val < 32)))

/-- A score, minus infinity where the mask clears it. -/
theorem rScores_apply (k : Fin 4096) :
    rScores X W K (ix4 0 H n k) = if Looks n k then kscore X W K n H k else (⊥ : EReal) := by
  have em : broadcastInDim S1x32x1024x4096 ![0, 1, 2, 3] bcast_S1x1x1024x4096_S1x32x1024x4096_0_1_2_3
      (broadcastInDim S1x1x1024x4096 ![2, 3] bcast_S1024x4096_S1x1x1024x4096_2_3 rMask) (ix4 0 H n k) = rMask (ix2 n k) :=
    (broadcastInDim_apply _ _ _ _ (ix4 0 0 n k) fun a => match a with
      | ⟨0, _⟩ => rfl
      | ⟨1, _⟩ => rfl
      | ⟨2, _⟩ => rfl
      | ⟨3, _⟩ => rfl).trans (broadcastInDim_apply _ _ _ _ (ix2 n k) fun a => match a with
      | ⟨0, _⟩ => rfl
      | ⟨1, _⟩ => rfl)
  have eq : ∀ j : Fin 128, shapeCast S1x1024x32x128 (Host.dotGeneral (F := Ideal) (φ₁ := .f32) (φ₂ := .f32) dot_S1024x1024_S1024x4096_S1024x4096_1_0_0_1_n_n none X W)
      shapeCasts_S1024x4096_S1x1024x32x128 (ix4 0 n H j) = qry X W n H j := fun j => by
    refine (shapeCast_apply _ _ _ (ix2 n (gcol H j)) ?_).trans (StackMember.dotGeneral_plain_apply none X W n (gcol H j))
    rw [Shape.rowMajor_val_four, Shape.rowMajor_val_two]
    show n.val * 4096 + (128 * H.val + j.val) = ((0 * 1024 + n.val) * 32 + H.val) * 128 + j.val
    omega
  have es : mulf (F := Ideal) (φ := .f32) (Host.dotGeneral dot_S1x1024x32x128_S1x4096x32x128_S1x32x1024x4096_3_3_1_1_02_02 none
      (shapeCast S1x1024x32x128 (Host.dotGeneral (F := Ideal) (φ₁ := .f32) (φ₂ := .f32) dot_S1024x1024_S1024x4096_S1024x4096_1_0_0_1_n_n none X W)
        shapeCasts_S1024x4096_S1x1024x32x128) K)
      (broadcastInDim S1x32x1024x4096 ![] bcast_S_S1x32x1024x4096 (constant S_ .f32 0x3DB504F3#32)) (ix4 0 H n k)
      = kscore X W K n H k := by
    refine Eq.trans (congrArg (fun t : EReal => t * scale) (dotScores _ K H n k)) ?_
    obtain ⟨r, hr, e⟩ := scale_real
    unfold kscore
    rw [e, sum_mul_coe _ _ hr]
    refine Finset.sum_congr rfl fun j _ => ?_
    rw [eq j, mul_right_comm]
  unfold rScores
  refine Eq.trans (congrArg₂ (fun b (s : EReal) => Scalar.select b s (⊥ : EReal)) (em.trans (rMask_apply n k)) es) ?_
  exact select_ofBool (Looks n k) _ _

/-- Sums over the last axis. -/
theorem rowSum (e : FVec Ideal S1x32x1024x4096 .f32) :
    Host.reduceAdd e (constant S_ .f32 0x00000000#32) reducesTo_S1x32x1024x4096_S1x32x1024_d3 h_S_ (ix3 0 H n)
      = (∑ k : Fin 4096, e (ix4 0 H n k) : EReal) := by
  have hr : Shape.Reduces S1x32x1024x4096 [3] S1x32x1024 := by decide
  refine (Ideal.hostReduceAdd_single reducesTo_S1x32x1024x4096_S1x32x1024_d3 hr e _ (ix3 0 H n)).trans ?_
  refine (congrArg₂ (fun s t : EReal => s + t) Ideal.ofBits_zero_f32 (Finset.sum_congr rfl fun k _ => congrArg e ?_)).trans (zero_add _)
  funext a
  apply Fin.ext
  match a with
  | ⟨0, _⟩ => rfl
  | ⟨1, _⟩ => rfl
  | ⟨2, _⟩ => rfl
  | ⟨3, _⟩ => rfl

/-- The largest along the last axis. -/
theorem rMax_apply (s : FVec Ideal S1x32x1024x4096 .f32) :
    rMax s (ix3 0 H n) = (Finset.univ : Finset (Fin 4096)).sup fun k => (s (ix4 0 H n k) : EReal) := by
  have hr : Shape.Reduces S1x32x1024x4096 [3] S1x32x1024 := by decide
  refine (Host.reduce_eq_fold_single (FloatOps.maximumf (F := Ideal) (φ := .f32)) s (constant S_ .f32 0xFF800000#32)
    reducesTo_S1x32x1024x4096_S1x32x1024_d3 hr h_S_ (ix3 0 H n)).trans ?_
  have e : (s ∘ hr.lift (ix3 0 H n)) = fun k : Fin 4096 => s (ix4 0 H n k) := funext fun k => congrArg s (by
    funext a
    apply Fin.ext
    match a with
    | ⟨0, _⟩ => rfl
    | ⟨1, _⟩ => rfl
    | ⟨2, _⟩ => rfl
    | ⟨3, _⟩ => rfl)
  rw [e]
  refine (congrArg (fun b : EReal => (Finset.univ : Finset (Fin 4096)).fold max b fun k => (s (ix4 0 H n k) : EReal)) bot_word).trans ?_
  exact fold_max _ _

/-- A number of each row, at a key of the row. -/
theorem along {α : Type} (f : S1x32x1024x1.Idx → α) (k : Fin 4096) :
    broadcastInDim S1x32x1024x4096 ![0, 1, 2, 3] bcast_S1x32x1024x1_S1x32x1024x4096_0_1_2_3 f (ix4 0 H n k) = f (ix4 0 H n 0) :=
  broadcastInDim_apply _ _ _ _ (ix4 0 H n 0) fun a => match a with
    | ⟨0, _⟩ => rfl
    | ⟨1, _⟩ => rfl
    | ⟨2, _⟩ => rfl
    | ⟨3, _⟩ => rfl

/-- A number of each row, as a column. -/
theorem column {α : Type} (f : S1x32x1024.Idx → α) :
    broadcastInDim S1x32x1024x1 ![0, 1, 2] bcast_S1x32x1024_S1x32x1024x1_0_1_2 f (ix4 0 H n 0) = f (ix3 0 H n) :=
  broadcastInDim_apply _ _ _ _ (ix3 0 H n) fun a => match a with
    | ⟨0, _⟩ => rfl
    | ⟨1, _⟩ => rfl
    | ⟨2, _⟩ => rfl

/-- The exponential of a score. -/
theorem rExp_apply (s : FVec Ideal S1x32x1024x4096 .f32) (k : Fin 4096) :
    rExp s (ix4 0 H n k)
      = Ideal.exp (s (ix4 0 H n k) - (Finset.univ : Finset (Fin 4096)).sup fun k => (s (ix4 0 H n k) : EReal)) :=
  congrArg (fun t : EReal => Ideal.exp (s (ix4 0 H n k) - t)) ((along H n _ k).trans ((column H n _).trans (rMax_apply H n s)))

/-- The sum of the exponentials of a row. -/
theorem rDen_apply (e : FVec Ideal S1x32x1024x4096 .f32) :
    rDen e (ix4 0 H n 0) = (∑ k : Fin 4096, e (ix4 0 H n k) : EReal) := by
  have ek : broadcastInDim S1x32x1024x1 ![0, 1, 2, 3] bcast_S1x1x1024x1_S1x32x1024x1_0_1_2_3 rKeep (ix4 0 H n 0) = 1#1 :=
    (broadcastInDim_apply _ _ _ _ (ix4 0 0 n 0) fun a => match a with
      | ⟨0, _⟩ => rfl
      | ⟨1, _⟩ => rfl
      | ⟨2, _⟩ => rfl
      | ⟨3, _⟩ => rfl).trans (rKeep_apply n)
  unfold rDen
  exact (select_one ek).trans ((column H n _).trans (rowSum H n e))

/-- A weight: an exponential divided by the sum of its row. -/
theorem rWeights_apply (e : FVec Ideal S1x32x1024x4096 .f32) (k : Fin 4096) :
    rWeights e (ix4 0 H n k) = Ideal.div (e (ix4 0 H n k)) (∑ k : Fin 4096, e (ix4 0 H n k)) := by
  have ek : broadcastInDim S1x32x1024x4096 ![0, 1, 2, 3] bcast_S1x1x1024x1_S1x32x1024x4096_0_1_2_3 rKeep (ix4 0 H n k) = 1#1 :=
    (broadcastInDim_apply _ _ _ _ (ix4 0 0 n 0) fun a => match a with
      | ⟨0, _⟩ => rfl
      | ⟨1, _⟩ => rfl
      | ⟨2, _⟩ => rfl
      | ⟨3, _⟩ => rfl).trans (rKeep_apply n)
  unfold rWeights
  refine (select_one ek).trans ((hostDivf_apply _ _ _).trans ?_)
  rw [along, rDen_apply]

/-- A head's context: the sum of its weighted values. -/
theorem rCtx_apply (w : FVec Ideal S1x32x1024x4096 .f32) (d : Fin 128) :
    rCtx V w (ix2 n (gcol H d)) = (∑ k : Fin 4096, V (ix4 0 k H d) * w (ix4 0 H n k) : EReal) := by
  unfold rCtx
  refine (shapeCast_apply _ _ _ (ix4 0 n H d) ?_).trans ?_
  · rw [Shape.rowMajor_val_four, Shape.rowMajor_val_two]
    show ((0 * 1024 + n.val) * 32 + H.val) * 128 + d.val = n.val * 4096 + (128 * H.val + d.val)
    omega
  · exact (transpose_apply _ _ _ (ix4 0 n H d) (ix4 0 H d n) fun b => match b with
      | ⟨0, _⟩ => rfl
      | ⟨1, _⟩ => rfl
      | ⟨2, _⟩ => rfl
      | ⟨3, _⟩ => rfl).trans (dotCtx V w H d n)

/-- The context at a row and a column of a head: the attention over the keys that the row looks at. -/
theorem ctx_apply (hs : ∀ k, IsReal (kscore X W K n H k)) (d : Fin 128) :
    rCtx V (rWeights (rExp (rScores X W K))) (ix2 n (gcol H d)) = att (AllKeys n.val) (kscore X W K n H) (vals V H d) := by
  have hS : (Finset.univ.filter (Looks n)).Nonempty :=
    ⟨⟨0, by omega⟩, Finset.mem_filter.mpr ⟨Finset.mem_univ _, .inr (.inl (by show 0 < 32; omega))⟩⟩
  have e : ∀ k, rExp (rScores X W K) (ix4 0 H n k) = Ideal.exp ((if Looks n k then kscore X W K n H k else ⊥)
      - (Finset.univ : Finset (Fin 4096)).sup fun k => if Looks n k then kscore X W K n H k else ⊥) := fun k => by
    rw [rExp_apply]
    simp only [rScores_apply]
  rw [rCtx_apply]
  refine Eq.trans (Finset.sum_congr rfl fun k _ => congrArg (fun t : EReal => V (ix4 0 k H d) * t) (rWeights_apply H n _ k)) ?_
  simp only [e]
  exact att_masked (kscore X W K n H) (vals V H d) (Looks n) hS hs rfl rfl

end Row

/-- A sum over the columns of all heads, head by head. -/
theorem sum_gcol (f : Fin 4096 → EReal) : ∑ i, f i = ∑ H : Fin 32, ∑ d : Fin 128, f (gcol H d) := by
  rw [← Fintype.sum_prod_type']
  refine (Equiv.sum_comp (finProdFinEquiv : Fin 32 × Fin 128 ≃ Fin (32 * 128)) f).symm.trans ?_
  refine Finset.sum_congr rfl fun p _ => congrArg f (Fin.ext ?_)
  show p.2.val + 128 * p.1.val = 128 * p.1.val + p.2.val
  exact Nat.add_comm _ _

/-- A sum over all heads, device by device. -/
theorem sum_ghead (f : Fin 32 → EReal) : ∑ H, f H = ∑ c : Fin 4, ∑ h : Fin 8, f (ghead c h) := by
  rw [← Fintype.sum_prod_type']
  refine (Equiv.sum_comp (finProdFinEquiv : Fin 4 × Fin 8 ≃ Fin (4 * 8)) f).symm.trans ?_
  refine Finset.sum_congr rfl fun p _ => congrArg f (Fin.ext ?_)
  show p.2.val + 8 * p.1.val = 8 * p.1.val + p.2.val
  exact Nat.add_comm _ _

/-- The reference's result at a row and a column. -/
theorem out_apply (X : FVec Ideal S1024x1024 .f32) (W : FVec Ideal S1024x4096 .f32) (K V : FVec Ideal S1x4096x32x128 .f32)
    (WO : FVec Ideal S4096x1024 .f32) (hs : ∀ n H k, IsReal (kscore X W K n H k)) (n o : Fin 1024) :
    Host.dotGeneral (F := Ideal) (φ₁ := .f32) (φ₂ := .f32) dot_S1024x4096_S4096x1024_S1024x1024_1_0_0_1_n_n none
        (rCtx V (rWeights (rExp (rScores X W K)))) WO (ix2 n o)
      = ∑ c : Fin 4, devPart X W K V WO n c o := by
  refine (StackMember.dotGeneral_plain_apply none _ WO n o).trans ?_
  rw [sum_gcol]
  refine Eq.trans (Finset.sum_congr rfl fun H _ => ?_) (sum_ghead fun H => headPart X W K V WO n H o)
  exact Finset.sum_congr rfl fun d _ => congrArg (fun t : EReal => t * WO (ix2 (gcol H d) o)) (ctx_apply X W K V H n (hs n H) d)

end Cert.Proof.R

end
-- ==== Proof.Algebraic.lean ====
module

public import proofs.«01_k».proof.Defs
public import proofs.«01_k».proof.Proof.RefValue
public import proofs.«01_k».proof.Proof.Frames

/-!
  The value claim: over the extended reals, with the input, the first matrix and the keys finite, the blocks that the
  four devices end with are the blocks of the reference's result.
-/

@[expose] public section

set_option synthInstance.maxSize 4096
set_option maxRecDepth 16384

noncomputable section

namespace Cert.Proof

open Idealize.ShloMosaic Idealize.ShloMosaic.TcCoe Idealize.ShloMosaic.ValueIdx Idealize.SL.Sem
open Cert.Proof.Softmax
open Cert.Proof.K (grow ghead gcol hcol qry kscore xIn wqIn woIn kSlab vSlab OUT)
open scoped BigOperators

/-- The shapes that the precondition states of one device's blocks. -/
theorem pre_facts_kernel : Cert.Pre_finite_scores_KernelIdeal.Facts where
  bcast_S_S256x1024 := by decide
  bcast_S_S1024x1024 := by decide
  bcast_S_S1x4096x32x128 := by decide

/-- The shapes that it states of the whole arrays. -/
theorem pre_facts_reference : Cert.Pre_finite_scores_ReferenceIdeal.Facts where
  bcast_S_S1024x1024 := by decide
  bcast_S_S1024x4096 := by decide
  bcast_S_S1x4096x32x128 := by decide

/-- An array whose absolute values are all less than +∞ holds real numbers. -/
theorem real_of_pre {s : Shape} (a : FVec Ideal s .f32) (hb : (⟨0, ![]⟩ : Shape).BroadcastsInDim s ![])
    (h : cmpf .olt (Host.absf a) (broadcastInDim s ![] hb (constant (F := Ideal) ⟨0, ![]⟩ .f32 0x7F800000#32)) = fun _ => 1#1)
    (i : s.Idx) : IsReal (a i) := by
  have e := congrFun h i
  have t : Ideal.ofBits .f32 0x7F800000#32 = ⊤ := by simp [Ideal.ofBits, Ideal.ieee]
  have e' : BitVec.ofBool (decide (max (a i : EReal) (-(a i)) < Ideal.ofBits .f32 0x7F800000#32)) = 1#1 := e
  rw [t] at e'
  refine isReal_of_abs_lt ?_
  by_contra hn
  rw [decide_eq_false hn] at e'
  exact absurd e' (by decide)

/-- What equals a real number is one. -/
theorem real_at {x y : EReal} (e : x = y) (h : IsReal x) : IsReal y := e ▸ h

/-- Every row is a row of one of the blocks. -/
theorem grow_surj (n : Fin 1024) : ∃ b r, n = grow b r :=
  ⟨⟨n.val / 256, by have := n.isLt; omega⟩, ⟨n.val % 256, by omega⟩, Fin.ext (by
    show n.val = 256 * (n.val / 256) + n.val % 256
    omega)⟩

/-- Every head is a head of one of the devices. -/
theorem ghead_surj (H : Fin 32) : ∃ c h, H = ghead c h :=
  ⟨⟨H.val / 8, by have := H.isLt; omega⟩, ⟨H.val % 8, by omega⟩, Fin.ext (by
    show H.val = 8 * (H.val / 8) + H.val % 8
    omega)⟩

/-! ## The blocks of the whole arrays -/

section Blocks
variable {α : Type}

/-- A device's rows of the input. -/
theorem rows_apply (X : (⟨2, ![1024, 1024]⟩ : Shape).Idx → α) (c : Fin 4) (r : Fin 256) (i : Fin 1024) :
    Layout.block ⟨2, ![256, 1024]⟩ ⟨2, ![1024, 1024]⟩ 0 4 c X (by decide) (ix2 r i) = X (ix2 (grow c r) i) := by
  refine congrArg X (funext fun a => Fin.ext ?_)
  match a with
  | ⟨0, _⟩ =>
    show c.val * 256 + r.val = 256 * c.val + r.val
    omega
  | ⟨1, _⟩ => rfl

/-- A device's columns of the query weights. -/
theorem cols_apply (W : (⟨2, ![1024, 4096]⟩ : Shape).Idx → α) (c : Fin 4) (i : Fin 1024) (h : Fin 8) (j : Fin 128) :
    Layout.block ⟨2, ![1024, 1024]⟩ ⟨2, ![1024, 4096]⟩ 1 4 c W (by decide) (ix2 i (hcol h j)) = W (ix2 i (gcol (ghead c h) j)) := by
  refine congrArg W (funext fun a => Fin.ext ?_)
  match a with
  | ⟨0, _⟩ => rfl
  | ⟨1, _⟩ =>
    show c.val * 1024 + (128 * h.val + j.val) = 128 * (8 * c.val + h.val) + j.val
    omega

/-- A device's rows of the output weights. -/
theorem wo_apply (WO : (⟨2, ![4096, 1024]⟩ : Shape).Idx → α) (c : Fin 4) (h : Fin 8) (d : Fin 128) (o : Fin 1024) :
    Layout.block ⟨2, ![1024, 1024]⟩ ⟨2, ![4096, 1024]⟩ 0 4 c WO (by decide) (ix2 (hcol h d) o) = WO (ix2 (gcol (ghead c h) d) o) := by
  refine congrArg WO (funext fun a => Fin.ext ?_)
  match a with
  | ⟨0, _⟩ =>
    show c.val * 1024 + (128 * h.val + d.val) = 128 * (8 * c.val + h.val) + d.val
    omega
  | ⟨1, _⟩ => rfl

end Blocks

/-- Finite inputs have finite scores. -/
theorem kscore_real (X : FVec Ideal ⟨2, ![1024, 1024]⟩ .f32) (W : FVec Ideal ⟨2, ![1024, 4096]⟩ .f32)
    (K : FVec Ideal ⟨4, ![1, 4096, 32, 128]⟩ .f32) (hX : ∀ b r i, IsReal (X (ix2 (grow b r) i)))
    (hW : ∀ c i h j, IsReal (W (ix2 i (gcol (ghead c h) j)))) (hK : ∀ i, IsReal (K i)) (n : Fin 1024) (H : Fin 32) (k : Fin 4096) :
    IsReal (kscore X W K n H k) := by
  obtain ⟨b, r, rfl⟩ := grow_surj n
  obtain ⟨c, h, rfl⟩ := ghead_surj H
  obtain ⟨s, _, hs⟩ := R.scale_real
  exact .sum _ _ fun j _ => .mul (.mul (.sum _ _ fun i _ => .mul (hX b r i) (hW c i h j)) ⟨s, hs⟩) (hK _)

/-- The value claim. -/
theorem value : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := pre_facts_kernel) := by
  intro m g m' g' hpre hin
  refine ⟨Cert.ReferenceIdeal.Value.res_main_v42 m' 0, ?_, ?_⟩
  · refine (θ_run _ _ _).mono (fun r h c => ⟨((h.1 c).1).trans ?_, (h.1 c).2⟩) (K.run_all (F := Ideal) m g)
    have hx : ∀ c r i, xIn m c (ix2 r i) = _ := fun c r i =>
      (congrFun ((K.xIn_eq m c).trans (hin c).1) (ix2 r i)).trans (rows_apply _ c r i)
    have hw : ∀ c i h j, wqIn m c (ix2 i (hcol h j)) = _ := fun c i h j =>
      (congrFun ((K.wqIn_eq m c).trans (hin c).2.1) (ix2 i (hcol h j))).trans (cols_apply _ c i h j)
    have ho : ∀ c h d o, woIn m c (ix2 (hcol h d) o) = _ := fun c h d o =>
      (congrFun ((K.woIn_eq m c).trans (hin c).2.2.2.2) (ix2 (hcol h d) o)).trans (wo_apply _ c h d o)
    have hk : ∀ c h k j, kSlab m c h (ix2 k j) = _ := fun c h k j =>
      (K.kSlab_apply m c h k j).trans (congrFun (hin c).2.2.1 (ix4 0 k (ghead c h) j))
    have hv : ∀ c h k j, vSlab m c h (ix2 k j) = _ := fun c h k j =>
      (K.vSlab_apply m c h k j).trans (congrFun (hin c).2.2.2.1 (ix4 0 k (ghead c h) j))
    have rx : ∀ c i, IsReal (xIn m c i) := fun c i =>
      real_at (congrFun (K.xIn_eq m c) i).symm (real_of_pre _ _ (hpre c).1 i)
    have rw' : ∀ c i, IsReal (wqIn m c i) := fun c i =>
      real_at (congrFun (K.wqIn_eq m c) i).symm (real_of_pre _ _ (hpre c).2.1 i)
    have hs := kscore_real (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (fun b r i => real_at (hx b r i) (rx b _)) (fun c i h j => real_at (hw c i h j) (rw' c _))
      (fun i => real_at (congrFun (hin 0).2.2.1 i) (real_of_pre _ _ (hpre 0).2.2 i))
    funext i
    rw [eq_ix2 i]
    refine (K.OUT_apply hx hw hk hv ho hs c (i 0) (i 1)).trans ?_
    refine Eq.trans ?_ (rows_apply _ c (i 0) (i 1)).symm
    rw [R.res_eq]
    exact (R.out_apply _ _ _ _ _ hs (grow c (i 0)) (i 1)).symm
  · exact (θ_run _ _ _).mono (fun r h => h 0) (Cert.ReferenceIdeal.Value.run (F := Ideal) m' g')

end Cert.Proof

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

/-- Everything claimed: the runs, the named constant, and the value of the result. -/
theorem claim : Cert.Claim :=
  ⟨Cert.Kernel.Gen.facts, Cert.KernelIdeal.Gen.facts, Cert.ReferenceIdeal.Gen.facts, pre_facts_kernel, pre_facts_reference,
    frame_kernel, frame_ideal, fun m g _ => frame_ideal m g trivial, frame_reference, fun m g _ => frame_reference m g trivial,
    named_preserved, value⟩

end Cert.Proof

end
